-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6)
      ∧ r.2.mem ((c.tc : Thread Cert.Ffn.nD Cert.Ffn.τ).loc Cert.Ffn.main_arg7) = m ((c.tc : Thread Cert.Ffn.nD Cert.Ffn.τ).loc Cert.Ffn.main_arg7)
      ∧ r.2.mem ((c.tc : Thread Cert.Ffn.nD Cert.Ffn.τ).loc Cert.Ffn.main_arg8) = m ((c.tc : Thread Cert.Ffn.nD Cert.Ffn.τ).loc Cert.Ffn.main_arg8)
      ∧ r.2.mem ((c.tc : Thread Cert.Ffn.nD Cert.Ffn.τ).loc Cert.Ffn.main_arg9) = m ((c.tc : Thread Cert.Ffn.nD Cert.Ffn.τ).loc Cert.Ffn.main_arg9)
      ∧ r.2.mem ((c.tc : Thread Cert.Ffn.nD Cert.Ffn.τ).loc Cert.Ffn.main_arg10) = m ((c.tc : Thread Cert.Ffn.nD Cert.Ffn.τ).loc Cert.Ffn.main_arg10)
      ∧ r.2.mem ((c.tc : Thread Cert.Ffn.nD Cert.Ffn.τ).loc Cert.Ffn.main_arg11) = m ((c.tc : Thread Cert.Ffn.nD Cert.Ffn.τ).loc Cert.Ffn.main_arg11)
      ∧ r.2.mem ((c.tc : Thread Cert.Ffn.nD Cert.Ffn.τ).loc Cert.Ffn.main_arg12) = m ((c.tc : Thread Cert.Ffn.nD Cert.Ffn.τ).loc Cert.Ffn.main_arg12)
      ∧ r.2.mem ((c.tc : Thread Cert.Ffn.nD Cert.Ffn.τ).loc Cert.Ffn.main_arg13) = m ((c.tc : Thread Cert.Ffn.nD Cert.Ffn.τ).loc Cert.Ffn.main_arg13))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
      ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7)
      ∧ r.2.mem ((c.tc : Thread Cert.FfnIdeal.nD Cert.FfnIdeal.τ).loc Cert.FfnIdeal.main_arg8) = m ((c.tc : Thread Cert.FfnIdeal.nD Cert.FfnIdeal.τ).loc Cert.FfnIdeal.main_arg8)
      ∧ r.2.mem ((c.tc : Thread Cert.FfnIdeal.nD Cert.FfnIdeal.τ).loc Cert.FfnIdeal.main_arg9) = m ((c.tc : Thread Cert.FfnIdeal.nD Cert.FfnIdeal.τ).loc Cert.FfnIdeal.main_arg9)
      ∧ r.2.mem ((c.tc : Thread Cert.FfnIdeal.nD Cert.FfnIdeal.τ).loc Cert.FfnIdeal.main_arg10) = m ((c.tc : Thread Cert.FfnIdeal.nD Cert.FfnIdeal.τ).loc Cert.FfnIdeal.main_arg10)
      ∧ r.2.mem ((c.tc : Thread Cert.FfnIdeal.nD Cert.FfnIdeal.τ).loc Cert.FfnIdeal.main_arg11) = m ((c.tc : Thread Cert.FfnIdeal.nD Cert.FfnIdeal.τ).loc Cert.FfnIdeal.main_arg11)
      ∧ r.2.mem ((c.tc : Thread Cert.FfnIdeal.nD Cert.FfnIdeal.τ).loc Cert.FfnIdeal.main_arg12) = m ((c.tc : Thread Cert.FfnIdeal.nD Cert.FfnIdeal.τ).loc Cert.FfnIdeal.main_arg12)
      ∧ r.2.mem ((c.tc : Thread Cert.FfnIdeal.nD Cert.FfnIdeal.τ).loc Cert.FfnIdeal.main_arg13) = m ((c.tc : Thread Cert.FfnIdeal.nD Cert.FfnIdeal.τ).loc Cert.FfnIdeal.main_arg13))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6)
      ∧ r.2.mem ((c.tc : Thread Cert.FfnRefIdeal.nD Cert.FfnRefIdeal.τ).loc Cert.FfnRefIdeal.main_arg7) = m ((c.tc : Thread Cert.FfnRefIdeal.nD Cert.FfnRefIdeal.τ).loc Cert.FfnRefIdeal.main_arg7)
      ∧ r.2.mem ((c.tc : Thread Cert.FfnRefIdeal.nD Cert.FfnRefIdeal.τ).loc Cert.FfnRefIdeal.main_arg8) = m ((c.tc : Thread Cert.FfnRefIdeal.nD Cert.FfnRefIdeal.τ).loc Cert.FfnRefIdeal.main_arg8)
      ∧ r.2.mem ((c.tc : Thread Cert.FfnRefIdeal.nD Cert.FfnRefIdeal.τ).loc Cert.FfnRefIdeal.main_arg9) = m ((c.tc : Thread Cert.FfnRefIdeal.nD Cert.FfnRefIdeal.τ).loc Cert.FfnRefIdeal.main_arg9)
      ∧ r.2.mem ((c.tc : Thread Cert.FfnRefIdeal.nD Cert.FfnRefIdeal.τ).loc Cert.FfnRefIdeal.main_arg10) = m ((c.tc : Thread Cert.FfnRefIdeal.nD Cert.FfnRefIdeal.τ).loc Cert.FfnRefIdeal.main_arg10)
      ∧ r.2.mem ((c.tc : Thread Cert.FfnRefIdeal.nD Cert.FfnRefIdeal.τ).loc Cert.FfnRefIdeal.main_arg11) = m ((c.tc : Thread Cert.FfnRefIdeal.nD Cert.FfnRefIdeal.τ).loc Cert.FfnRefIdeal.main_arg11)
      ∧ r.2.mem ((c.tc : Thread Cert.FfnRefIdeal.nD Cert.FfnRefIdeal.τ).loc Cert.FfnRefIdeal.main_arg12) = m ((c.tc : Thread Cert.FfnRefIdeal.nD Cert.FfnRefIdeal.τ).loc Cert.FfnRefIdeal.main_arg12)
      ∧ r.2.mem ((c.tc : Thread Cert.FfnRefIdeal.nD Cert.FfnRefIdeal.τ).loc Cert.FfnRefIdeal.main_arg13) = m ((c.tc : Thread Cert.FfnRefIdeal.nD Cert.FfnRefIdeal.τ).loc Cert.FfnRefIdeal.main_arg13))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2)
      ∧ r.2.mem ((c.tc : Thread Cert.ProjRefIdeal.nD Cert.ProjRefIdeal.τ).loc Cert.ProjRefIdeal.main_arg3) = m ((c.tc : Thread Cert.ProjRefIdeal.nD Cert.ProjRefIdeal.τ).loc Cert.ProjRefIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v7_0)) (v1 : (c : Dev Cert.KernelIdeal.nD) → Buf (Elt Ideal) ((c.tc : Thread Cert.KernelIdeal.nD Cert.KernelIdeal.τ).loc Cert.KernelIdeal.main_v7_1)) (v2 : (c : Dev Cert.KernelIdeal.nD) → Buf (Elt Ideal) ((c.tc : Thread Cert.KernelIdeal.nD Cert.KernelIdeal.τ).loc Cert.KernelIdeal.main_v7_2)) (v3 : (c : Dev Cert.KernelIdeal.nD) → Buf (Elt Ideal) ((c.tc : Thread Cert.KernelIdeal.nD Cert.KernelIdeal.τ).loc Cert.KernelIdeal.main_v7_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7_0) = v0 c
          ∧ r.2.mem ((c.tc : Thread Cert.KernelIdeal.nD Cert.KernelIdeal.τ).loc Cert.KernelIdeal.main_v7_1) = v1 c
          ∧ r.2.mem ((c.tc : Thread Cert.KernelIdeal.nD Cert.KernelIdeal.τ).loc Cert.KernelIdeal.main_v7_2) = v2 c
          ∧ r.2.mem ((c.tc : Thread Cert.KernelIdeal.nD Cert.KernelIdeal.τ).loc Cert.KernelIdeal.main_v7_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v85) = v0 c
          ∧ r.2.mem ((c.tc : Thread Cert.ReferenceIdeal.nD Cert.ReferenceIdeal.τ).loc Cert.ReferenceIdeal.main_v87) = v1 c
          ∧ r.2.mem ((c.tc : Thread Cert.ReferenceIdeal.nD Cert.ReferenceIdeal.τ).loc Cert.ReferenceIdeal.main_v88) = v2 c
          ∧ r.2.mem ((c.tc : Thread Cert.ReferenceIdeal.nD Cert.ReferenceIdeal.τ).loc Cert.ReferenceIdeal.main_v89) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)
      ∧ m' ((c.tc : Thread Cert.FfnRefIdeal.nD Cert.FfnRefIdeal.τ).loc Cert.FfnRefIdeal.main_arg6) = m ((c.tc : Thread Cert.FfnIdeal.nD Cert.FfnIdeal.τ).loc Cert.FfnIdeal.main_arg6)
      ∧ m' ((c.tc : Thread Cert.FfnRefIdeal.nD Cert.FfnRefIdeal.τ).loc Cert.FfnRefIdeal.main_arg7) = m ((c.tc : Thread Cert.FfnIdeal.nD Cert.FfnIdeal.τ).loc Cert.FfnIdeal.main_arg7)
      ∧ m' ((c.tc : Thread Cert.FfnRefIdeal.nD Cert.FfnRefIdeal.τ).loc Cert.FfnRefIdeal.main_arg8) = m ((c.tc : Thread Cert.FfnIdeal.nD Cert.FfnIdeal.τ).loc Cert.FfnIdeal.main_arg8)
      ∧ m' ((c.tc : Thread Cert.FfnRefIdeal.nD Cert.FfnRefIdeal.τ).loc Cert.FfnRefIdeal.main_arg9) = m ((c.tc : Thread Cert.FfnIdeal.nD Cert.FfnIdeal.τ).loc Cert.FfnIdeal.main_arg9)
      ∧ m' ((c.tc : Thread Cert.FfnRefIdeal.nD Cert.FfnRefIdeal.τ).loc Cert.FfnRefIdeal.main_arg10) = m ((c.tc : Thread Cert.FfnIdeal.nD Cert.FfnIdeal.τ).loc Cert.FfnIdeal.main_arg10)
      ∧ m' ((c.tc : Thread Cert.FfnRefIdeal.nD Cert.FfnRefIdeal.τ).loc Cert.FfnRefIdeal.main_arg11) = m ((c.tc : Thread Cert.FfnIdeal.nD Cert.FfnIdeal.τ).loc Cert.FfnIdeal.main_arg11)
      ∧ m' ((c.tc : Thread Cert.FfnRefIdeal.nD Cert.FfnRefIdeal.τ).loc Cert.FfnRefIdeal.main_arg12) = m ((c.tc : Thread Cert.FfnIdeal.nD Cert.FfnIdeal.τ).loc Cert.FfnIdeal.main_arg12)
      ∧ m' ((c.tc : Thread Cert.FfnRefIdeal.nD Cert.FfnRefIdeal.τ).loc Cert.FfnRefIdeal.main_arg13) = m ((c.tc : Thread Cert.FfnIdeal.nD Cert.FfnIdeal.τ).loc Cert.FfnIdeal.main_arg13)) →
    ∃ (v0 : (c : Dev Cert.FfnIdeal.nD) → Buf (Elt Ideal) ((c.tc : Thread Cert.FfnIdeal.nD Cert.FfnIdeal.τ).loc Cert.FfnIdeal.main_v8)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v8) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
          ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7)
          ∧ r.2.mem ((c.tc : Thread Cert.FfnIdeal.nD Cert.FfnIdeal.τ).loc Cert.FfnIdeal.main_arg8) = m ((c.tc : Thread Cert.FfnIdeal.nD Cert.FfnIdeal.τ).loc Cert.FfnIdeal.main_arg8)
          ∧ r.2.mem ((c.tc : Thread Cert.FfnIdeal.nD Cert.FfnIdeal.τ).loc Cert.FfnIdeal.main_arg9) = m ((c.tc : Thread Cert.FfnIdeal.nD Cert.FfnIdeal.τ).loc Cert.FfnIdeal.main_arg9)
          ∧ r.2.mem ((c.tc : Thread Cert.FfnIdeal.nD Cert.FfnIdeal.τ).loc Cert.FfnIdeal.main_arg10) = m ((c.tc : Thread Cert.FfnIdeal.nD Cert.FfnIdeal.τ).loc Cert.FfnIdeal.main_arg10)
          ∧ r.2.mem ((c.tc : Thread Cert.FfnIdeal.nD Cert.FfnIdeal.τ).loc Cert.FfnIdeal.main_arg11) = m ((c.tc : Thread Cert.FfnIdeal.nD Cert.FfnIdeal.τ).loc Cert.FfnIdeal.main_arg11)
          ∧ r.2.mem ((c.tc : Thread Cert.FfnIdeal.nD Cert.FfnIdeal.τ).loc Cert.FfnIdeal.main_arg12) = m ((c.tc : Thread Cert.FfnIdeal.nD Cert.FfnIdeal.τ).loc Cert.FfnIdeal.main_arg12)
          ∧ r.2.mem ((c.tc : Thread Cert.FfnIdeal.nD Cert.FfnIdeal.τ).loc Cert.FfnIdeal.main_arg13) = m ((c.tc : Thread Cert.FfnIdeal.nD Cert.FfnIdeal.τ).loc Cert.FfnIdeal.main_arg13))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v94) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5)
          ∧ r.2.mem ((c.tc : Thread Cert.FfnRefIdeal.nD Cert.FfnRefIdeal.τ).loc Cert.FfnRefIdeal.main_arg6) = m' ((c.tc : Thread Cert.FfnRefIdeal.nD Cert.FfnRefIdeal.τ).loc Cert.FfnRefIdeal.main_arg6)
          ∧ r.2.mem ((c.tc : Thread Cert.FfnRefIdeal.nD Cert.FfnRefIdeal.τ).loc Cert.FfnRefIdeal.main_arg7) = m' ((c.tc : Thread Cert.FfnRefIdeal.nD Cert.FfnRefIdeal.τ).loc Cert.FfnRefIdeal.main_arg7)
          ∧ r.2.mem ((c.tc : Thread Cert.FfnRefIdeal.nD Cert.FfnRefIdeal.τ).loc Cert.FfnRefIdeal.main_arg8) = m' ((c.tc : Thread Cert.FfnRefIdeal.nD Cert.FfnRefIdeal.τ).loc Cert.FfnRefIdeal.main_arg8)
          ∧ r.2.mem ((c.tc : Thread Cert.FfnRefIdeal.nD Cert.FfnRefIdeal.τ).loc Cert.FfnRefIdeal.main_arg9) = m' ((c.tc : Thread Cert.FfnRefIdeal.nD Cert.FfnRefIdeal.τ).loc Cert.FfnRefIdeal.main_arg9)
          ∧ r.2.mem ((c.tc : Thread Cert.FfnRefIdeal.nD Cert.FfnRefIdeal.τ).loc Cert.FfnRefIdeal.main_arg10) = m' ((c.tc : Thread Cert.FfnRefIdeal.nD Cert.FfnRefIdeal.τ).loc Cert.FfnRefIdeal.main_arg10)
          ∧ r.2.mem ((c.tc : Thread Cert.FfnRefIdeal.nD Cert.FfnRefIdeal.τ).loc Cert.FfnRefIdeal.main_arg11) = m' ((c.tc : Thread Cert.FfnRefIdeal.nD Cert.FfnRefIdeal.τ).loc Cert.FfnRefIdeal.main_arg11)
          ∧ r.2.mem ((c.tc : Thread Cert.FfnRefIdeal.nD Cert.FfnRefIdeal.τ).loc Cert.FfnRefIdeal.main_arg12) = m' ((c.tc : Thread Cert.FfnRefIdeal.nD Cert.FfnRefIdeal.τ).loc Cert.FfnRefIdeal.main_arg12)
          ∧ r.2.mem ((c.tc : Thread Cert.FfnRefIdeal.nD Cert.FfnRefIdeal.τ).loc Cert.FfnRefIdeal.main_arg13) = m' ((c.tc : Thread Cert.FfnRefIdeal.nD Cert.FfnRefIdeal.τ).loc Cert.FfnRefIdeal.main_arg13))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)
      ∧ m' ((c.tc : Thread Cert.ProjRefIdeal.nD Cert.ProjRefIdeal.τ).loc Cert.ProjRefIdeal.main_arg3) = m ((c.tc : Thread Cert.ProjIdeal.nD Cert.ProjIdeal.τ).loc Cert.ProjIdeal.main_arg3)) →
    ∃ (v0 : (c : Dev Cert.ProjIdeal.nD) → Buf (Elt Ideal) ((c.tc : Thread Cert.ProjIdeal.nD Cert.ProjIdeal.τ).loc Cert.ProjIdeal.main_v1_0)) (v1 : (c : Dev Cert.ProjIdeal.nD) → Buf (Elt Ideal) ((c.tc : Thread Cert.ProjIdeal.nD Cert.ProjIdeal.τ).loc Cert.ProjIdeal.main_v1_1)) (v2 : (c : Dev Cert.ProjIdeal.nD) → Buf (Elt Ideal) ((c.tc : Thread Cert.ProjIdeal.nD Cert.ProjIdeal.τ).loc Cert.ProjIdeal.main_v1_2)) (v3 : (c : Dev Cert.ProjIdeal.nD) → Buf (Elt Ideal) ((c.tc : Thread Cert.ProjIdeal.nD Cert.ProjIdeal.τ).loc Cert.ProjIdeal.main_v1_3)) (v4 : (c : Dev Cert.ProjIdeal.nD) → Buf (Elt Ideal) ((c.tc : Thread Cert.ProjIdeal.nD Cert.ProjIdeal.τ).loc Cert.ProjIdeal.main_v1_4)) (v5 : (c : Dev Cert.ProjIdeal.nD) → Buf (Elt Ideal) ((c.tc : Thread Cert.ProjIdeal.nD Cert.ProjIdeal.τ).loc Cert.ProjIdeal.main_v1_5)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v1_0) = v0 c
          ∧ r.2.mem ((c.tc : Thread Cert.ProjIdeal.nD Cert.ProjIdeal.τ).loc Cert.ProjIdeal.main_v1_1) = v1 c
          ∧ r.2.mem ((c.tc : Thread Cert.ProjIdeal.nD Cert.ProjIdeal.τ).loc Cert.ProjIdeal.main_v1_2) = v2 c
          ∧ r.2.mem ((c.tc : Thread Cert.ProjIdeal.nD Cert.ProjIdeal.τ).loc Cert.ProjIdeal.main_v1_3) = v3 c
          ∧ r.2.mem ((c.tc : Thread Cert.ProjIdeal.nD Cert.ProjIdeal.τ).loc Cert.ProjIdeal.main_v1_4) = v4 c
          ∧ r.2.mem ((c.tc : Thread Cert.ProjIdeal.nD Cert.ProjIdeal.τ).loc Cert.ProjIdeal.main_v1_5) = v5 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v40) = v0 c
          ∧ r.2.mem ((c.tc : Thread Cert.ProjRefIdeal.nD Cert.ProjRefIdeal.τ).loc Cert.ProjRefIdeal.main_v41) = v1 c
          ∧ r.2.mem ((c.tc : Thread Cert.ProjRefIdeal.nD Cert.ProjRefIdeal.τ).loc Cert.ProjRefIdeal.main_v42) = v2 c
          ∧ r.2.mem ((c.tc : Thread Cert.ProjRefIdeal.nD Cert.ProjRefIdeal.τ).loc Cert.ProjRefIdeal.main_v43) = v3 c
          ∧ r.2.mem ((c.tc : Thread Cert.ProjRefIdeal.nD Cert.ProjRefIdeal.τ).loc Cert.ProjRefIdeal.main_v31) = v4 c
          ∧ r.2.mem ((c.tc : Thread Cert.ProjRefIdeal.nD Cert.ProjRefIdeal.τ).loc Cert.ProjRefIdeal.main_v44) = v5 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2)
          ∧ r.2.mem ((c.tc : Thread Cert.ProjRefIdeal.nD Cert.ProjRefIdeal.τ).loc Cert.ProjRefIdeal.main_arg3) = m' ((c.tc : Thread Cert.ProjRefIdeal.nD Cert.ProjRefIdeal.τ).loc Cert.ProjRefIdeal.main_arg3))

def Claim : Prop :=
  ∃ (hKernel : Cert.Kernel.Facts) (hKernelIdeal : Cert.KernelIdeal.Facts) (hReferenceIdeal : Cert.ReferenceIdeal.Facts) (hFfn : Cert.Ffn.Facts) (hFfnIdeal : Cert.FfnIdeal.Facts) (hFfnRefIdeal : Cert.FfnRefIdeal.Facts) (hProj : Cert.Proj.Facts) (hProjIdeal : Cert.ProjIdeal.Facts) (hProjRefIdeal : Cert.ProjRefIdeal.Facts),
    quiescent_Kernel (hKernel := hKernel)
    ∧ quiescent_KernelIdeal (hKernelIdeal := hKernelIdeal)
    ∧ quiescent_ReferenceIdeal (hReferenceIdeal := hReferenceIdeal)
    ∧ quiescent_Ffn (hFfn := hFfn)
    ∧ quiescent_FfnIdeal (hFfnIdeal := hFfnIdeal)
    ∧ quiescent_FfnRefIdeal (hFfnRefIdeal := hFfnRefIdeal)
    ∧ quiescent_Proj (hProj := hProj)
    ∧ quiescent_ProjIdeal (hProjIdeal := hProjIdeal)
    ∧ quiescent_ProjRefIdeal (hProjRefIdeal := hProjRefIdeal)
    ∧ preserves_Kernel_KernelIdeal
    ∧ algebraic_KernelIdeal_ReferenceIdeal (hKernelIdeal := hKernelIdeal) (hReferenceIdeal := hReferenceIdeal)
    ∧ preserves_Ffn_FfnIdeal
    ∧ algebraic_FfnIdeal_FfnRefIdeal (hFfnIdeal := hFfnIdeal) (hFfnRefIdeal := hFfnRefIdeal)
    ∧ preserves_Proj_ProjIdeal
    ∧ algebraic_ProjIdeal_ProjRefIdeal (hProjIdeal := hProjIdeal) (hProjRefIdeal := hProjRefIdeal)
-- ==== Kernel.lean ====
abbrev S4x8192x256 : Shape := ⟨3, ![4, 8192, 256]⟩
abbrev S4x8192x512 : Shape := ⟨3, ![4, 8192, 512]⟩
abbrev S4x8192x32 : Shape := ⟨3, ![4, 8192, 32]⟩
abbrev S16x256 : Shape := ⟨2, ![16, 256]⟩
abbrev S256 : Shape := ⟨1, ![256]⟩
abbrev S4x4x64x128 : Shape := ⟨4, ![4, 4, 64, 128]⟩
abbrev S_ : Shape := ⟨0, ![]⟩
abbrev S32x256 : Shape := ⟨2, ![32, 256]⟩
abbrev S1x256 : Shape := ⟨2, ![1, 256]⟩
abbrev S1x2048x256 : Shape := ⟨3, ![1, 2048, 256]⟩
abbrev S1x2048x512 : Shape := ⟨3, ![1, 2048, 512]⟩
abbrev S1x2048x32 : Shape := ⟨3, ![1, 2048, 32]⟩
abbrev S1x4x64x128 : Shape := ⟨4, ![1, 4, 64, 128]⟩
abbrev S4x64x128 : Shape := ⟨3, ![4, 64, 128]⟩
abbrev S64x64 : Shape := ⟨2, ![64, 64]⟩
abbrev S64x128 : Shape := ⟨2, ![64, 128]⟩
abbrev S2048x32 : Shape := ⟨2, ![2048, 32]⟩
abbrev S2048x256 : Shape := ⟨2, ![2048, 256]⟩
abbrev S64x256 : Shape := ⟨2, ![64, 256]⟩
abbrev S128x256 : Shape := ⟨2, ![128, 256]⟩
abbrev S256x128 : Shape := ⟨2, ![256, 128]⟩
abbrev S2048x512 : Shape := ⟨2, ![2048, 512]⟩
abbrev S128x128 : Shape := ⟨2, ![128, 128]⟩
abbrev S1x64x128 : Shape := ⟨3, ![1, 64, 128]⟩
abbrev S256x256 : Shape := ⟨2, ![256, 256]⟩
abbrev S1x64x256 : Shape := ⟨3, ![1, 64, 256]⟩

abbrev nBuf : Space → Nat
  | .hbm => 22
  | .vmem => 34
  | .smem => 0
  | _ => 0

abbrev bufTy : (tb : Table) → Fin (tcTables nBuf tb) → BufTy
  | .hbm, ⟨0, _⟩ => ⟨S4x8192x256, .bf16⟩
  | .hbm, ⟨1, _⟩ => ⟨S4x8192x256, .bf16⟩
  | .hbm, ⟨2, _⟩ => ⟨S4x8192x512, .bf16⟩
  | .hbm, ⟨3, _⟩ => ⟨S4x8192x32, .bf16⟩
  | .hbm, ⟨4, _⟩ => ⟨S16x256, .f32⟩
  | .hbm, ⟨5, _⟩ => ⟨S256, .f32⟩
  | .hbm, ⟨6, _⟩ => ⟨S16x256, .f32⟩
  | .hbm, ⟨7, _⟩ => ⟨S256, .f32⟩
  | .hbm, ⟨8, _⟩ => ⟨S4x4x64x128, .f32⟩
  | .hbm, ⟨9, _⟩ => ⟨S4x4x64x128, .f32⟩
  | .hbm, ⟨10, _⟩ => ⟨S_, .f32⟩
  | .hbm, ⟨11, _⟩ => ⟨S16x256, .f32⟩
  | .hbm, ⟨12, _⟩ => ⟨S32x256, .f32⟩
  | .hbm, ⟨13, _⟩ => ⟨S32x256, .bf16⟩
  | .hbm, ⟨14, _⟩ => ⟨S32x256, .f32⟩
  | .hbm, ⟨15, _⟩ => ⟨S32x256, .bf16⟩
  | .hbm, ⟨16, _⟩ => ⟨S1x256, .f32⟩
  | .hbm, ⟨17, _⟩ => ⟨S1x256, .f32⟩
  | .hbm, ⟨18, _⟩ => ⟨S4x8192x512, .f32⟩
  | .hbm, ⟨19, _⟩ => ⟨S4x8192x512, .f32⟩
  | .hbm, ⟨20, _⟩ => ⟨S4x4x64x128, .f32⟩
  | .hbm, ⟨21, _⟩ => ⟨S4x4x64x128, .f32⟩
  | .local _ .vmem, ⟨0, _⟩ => ⟨S1x2048x256, .bf16⟩
  | .local _ .vmem, ⟨1, _⟩ => ⟨S1x2048x256, .bf16⟩
  | .local _ .vmem, ⟨2, _⟩ => ⟨S1x2048x256, .bf16⟩
  | .local _ .vmem, ⟨3, _⟩ => ⟨S1x2048x256, .bf16⟩
  | .local _ .vmem, ⟨4, _⟩ => ⟨S1x2048x512, .bf16⟩
  | .local _ .vmem, ⟨5, _⟩ => ⟨S1x2048x512, .bf16⟩
  | .local _ .vmem, ⟨6, _⟩ => ⟨S1x2048x32, .bf16⟩
  | .local _ .vmem, ⟨7, _⟩ => ⟨S1x2048x32, .bf16⟩
  | .local _ .vmem, ⟨8, _⟩ => ⟨S1x2048x256, .bf16⟩
  | .local _ .vmem, ⟨9, _⟩ => ⟨S1x2048x256, .bf16⟩
  | .local _ .vmem, ⟨10, _⟩ => ⟨S1x2048x256, .bf16⟩
  | .local _ .vmem, ⟨11, _⟩ => ⟨S1x2048x256, .bf16⟩
  | .local _ .vmem, ⟨12, _⟩ => ⟨S1x2048x512, .bf16⟩
  | .local _ .vmem, ⟨13, _⟩ => ⟨S1x2048x512, .bf16⟩
  | .local _ .vmem, ⟨14, _⟩ => ⟨S1x2048x32, .bf16⟩
  | .local _ .vmem, ⟨15, _⟩ => ⟨S1x2048x32, .bf16⟩
  | .local _ .vmem, ⟨16, _⟩ => ⟨S32x256, .bf16⟩
  | .local _ .vmem, ⟨17, _⟩ => ⟨S1x256, .f32⟩
  | .local _ .vmem, ⟨18, _⟩ => ⟨S32x256, .bf16⟩
  | .local _ .vmem, ⟨19, _⟩ => ⟨S1x256, .f32⟩
  | .local _ .vmem, ⟨20, _⟩ => ⟨S1x4x64x128, .f32⟩
  | .local _ .vmem, ⟨21, _⟩ => ⟨S1x4x64x128, .f32⟩
  | .local _ .vmem, ⟨22, _⟩ => ⟨S1x4x64x128, .f32⟩
  | .local _ .vmem, ⟨23, _⟩ => ⟨S1x4x64x128, .f32⟩
  | .local _ .vmem, ⟨24, _⟩ => ⟨S1x2048x512, .f32⟩
  | .local _ .vmem, ⟨25, _⟩ => ⟨S1x2048x512, .f32⟩
  | .local _ .vmem, ⟨26, _⟩ => ⟨S1x2048x512, .f32⟩
  | .local _ .vmem, ⟨27, _⟩ => ⟨S1x2048x512, .f32⟩
  | .local _ .vmem, ⟨28, _⟩ => ⟨S1x4x64x128, .f32⟩
  | .local _ .vmem, ⟨29, _⟩ => ⟨S1x4x64x128, .f32⟩
  | .local _ .vmem, ⟨30, _⟩ => ⟨S1x4x64x128, .f32⟩
  | .local _ .vmem, ⟨31, _⟩ => ⟨S1x4x64x128, .f32⟩
  | .local _ .vmem, ⟨32, _⟩ => ⟨S4x64x128, .f32⟩
  | .local _ .vmem, ⟨33, _⟩ => ⟨S4x64x128, .f32⟩
  | _, _ => ⟨S4x8192x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7_0 : Ref sig .tc := ⟨.hbm, 18, rfl⟩
abbrev main_v7_1 : Ref sig .tc := ⟨.hbm, 19, rfl⟩
abbrev main_v7_2 : Ref sig .tc := ⟨.hbm, 20, rfl⟩
abbrev main_v7_3 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_stg16_0 : Ref sig .tc := ⟨.vmem, 28, rfl⟩
abbrev cc0_stg16_1 : Ref sig .tc := ⟨.vmem, 29, rfl⟩
abbrev cc0_stg17_0 : Ref sig .tc := ⟨.vmem, 30, rfl⟩
abbrev cc0_stg17_1 : Ref sig .tc := ⟨.vmem, 31, rfl⟩
abbrev cc0_scratch0 : Ref sig .tc := ⟨.vmem, 32, rfl⟩
abbrev cc0_scratch1 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem15_1 : DmaSem sig := 27
abbrev cc0_sem16_0 : DmaSem sig := 28
abbrev cc0_sem16_1 : DmaSem sig := 29
abbrev cc0_sem17_0 : DmaSem sig := 30
abbrev cc0_sem17_1 : DmaSem sig := 31

abbrev nD : Nat := 1
abbrev τ : Topo := Topo.v7x

variable {F : FTy → Type} [FloatOps F]

abbrev grid0 : Pipeline.Grid := ⟨2, ![4, 4], ![false, false]⟩

def k0_cond2 (i : grid0.Coords) : BitVec 1 :=
  let arg1 : BitVec 32 := BitVec.ofNat 32 (i 1).val
  let c3_i32 : BitVec 32 := 3#32
  let v6053 : BitVec 1 := Scalar.cmpi .eq arg1 c3_i32
  let v6054 : BitVec 32 := Scalar.extui v6053
  let c0_i32_1343 : BitVec 32 := 0#32
  let v6055 : BitVec 1 := Scalar.cmpi .ne v6054 c0_i32_1343
  v6055

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.subi c3_i32 arg1
  let c0_i32 : BitVec 32 := 0#32
  let c0_i32_0 : BitVec 32 := 0#32
  ![arg0.toNat, v0.toNat, c0_i32.toNat]

def cc0_transform_5 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.subi c3_i32 arg1
  let c0_i32 : BitVec 32 := 0#32
  let c0_i32_0 : BitVec 32 := 0#32
  ![arg0.toNat, v0.toNat, c0_i32.toNat]

def cc0_transform_6 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.subi c3_i32 arg1
  let c0_i32 : BitVec 32 := 0#32
  let c0_i32_0 : BitVec 32 := 0#32
  ![arg0.toNat, v0.toNat, c0_i32.toNat]

def cc0_transform_7 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.subi c3_i32 arg1
  let c0_i32 : BitVec 32 := 0#32
  let c0_i32_0 : BitVec 32 := 0#32
  ![arg0.toNat, v0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_13 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.subi c3_i32 arg1
  let c0_i32 : BitVec 32 := 0#32
  let c0_i32_0 : BitVec 32 := 0#32
  ![arg0.toNat, v0.toNat, c0_i32.toNat]

def cc0_transform_16 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_17 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x32 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x2048x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x2048x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x2048x32 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 1 → Memref sig .tc .vmem S32x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S32x256 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1x4x64x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S1x4x64x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]

abbrev stage0_14 : Fin 2 → Memref sig .tc .vmem S1x2048x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x2048x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x4x64x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, false]

abbrev stage0_17 : Fin 2 → Memref sig .tc .vmem S1x4x64x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, false]
-- ==== ReferenceIdeal.lean ====
abbrev S4x8192x256 : Shape := ⟨3, ![4, 8192, 256]⟩
abbrev S4x8192x512 : Shape := ⟨3, ![4, 8192, 512]⟩
abbrev S4x8192x32 : Shape := ⟨3, ![4, 8192, 32]⟩
abbrev S16x256 : Shape := ⟨2, ![16, 256]⟩
abbrev S256 : Shape := ⟨1, ![256]⟩
abbrev S4x4x64x128 : Shape := ⟨4, ![4, 4, 64, 128]⟩
abbrev S4x8192x16 : Shape := ⟨3, ![4, 8192, 16]⟩
abbrev S4x8192x4x64 : Shape := ⟨4, ![4, 8192, 4, 64]⟩
abbrev S_ : Shape := ⟨0, ![]⟩
abbrev S4x8192x4x128 : Shape := ⟨4, ![4, 8192, 4, 128]⟩
abbrev S1x1x256 : Shape := ⟨3, ![1, 1, 256]⟩
abbrev S8x8192x4x64 : Shape := ⟨4, ![8, 8192, 4, 64]⟩
abbrev S8x8192x4x128 : Shape := ⟨4, ![8, 8192, 4, 128]⟩
abbrev S8x4x64x128 : Shape := ⟨4, ![8, 4, 64, 128]⟩
abbrev S8x128x64x4x64 : Shape := ⟨5, ![8, 128, 64, 4, 64]⟩
abbrev S8x128x64x4x128 : Shape := ⟨5, ![8, 128, 64, 4, 128]⟩
abbrev S8x128x1x4x64 : Shape := ⟨5, ![8, 128, 1, 4, 64]⟩
abbrev S8x128x4x64 : Shape := ⟨4, ![8, 128, 4, 64]⟩
abbrev S64x64 : Shape := ⟨2, ![64, 64]⟩
abbrev S8x128x4x64x64 : Shape := ⟨5, ![8, 128, 4, 64, 64]⟩
abbrev S8x128x4x128x64 : Shape := ⟨5, ![8, 128, 4, 128, 64]⟩
abbrev S128x8x4x64x128 : Shape := ⟨5, ![128, 8, 4, 64, 128]⟩
abbrev S128x8x4x64 : Shape := ⟨4, ![128, 8, 4, 64]⟩
abbrev S128x8x64x4x64 : Shape := ⟨5, ![128, 8, 64, 4, 64]⟩
abbrev S128x8x64x4x128 : Shape := ⟨5, ![128, 8, 64, 4, 128]⟩
abbrev S1x8x64x4x64 : Shape := ⟨5, ![1, 8, 64, 4, 64]⟩
abbrev S8x64x4x64 : Shape := ⟨4, ![8, 64, 4, 64]⟩
abbrev S1x8x64x4x128 : Shape := ⟨5, ![1, 8, 64, 4, 128]⟩
abbrev S8x64x4x128 : Shape := ⟨4, ![8, 64, 4, 128]⟩
abbrev S1x8x4x64x128 : Shape := ⟨5, ![1, 8, 4, 64, 128]⟩
abbrev S1x8x4x64 : Shape := ⟨4, ![1, 8, 4, 64]⟩
abbrev S8x4x64 : Shape := ⟨3, ![8, 4, 64]⟩
abbrev S8x4x64x1 : Shape := ⟨4, ![8, 4, 64, 1]⟩
abbrev S8x4x128x64 : Shape := ⟨4, ![8, 4, 128, 64]⟩
abbrev S8x8192x512 : Shape := ⟨3, ![8, 8192, 512]⟩

abbrev nBuf : Space → Nat
  | .hbm => 168
  | .vmem => 0
  | .smem => 0
  | _ => 0

abbrev hbmTy0_0 (i : Nat) : BufTy := match i % 128 with
  | 0 => ⟨S4x8192x256, .bf16⟩
  | 1 => ⟨S4x8192x256, .bf16⟩
  | 2 => ⟨S4x8192x512, .bf16⟩
  | 3 => ⟨S4x8192x32, .bf16⟩
  | 4 => ⟨S16x256, .f32⟩
  | 5 => ⟨S256, .f32⟩
  | 6 => ⟨S16x256, .f32⟩
  | 7 => ⟨S256, .f32⟩
  | 8 => ⟨S4x4x64x128, .f32⟩
  | 9 => ⟨S4x4x64x128, .f32⟩
  | 10 => ⟨S4x8192x256, .f32⟩
  | 11 => ⟨S4x8192x256, .f32⟩
  | 12 => ⟨S4x8192x512, .f32⟩
  | 13 => ⟨S4x8192x32, .f32⟩
  | 14 => ⟨S4x8192x16, .f32⟩
  | 15 => ⟨S4x8192x16, .f32⟩
  | 16 => ⟨S4x8192x4x64, .f32⟩
  | 17 => ⟨S_, .f32⟩
  | 18 => ⟨S4x8192x4x64, .f32⟩
  | 19 => ⟨S4x8192x4x64, .f32⟩
  | 20 => ⟨S4x8192x4x64, .f32⟩
  | 21 => ⟨S4x8192x4x128, .f32⟩
  | 22 => ⟨S4x8192x256, .f32⟩
  | 23 => ⟨S1x1x256, .f32⟩
  | 24 => ⟨S4x8192x256, .f32⟩
  | 25 => ⟨S4x8192x256, .f32⟩
  | 26 => ⟨S4x8192x256, .f32⟩
  | 27 => ⟨S_, .f32⟩
  | 28 => ⟨S4x8192x256, .f32⟩
  | 29 => ⟨S4x8192x256, .f32⟩
  | 30 => ⟨S4x8192x256, .f32⟩
  | 31 => ⟨S4x8192x256, .f32⟩
  | 32 => ⟨S4x8192x256, .f32⟩
  | 33 => ⟨S4x8192x256, .f32⟩
  | 34 => ⟨S4x8192x256, .f32⟩
  | 35 => ⟨S4x8192x256, .f32⟩
  | 36 => ⟨S_, .f32⟩
  | 37 => ⟨S4x8192x256, .f32⟩
  | 38 => ⟨S4x8192x256, .f32⟩
  | 39 => ⟨S4x8192x4x64, .f32⟩
  | 40 => ⟨S4x8192x256, .f32⟩
  | 41 => ⟨S1x1x256, .f32⟩
  | 42 => ⟨S4x8192x256, .f32⟩
  | 43 => ⟨S4x8192x256, .f32⟩
  | 44 => ⟨S4x8192x256, .f32⟩
  | 45 => ⟨S_, .f32⟩
  | 46 => ⟨S4x8192x256, .f32⟩
  | 47 => ⟨S4x8192x256, .f32⟩
  | 48 => ⟨S4x8192x256, .f32⟩
  | 49 => ⟨S4x8192x256, .f32⟩
  | 50 => ⟨S4x8192x256, .f32⟩
  | 51 => ⟨S4x8192x256, .f32⟩
  | 52 => ⟨S4x8192x256, .f32⟩
  | 53 => ⟨S4x8192x256, .f32⟩
  | 54 => ⟨S_, .f32⟩
  | 55 => ⟨S4x8192x256, .f32⟩
  | 56 => ⟨S4x8192x256, .f32⟩
  | 57 => ⟨S4x8192x4x64, .f32⟩
  | 58 => ⟨S4x8192x4x64, .f32⟩
  | 59 => ⟨S8x8192x4x64, .f32⟩
  | 60 => ⟨S4x8192x4x64, .f32⟩
  | 61 => ⟨S8x8192x4x64, .f32⟩
  | 62 => ⟨S4x8192x4x128, .f32⟩
  | 63 => ⟨S8x8192x4x128, .f32⟩
  | 64 => ⟨S4x8192x4x64, .f32⟩
  | 65 => ⟨S8x8192x4x64, .f32⟩
  | 66 => ⟨S8x4x64x128, .f32⟩
  | 67 => ⟨S8x128x64x4x64, .f32⟩
  | 68 => ⟨S8x128x64x4x64, .f32⟩
  | 69 => ⟨S8x128x64x4x64, .f32⟩
  | 70 => ⟨S8x128x64x4x128, .f32⟩
  | 71 => ⟨S_, .f32⟩
  | 72 => ⟨S_, .f32⟩
  | 73 => ⟨S8x128x64x4x64, .f32⟩
  | 74 => ⟨S8x128x1x4x64, .f32⟩
  | 75 => ⟨S8x128x4x64, .f32⟩
  | 76 => ⟨S8x128x64x4x64, .f32⟩
  | 77 => ⟨S8x128x64x4x64, .f32⟩
  | 78 => ⟨S8x128x64x4x64, .f32⟩
  | 79 => ⟨S8x128x64x4x64, .f32⟩
  | 80 => ⟨S8x128x64x4x64, .f32⟩
  | 81 => ⟨S8x128x1x4x64, .f32⟩
  | 82 => ⟨S8x128x64x4x64, .f32⟩
  | 83 => ⟨S8x128x64x4x64, .f32⟩
  | 84 => ⟨S8x128x64x4x64, .f32⟩
  | 85 => ⟨S8x128x64x4x64, .f32⟩
  | 86 => ⟨S_, .i1⟩
  | 87 => ⟨S64x64, .i1⟩
  | 88 => ⟨S64x64, .i32⟩
  | 89 => ⟨S_, .i32⟩
  | 90 => ⟨S64x64, .i32⟩
  | 91 => ⟨S64x64, .i32⟩
  | 92 => ⟨S64x64, .i32⟩
  | 93 => ⟨S64x64, .i1⟩
  | 94 => ⟨S_, .i1⟩
  | 95 => ⟨S64x64, .i1⟩
  | 96 => ⟨S64x64, .i1⟩
  | 97 => ⟨S8x128x4x64x64, .f32⟩
  | 98 => ⟨S_, .f32⟩
  | 99 => ⟨S_, .f32⟩
  | 100 => ⟨S8x128x4x64x64, .i1⟩
  | 101 => ⟨S8x128x4x64x64, .f32⟩
  | 102 => ⟨S8x128x4x64x64, .f32⟩
  | 103 => ⟨S8x128x4x128x64, .f32⟩
  | 104 => ⟨S8x128x64x4x128, .f32⟩
  | 105 => ⟨S128x8x4x64x128, .f32⟩
  | 106 => ⟨S8x128x4x64, .f32⟩
  | 107 => ⟨S128x8x4x64, .f32⟩
  | 108 => ⟨S128x8x64x4x64, .f32⟩
  | 109 => ⟨S128x8x64x4x128, .f32⟩
  | 110 => ⟨S_, .f32⟩
  | 111 => ⟨S128x8x64x4x128, .f32⟩
  | 112 => ⟨S_, .i32⟩
  | 113 => ⟨S128x8x64x4x64, .f32⟩
  | 114 => ⟨S128x8x64x4x128, .f32⟩
  | 115 => ⟨S128x8x4x64x128, .f32⟩
  | 116 => ⟨S128x8x4x64, .f32⟩
  | 117 => ⟨S_, .i32⟩
  | 118 => ⟨S8x4x64x128, .f32⟩
  | 119 => ⟨S128x8x64x4x128, .f32⟩
  | 120 => ⟨S_, .i32⟩
  | 121 => ⟨S_, .i1⟩
  | 122 => ⟨S_, .i32⟩
  | 123 => ⟨S_, .i32⟩
  | 124 => ⟨S_, .i32⟩
  | 125 => ⟨S_, .i32⟩
  | 126 => ⟨S1x8x64x4x64, .f32⟩
  | 127 => ⟨S8x64x4x64, .f32⟩
  | _ => ⟨S4x8192x256, .bf16⟩

abbrev hbmTy0_1 (i : Nat) : BufTy := match i % 128 with
  | 0 => ⟨S_, .i32⟩
  | 1 => ⟨S_, .i32⟩
  | 2 => ⟨S_, .i32⟩
  | 3 => ⟨S_, .i32⟩
  | 4 => ⟨S1x8x64x4x128, .f32⟩
  | 5 => ⟨S8x64x4x128, .f32⟩
  | 6 => ⟨S_, .i32⟩
  | 7 => ⟨S_, .i32⟩
  | 8 => ⟨S_, .i32⟩
  | 9 => ⟨S_, .i32⟩
  | 10 => ⟨S1x8x4x64x128, .f32⟩
  | 11 => ⟨S8x4x64x128, .f32⟩
  | 12 => ⟨S_, .i32⟩
  | 13 => ⟨S_, .i32⟩
  | 14 => ⟨S_, .i32⟩
  | 15 => ⟨S1x8x4x64, .f32⟩
  | 16 => ⟨S8x4x64, .f32⟩
  | 17 => ⟨S8x4x64x1, .f32⟩
  | 18 => ⟨S8x4x64x128, .f32⟩
  | 19 => ⟨S8x4x64x128, .f32⟩
  | 20 => ⟨S8x4x64x128, .f32⟩
  | 21 => ⟨S8x4x128x64, .f32⟩
  | 22 => ⟨S8x64x4x128, .f32⟩
  | 23 => ⟨S8x64x4x128, .f32⟩
  | 24 => ⟨S1x8x64x4x128, .f32⟩
  | 25 => ⟨S_, .i32⟩
  | 26 => ⟨S_, .i32⟩
  | 27 => ⟨S_, .i32⟩
  | 28 => ⟨S_, .i32⟩
  | 29 => ⟨S128x8x64x4x128, .f32⟩
  | 30 => ⟨S_, .i32⟩
  | 31 => ⟨S_, .i32⟩
  | 32 => ⟨S8x128x64x4x128, .f32⟩
  | 33 => ⟨S8x8192x4x128, .f32⟩
  | 34 => ⟨S8x8192x512, .f32⟩
  | 35 => ⟨S4x8192x512, .f32⟩
  | 36 => ⟨S4x8192x512, .f32⟩
  | 37 => ⟨S4x8192x512, .f32⟩
  | 38 => ⟨S4x4x64x128, .f32⟩
  | 39 => ⟨S4x4x64x128, .f32⟩
  | _ => ⟨S4x8192x256, .bf16⟩

abbrev hbmTy (i : Nat) : BufTy := match i / 128 with
  | 0 => hbmTy0_0 i
  | 1 => hbmTy0_1 i
  | _ => ⟨S4x8192x256, .bf16⟩

abbrev bufTy : (tb : Table) → Fin (tcTables nBuf tb) → BufTy
  | .hbm, ⟨i, _⟩ => hbmTy i
  | _, _ => ⟨S4x8192x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_0 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_1 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_2 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst_3 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_call4_call0_cst : Ref sig .tc := ⟨.hbm, 71, rfl⟩
abbrev main_call4_call0_v0 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_c : Ref sig .tc := ⟨.hbm, 86, rfl⟩
abbrev main_v69 : Ref sig .tc := ⟨.hbm, 87, rfl⟩
abbrev main_call5_v0 : Ref sig .tc := ⟨.hbm, 88, rfl⟩
abbrev main_call5_c : Ref sig .tc := ⟨.hbm, 89, rfl⟩
abbrev main_call5_v1 : Ref sig .tc := ⟨.hbm, 90, rfl⟩
abbrev main_call5_v2 : Ref sig .tc := ⟨.hbm, 91, rfl⟩
abbrev main_call5_v3 : Ref sig .tc := ⟨.hbm, 92, rfl⟩
abbrev main_call5_v4 : Ref sig .tc := ⟨.hbm, 93, rfl⟩
abbrev main_call5_c_0 : Ref sig .tc := ⟨.hbm, 94, rfl⟩
abbrev main_call5_v5 : Ref sig .tc := ⟨.hbm, 95, rfl⟩
abbrev main_v70 : Ref sig .tc := ⟨.hbm, 96, rfl⟩
abbrev main_v71 : Ref sig .tc := ⟨.hbm, 97, rfl⟩
abbrev main_cst_4 : Ref sig .tc := ⟨.hbm, 98, rfl⟩
abbrev main_call6_v0 : Ref sig .tc := ⟨.hbm, 99, rfl⟩
abbrev main_call6_v1 : Ref sig .tc := ⟨.hbm, 100, rfl⟩
abbrev main_call6_v2 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_cst_5 : Ref sig .tc := ⟨.hbm, 110, rfl⟩
abbrev main_v80 : Ref sig .tc := ⟨.hbm, 111, rfl⟩
abbrev main_c_6 : Ref sig .tc := ⟨.hbm, 112, rfl⟩
abbrev main_v81_0 : Ref sig .tc := ⟨.hbm, 113, rfl⟩
abbrev main_v81_1 : Ref sig .tc := ⟨.hbm, 114, rfl⟩
abbrev main_v81_2 : Ref sig .tc := ⟨.hbm, 115, rfl⟩
abbrev main_v81_3 : Ref sig .tc := ⟨.hbm, 116, rfl⟩
abbrev main_v81_4 : Ref sig .tc := ⟨.hbm, 117, rfl⟩
abbrev main_v81_5 : Ref sig .tc := ⟨.hbm, 118, rfl⟩
abbrev main_v81_6 : Ref sig .tc := ⟨.hbm, 119, rfl⟩
abbrev main_while0c_c_13 : Ref sig .tc := ⟨.hbm, 120, rfl⟩
abbrev main_while0c_v90 : Ref sig .tc := ⟨.hbm, 121, rfl⟩
abbrev main_while0b_call7_c : Ref sig .tc := ⟨.hbm, 122, rfl⟩
abbrev main_while0b_call7_c_0 : Ref sig .tc := ⟨.hbm, 123, rfl⟩
abbrev main_while0b_call7_c_1 : Ref sig .tc := ⟨.hbm, 124, rfl⟩
abbrev main_while0b_call7_c_2 : Ref sig .tc := ⟨.hbm, 125, rfl⟩
abbrev main_while0b_call7_v0 : Ref sig .tc := ⟨.hbm, 126, rfl⟩
abbrev main_while0b_v90 : Ref sig .tc := ⟨.hbm, 127, rfl⟩
abbrev main_while0b_call8_c : Ref sig .tc := ⟨.hbm, 128, rfl⟩
abbrev main_while0b_call8_c_0 : Ref sig .tc := ⟨.hbm, 129, rfl⟩
abbrev main_while0b_call8_c_1 : Ref sig .tc := ⟨.hbm, 130, rfl⟩
abbrev main_while0b_call8_c_2 : Ref sig .tc := ⟨.hbm, 131, rfl⟩
abbrev main_while0b_call8_v0 : Ref sig .tc := ⟨.hbm, 132, rfl⟩
abbrev main_while0b_v91 : Ref sig .tc := ⟨.hbm, 133, rfl⟩
abbrev main_while0b_call9_c : Ref sig .tc := ⟨.hbm, 134, rfl⟩
abbrev main_while0b_call9_c_0 : Ref sig .tc := ⟨.hbm, 135, rfl⟩
abbrev main_while0b_call9_c_1 : Ref sig .tc := ⟨.hbm, 136, rfl⟩
abbrev main_while0b_call9_c_2 : Ref sig .tc := ⟨.hbm, 137, rfl⟩
abbrev main_while0b_call9_v0 : Ref sig .tc := ⟨.hbm, 138, rfl⟩
abbrev main_while0b_v92 : Ref sig .tc := ⟨.hbm, 139, rfl⟩
abbrev main_while0b_call10_c : Ref sig .tc := ⟨.hbm, 140, rfl⟩
abbrev main_while0b_call10_c_0 : Ref sig .tc := ⟨.hbm, 141, rfl⟩
abbrev main_while0b_call10_c_1 : Ref sig .tc := ⟨.hbm, 142, rfl⟩
abbrev main_while0b_call10_v0 : Ref sig .tc := ⟨.hbm, 143, rfl⟩
abbrev main_while0b_v93 : Ref sig .tc := ⟨.hbm, 144, rfl⟩
abbrev main_while0b_v94 : Ref sig .tc := ⟨.hbm, 145, rfl⟩
abbrev main_while0b_v95 : Ref sig .tc := ⟨.hbm, 146, rfl⟩
abbrev main_while0b_v96 : Ref sig .tc := ⟨.hbm, 147, rfl⟩
abbrev main_while0b_v97 : Ref sig .tc := ⟨.hbm, 148, rfl⟩
abbrev main_while0b_v98 : Ref sig .tc := ⟨.hbm, 149, rfl⟩
abbrev main_while0b_v99 : Ref sig .tc := ⟨.hbm, 150, rfl⟩
abbrev main_while0b_v100 : Ref sig .tc := ⟨.hbm, 151, rfl⟩
abbrev main_while0b_call11_v0 : Ref sig .tc := ⟨.hbm, 152, rfl⟩
abbrev main_while0b_call11_c : Ref sig .tc := ⟨.hbm, 153, rfl⟩
abbrev main_while0b_call11_c_0 : Ref sig .tc := ⟨.hbm, 154, rfl⟩
abbrev main_while0b_call11_c_1 : Ref sig .tc := ⟨.hbm, 155, rfl⟩
abbrev main_while0b_call11_c_2 : Ref sig .tc := ⟨.hbm, 156, rfl⟩
abbrev main_while0b_v101 : Ref sig .tc := ⟨.hbm, 157, rfl⟩
abbrev main_while0b_c_13 : Ref sig .tc := ⟨.hbm, 158, rfl⟩
abbrev main_while0b_v102 : Ref sig .tc := ⟨.hbm, 159, rfl⟩
abbrev main_v82 : Ref sig .tc := ⟨.hbm, 160, rfl⟩
abbrev main_v83 : Ref sig .tc := ⟨.hbm, 161, rfl⟩
abbrev main_v84 : Ref sig .tc := ⟨.hbm, 162, rfl⟩
abbrev main_v85 : Ref sig .tc := ⟨.hbm, 163, rfl⟩
abbrev main_v86 : Ref sig .tc := ⟨.hbm, 164, rfl⟩
abbrev main_v87 : Ref sig .tc := ⟨.hbm, 165, rfl⟩
abbrev main_v88 : Ref sig .tc := ⟨.hbm, 166, rfl⟩
abbrev main_v89 : Ref sig .tc := ⟨.hbm, 167, rfl⟩

abbrev nD : Nat := 1
abbrev τ : Topo := Topo.v7x

variable {F : FTy → Type} [FloatOps F]

abbrev main_while0_count : Scf.Loop 32 := ⟨0#32, 128#32, 1#32⟩
-- ==== Ffn.lean ====
abbrev S4x8192x1024 : Shape := ⟨3, ![4, 8192, 1024]⟩
abbrev S4x8192x512 : Shape := ⟨3, ![4, 8192, 512]⟩
abbrev S4x1x6144 : Shape := ⟨3, ![4, 1, 6144]⟩
abbrev S512 : Shape := ⟨1, ![512]⟩
abbrev S1024 : Shape := ⟨1, ![1024]⟩
abbrev S1024x1024 : Shape := ⟨2, ![1024, 1024]⟩
abbrev S1024x5632 : Shape := ⟨2, ![1024, 5632]⟩
abbrev S3x2816 : Shape := ⟨2, ![3, 2816]⟩
abbrev S2816 : Shape := ⟨1, ![2816]⟩
abbrev S2816x1024 : Shape := ⟨2, ![2816, 1024]⟩
abbrev S_ : Shape := ⟨0, ![]⟩
abbrev S8x2816 : Shape := ⟨2, ![8, 2816]⟩
abbrev S1x512 : Shape := ⟨2, ![1, 512]⟩
abbrev S1x1024 : Shape := ⟨2, ![1, 1024]⟩
abbrev S1x2816 : Shape := ⟨2, ![1, 2816]⟩
abbrev S1x8x1024 : Shape := ⟨3, ![1, 8, 1024]⟩
abbrev S1x512x1024 : Shape := ⟨3, ![1, 512, 1024]⟩
abbrev S1x8x512 : Shape := ⟨3, ![1, 8, 512]⟩
abbrev S1x512x512 : Shape := ⟨3, ![1, 512, 512]⟩
abbrev S1x1x6144 : Shape := ⟨3, ![1, 1, 6144]⟩
abbrev S6x528x256 : Shape := ⟨3, ![6, 528, 256]⟩
abbrev S1x6144 : Shape := ⟨2, ![1, 6144]⟩
abbrev S8x512 : Shape := ⟨2, ![8, 512]⟩
abbrev S512x512 : Shape := ⟨2, ![512, 512]⟩
abbrev S528x512 : Shape := ⟨2, ![528, 512]⟩
abbrev S528x128 : Shape := ⟨2, ![528, 128]⟩
abbrev S528 : Shape := ⟨1, ![528]⟩
abbrev S528x1 : Shape := ⟨2, ![528, 1]⟩
abbrev S1x128 : Shape := ⟨2, ![1, 128]⟩
abbrev S528x1024 : Shape := ⟨2, ![528, 1024]⟩
abbrev S8x1024 : Shape := ⟨2, ![8, 1024]⟩
abbrev S512x1024 : Shape := ⟨2, ![512, 1024]⟩
abbrev S512x1 : Shape := ⟨2, ![512, 1]⟩
abbrev S1024x256 : Shape := ⟨2, ![1024, 256]⟩
abbrev S528x256 : Shape := ⟨2, ![528, 256]⟩
abbrev S1x528x256 : Shape := ⟨3, ![1, 528, 256]⟩
abbrev S512x256 : Shape := ⟨2, ![512, 256]⟩
abbrev S1x256 : Shape := ⟨2, ![1, 256]⟩
abbrev S256x1024 : Shape := ⟨2, ![256, 1024]⟩

abbrev nBuf : Space → Nat
  | .hbm => 25
  | .vmem => 43
  | .smem => 0
  | _ => 0

abbrev bufTy : (tb : Table) → Fin (tcTables nBuf tb) → BufTy
  | .hbm, ⟨0, _⟩ => ⟨S4x8192x1024, .f32⟩
  | .hbm, ⟨1, _⟩ => ⟨S4x8192x512, .f32⟩
  | .hbm, ⟨2, _⟩ => ⟨S4x8192x512, .f32⟩
  | .hbm, ⟨3, _⟩ => ⟨S4x8192x512, .f32⟩
  | .hbm, ⟨4, _⟩ => ⟨S4x8192x512, .f32⟩
  | .hbm, ⟨5, _⟩ => ⟨S4x1x6144, .f32⟩
  | .hbm, ⟨6, _⟩ => ⟨S512, .f32⟩
  | .hbm, ⟨7, _⟩ => ⟨S1024, .f32⟩
  | .hbm, ⟨8, _⟩ => ⟨S1024, .f32⟩
  | .hbm, ⟨9, _⟩ => ⟨S1024x1024, .f32⟩
  | .hbm, ⟨10, _⟩ => ⟨S1024x5632, .f32⟩
  | .hbm, ⟨11, _⟩ => ⟨S3x2816, .f32⟩
  | .hbm, ⟨12, _⟩ => ⟨S2816, .f32⟩
  | .hbm, ⟨13, _⟩ => ⟨S2816x1024, .f32⟩
  | .hbm, ⟨14, _⟩ => ⟨S_, .i32⟩
  | .hbm, ⟨15, _⟩ => ⟨S_, .f32⟩
  | .hbm, ⟨16, _⟩ => ⟨S8x2816, .f32⟩
  | .hbm, ⟨17, _⟩ => ⟨S1x512, .f32⟩
  | .hbm, ⟨18, _⟩ => ⟨S1x1024, .f32⟩
  | .hbm, ⟨19, _⟩ => ⟨S1x1024, .f32⟩
  | .hbm, ⟨20, _⟩ => ⟨S1024x1024, .bf16⟩
  | .hbm, ⟨21, _⟩ => ⟨S1024x5632, .bf16⟩
  | .hbm, ⟨22, _⟩ => ⟨S1x2816, .f32⟩
  | .hbm, ⟨23, _⟩ => ⟨S2816x1024, .bf16⟩
  | .hbm, ⟨24, _⟩ => ⟨S4x8192x1024, .f32⟩
  | .local _ .vmem, ⟨0, _⟩ => ⟨S1x8x1024, .f32⟩
  | .local _ .vmem, ⟨1, _⟩ => ⟨S1x8x1024, .f32⟩
  | .local _ .vmem, ⟨2, _⟩ => ⟨S1x512x1024, .f32⟩
  | .local _ .vmem, ⟨3, _⟩ => ⟨S1x512x1024, .f32⟩
  | .local _ .vmem, ⟨4, _⟩ => ⟨S1x8x1024, .f32⟩
  | .local _ .vmem, ⟨5, _⟩ => ⟨S1x8x1024, .f32⟩
  | .local _ .vmem, ⟨6, _⟩ => ⟨S1x8x512, .f32⟩
  | .local _ .vmem, ⟨7, _⟩ => ⟨S1x8x512, .f32⟩
  | .local _ .vmem, ⟨8, _⟩ => ⟨S1x512x512, .f32⟩
  | .local _ .vmem, ⟨9, _⟩ => ⟨S1x512x512, .f32⟩
  | .local _ .vmem, ⟨10, _⟩ => ⟨S1x8x512, .f32⟩
  | .local _ .vmem, ⟨11, _⟩ => ⟨S1x8x512, .f32⟩
  | .local _ .vmem, ⟨12, _⟩ => ⟨S1x8x512, .f32⟩
  | .local _ .vmem, ⟨13, _⟩ => ⟨S1x8x512, .f32⟩
  | .local _ .vmem, ⟨14, _⟩ => ⟨S1x512x512, .f32⟩
  | .local _ .vmem, ⟨15, _⟩ => ⟨S1x512x512, .f32⟩
  | .local _ .vmem, ⟨16, _⟩ => ⟨S1x8x512, .f32⟩
  | .local _ .vmem, ⟨17, _⟩ => ⟨S1x8x512, .f32⟩
  | .local _ .vmem, ⟨18, _⟩ => ⟨S1x8x512, .f32⟩
  | .local _ .vmem, ⟨19, _⟩ => ⟨S1x8x512, .f32⟩
  | .local _ .vmem, ⟨20, _⟩ => ⟨S1x512x512, .f32⟩
  | .local _ .vmem, ⟨21, _⟩ => ⟨S1x512x512, .f32⟩
  | .local _ .vmem, ⟨22, _⟩ => ⟨S1x8x512, .f32⟩
  | .local _ .vmem, ⟨23, _⟩ => ⟨S1x8x512, .f32⟩
  | .local _ .vmem, ⟨24, _⟩ => ⟨S1x8x512, .f32⟩
  | .local _ .vmem, ⟨25, _⟩ => ⟨S1x8x512, .f32⟩
  | .local _ .vmem, ⟨26, _⟩ => ⟨S1x512x512, .f32⟩
  | .local _ .vmem, ⟨27, _⟩ => ⟨S1x512x512, .f32⟩
  | .local _ .vmem, ⟨28, _⟩ => ⟨S1x8x512, .f32⟩
  | .local _ .vmem, ⟨29, _⟩ => ⟨S1x8x512, .f32⟩
  | .local _ .vmem, ⟨30, _⟩ => ⟨S1x1x6144, .f32⟩
  | .local _ .vmem, ⟨31, _⟩ => ⟨S1x1x6144, .f32⟩
  | .local _ .vmem, ⟨32, _⟩ => ⟨S1x512, .f32⟩
  | .local _ .vmem, ⟨33, _⟩ => ⟨S1x1024, .f32⟩
  | .local _ .vmem, ⟨34, _⟩ => ⟨S1x1024, .f32⟩
  | .local _ .vmem, ⟨35, _⟩ => ⟨S1024x1024, .bf16⟩
  | .local _ .vmem, ⟨36, _⟩ => ⟨S1024x5632, .bf16⟩
  | .local _ .vmem, ⟨37, _⟩ => ⟨S8x2816, .f32⟩
  | .local _ .vmem, ⟨38, _⟩ => ⟨S1x2816, .f32⟩
  | .local _ .vmem, ⟨39, _⟩ => ⟨S2816x1024, .bf16⟩
  | .local _ .vmem, ⟨40, _⟩ => ⟨S1x512x1024, .f32⟩
  | .local _ .vmem, ⟨41, _⟩ => ⟨S1x512x1024, .f32⟩
  | .local _ .vmem, ⟨42, _⟩ => ⟨S6x528x256, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_c : Ref sig .tc := ⟨.hbm, 14, rfl⟩
abbrev main_call0_v0 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg17_0 : Ref sig .tc := ⟨.vmem, 33, rfl⟩
abbrev cc0_stg18_0 : Ref sig .tc := ⟨.vmem, 34, rfl⟩
abbrev cc0_stg19_0 : Ref sig .tc := ⟨.vmem, 35, rfl⟩
abbrev cc0_stg20_0 : Ref sig .tc := ⟨.vmem, 36, rfl⟩
abbrev cc0_stg21_0 : Ref sig .tc := ⟨.vmem, 37, rfl⟩
abbrev cc0_stg22_0 : Ref sig .tc := ⟨.vmem, 38, rfl⟩
abbrev cc0_stg23_0 : Ref sig .tc := ⟨.vmem, 39, rfl⟩
abbrev cc0_stg24_0 : Ref sig .tc := ⟨.vmem, 40, rfl⟩
abbrev cc0_stg24_1 : Ref sig .tc := ⟨.vmem, 41, rfl⟩
abbrev cc0_scratch0 : Ref sig .tc := ⟨.vmem, 42, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem17_0 : DmaSem sig := 33
abbrev cc0_sem18_0 : DmaSem sig := 34
abbrev cc0_sem19_0 : DmaSem sig := 35
abbrev cc0_sem20_0 : DmaSem sig := 36
abbrev cc0_sem21_0 : DmaSem sig := 37
abbrev cc0_sem22_0 : DmaSem sig := 38
abbrev cc0_sem23_0 : DmaSem sig := 39
abbrev cc0_sem24_0 : DmaSem sig := 40
abbrev cc0_sem24_1 : DmaSem sig := 41

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c64_i32 : BitVec 32 := 64#32
  let v1 : BitVec 32 := Scalar.muli v0 c64_i32
  let c1023_i32 : BitVec 32 := 1023#32
  let v2 : BitVec 32 := Scalar.minsi v1 c1023_i32
  let c0_i32 : BitVec 32 := 0#32
  let c0_i32_0 : BitVec 32 := 0#32
  ![arg0.toNat, v2.toNat, c0_i32.toNat]

def cc0_transform_3 (i : grid0.Coords) : Fin 3 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c64_i32 : BitVec 32 := 64#32
  let v1 : BitVec 32 := Scalar.muli v0 c64_i32
  let c1023_i32 : BitVec 32 := 1023#32
  let v2 : BitVec 32 := Scalar.minsi v1 c1023_i32
  let c0_i32 : BitVec 32 := 0#32
  let c0_i32_0 : BitVec 32 := 0#32
  ![arg0.toNat, v2.toNat, c0_i32.toNat]

def cc0_transform_6 (i : grid0.Coords) : Fin 3 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c64_i32 : BitVec 32 := 64#32
  let v1 : BitVec 32 := Scalar.muli v0 c64_i32
  let c1023_i32 : BitVec 32 := 1023#32
  let v2 : BitVec 32 := Scalar.minsi v1 c1023_i32
  let c0_i32 : BitVec 32 := 0#32
  let c0_i32_0 : BitVec 32 := 0#32
  ![arg0.toNat, v2.toNat, c0_i32.toNat]

def cc0_transform_9 (i : grid0.Coords) : Fin 3 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c64_i32 : BitVec 32 := 64#32
  let v1 : BitVec 32 := Scalar.muli v0 c64_i32
  let c1023_i32 : BitVec 32 := 1023#32
  let v2 : BitVec 32 := Scalar.minsi v1 c1023_i32
  let c0_i32 : BitVec 32 := 0#32
  let c0_i32_0 : BitVec 32 := 0#32
  ![arg0.toNat, v2.toNat, c0_i32.toNat]

def cc0_transform_12 (i : grid0.Coords) : Fin 3 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c64_i32 : BitVec 32 := 64#32
  let v1 : BitVec 32 := Scalar.muli v0 c64_i32
  let c1023_i32 : BitVec 32 := 1023#32
  let v2 : BitVec 32 := Scalar.minsi v1 c1023_i32
  let c0_i32 : BitVec 32 := 0#32
  let c0_i32_0 : BitVec 32 := 0#32
  ![arg0.toNat, v2.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_24 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x8x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x8x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x8x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x8x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x8x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x512x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x8x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x8x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x512x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x8x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x1x6144 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, false]

abbrev stage0_16 : Fin 1 → Memref sig .tc .vmem S1x512 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 1 → Memref sig .tc .vmem S1x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false, false]

abbrev stage0_18 : Fin 1 → Memref sig .tc .vmem S1x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false, false]

abbrev stage0_19 : Fin 1 → Memref sig .tc .vmem S1024x1024 .bf16 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false, false]

abbrev stage0_20 : Fin 1 → Memref sig .tc .vmem S1024x5632 .bf16 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false, false]

abbrev stage0_21 : Fin 1 → Memref sig .tc .vmem S8x2816 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false, false]

abbrev stage0_22 : Fin 1 → Memref sig .tc .vmem S1x2816 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false, false]

abbrev stage0_23 : Fin 1 → Memref sig .tc .vmem S2816x1024 .bf16 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false, false]

abbrev stage0_24 : Fin 2 → Memref sig .tc .vmem S1x512x1024 .f32 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true, true]
-- ==== FfnRefIdeal.lean ====
abbrev S4x8192x1024 : Shape := ⟨3, ![4, 8192, 1024]⟩
abbrev S4x8192x512 : Shape := ⟨3, ![4, 8192, 512]⟩
abbrev S4x1x6144 : Shape := ⟨3, ![4, 1, 6144]⟩
abbrev S512 : Shape := ⟨1, ![512]⟩
abbrev S1024 : Shape := ⟨1, ![1024]⟩
abbrev S1024x1024 : Shape := ⟨2, ![1024, 1024]⟩
abbrev S1024x5632 : Shape := ⟨2, ![1024, 5632]⟩
abbrev S3x2816 : Shape := ⟨2, ![3, 2816]⟩
abbrev S2816 : Shape := ⟨1, ![2816]⟩
abbrev S2816x1024 : Shape := ⟨2, ![2816, 1024]⟩
abbrev S4x1x1024 : Shape := ⟨3, ![4, 1, 1024]⟩
abbrev S4x8192x4x128 : Shape := ⟨4, ![4, 8192, 4, 128]⟩
abbrev S4x128 : Shape := ⟨2, ![4, 128]⟩
abbrev S_ : Shape := ⟨0, ![]⟩
abbrev S4x8192x4 : Shape := ⟨3, ![4, 8192, 4]⟩
abbrev S4x8192x4x1 : Shape := ⟨4, ![4, 8192, 4, 1]⟩
abbrev S1x1x4x128 : Shape := ⟨4, ![1, 1, 4, 128]⟩
abbrev S4x8192 : Shape := ⟨2, ![4, 8192]⟩
abbrev S4x8192x1 : Shape := ⟨3, ![4, 8192, 1]⟩
abbrev S1x1x1024 : Shape := ⟨3, ![1, 1, 1024]⟩
abbrev S4x8192x5632 : Shape := ⟨3, ![4, 8192, 5632]⟩
abbrev S4x8192x2816 : Shape := ⟨3, ![4, 8192, 2816]⟩
abbrev S4x8194x2816 : Shape := ⟨3, ![4, 8194, 2816]⟩
abbrev S1x2816 : Shape := ⟨2, ![1, 2816]⟩
abbrev S1x1x2816 : Shape := ⟨3, ![1, 1, 2816]⟩

abbrev nBuf : Space → Nat
  | .hbm => 137
  | .vmem => 0
  | .smem => 0
  | _ => 0

abbrev hbmTy0_0 (i : Nat) : BufTy := match i % 128 with
  | 0 => ⟨S4x8192x1024, .f32⟩
  | 1 => ⟨S4x8192x512, .f32⟩
  | 2 => ⟨S4x8192x512, .f32⟩
  | 3 => ⟨S4x8192x512, .f32⟩
  | 4 => ⟨S4x8192x512, .f32⟩
  | 5 => ⟨S4x1x6144, .f32⟩
  | 6 => ⟨S512, .f32⟩
  | 7 => ⟨S1024, .f32⟩
  | 8 => ⟨S1024, .f32⟩
  | 9 => ⟨S1024x1024, .f32⟩
  | 10 => ⟨S1024x5632, .f32⟩
  | 11 => ⟨S3x2816, .f32⟩
  | 12 => ⟨S2816, .f32⟩
  | 13 => ⟨S2816x1024, .f32⟩
  | 14 => ⟨S4x1x1024, .f32⟩
  | 15 => ⟨S4x1x1024, .f32⟩
  | 16 => ⟨S4x1x1024, .f32⟩
  | 17 => ⟨S4x1x1024, .f32⟩
  | 18 => ⟨S4x1x1024, .f32⟩
  | 19 => ⟨S4x1x1024, .f32⟩
  | 20 => ⟨S4x8192x512, .f32⟩
  | 21 => ⟨S4x8192x4x128, .f32⟩
  | 22 => ⟨S4x128, .f32⟩
  | 23 => ⟨S4x8192x4x128, .f32⟩
  | 24 => ⟨S_, .f32⟩
  | 25 => ⟨S4x8192x4, .f32⟩
  | 26 => ⟨S4x8192x4x1, .f32⟩
  | 27 => ⟨S_, .f32⟩
  | 28 => ⟨S4x8192x4x1, .f32⟩
  | 29 => ⟨S4x8192x4x1, .f32⟩
  | 30 => ⟨S_, .f32⟩
  | 31 => ⟨S4x8192x4x1, .f32⟩
  | 32 => ⟨S4x8192x4x1, .f32⟩
  | 33 => ⟨S4x8192x4x1, .f32⟩
  | 34 => ⟨S4x8192x4x128, .f32⟩
  | 35 => ⟨S4x8192x4x128, .f32⟩
  | 36 => ⟨S1x1x4x128, .f32⟩
  | 37 => ⟨S4x8192x4x128, .f32⟩
  | 38 => ⟨S4x8192x4x128, .f32⟩
  | 39 => ⟨S4x8192x512, .f32⟩
  | 40 => ⟨S4x8192x512, .f32⟩
  | 41 => ⟨S4x8192x512, .f32⟩
  | 42 => ⟨S_, .f32⟩
  | 43 => ⟨S4x8192x512, .f32⟩
  | 44 => ⟨S4x8192x512, .f32⟩
  | 45 => ⟨S_, .f32⟩
  | 46 => ⟨S4x8192x512, .f32⟩
  | 47 => ⟨S4x8192x512, .f32⟩
  | 48 => ⟨S4x8192x512, .f32⟩
  | 49 => ⟨S4x8192x512, .f32⟩
  | 50 => ⟨S4x8192x1024, .f32⟩
  | 51 => ⟨S4x8192x1024, .f32⟩
  | 52 => ⟨S4x8192x1024, .f32⟩
  | 53 => ⟨S4x8192x1024, .f32⟩
  | 54 => ⟨S4x8192x1024, .f32⟩
  | 55 => ⟨S4x8192x1024, .f32⟩
  | 56 => ⟨S_, .f32⟩
  | 57 => ⟨S4x8192, .f32⟩
  | 58 => ⟨S4x8192x1, .f32⟩
  | 59 => ⟨S_, .f32⟩
  | 60 => ⟨S4x8192x1, .f32⟩
  | 61 => ⟨S4x8192x1, .f32⟩
  | 62 => ⟨S_, .f32⟩
  | 63 => ⟨S4x8192x1, .f32⟩
  | 64 => ⟨S4x8192x1, .f32⟩
  | 65 => ⟨S4x8192x1, .f32⟩
  | 66 => ⟨S4x8192x1024, .f32⟩
  | 67 => ⟨S4x8192x1024, .f32⟩
  | 68 => ⟨S1x1x1024, .f32⟩
  | 69 => ⟨S4x8192x1024, .f32⟩
  | 70 => ⟨S4x8192x1024, .f32⟩
  | 71 => ⟨S_, .f32⟩
  | 72 => ⟨S4x1x1024, .f32⟩
  | 73 => ⟨S4x1x1024, .f32⟩
  | 74 => ⟨S4x8192x1024, .f32⟩
  | 75 => ⟨S4x8192x1024, .f32⟩
  | 76 => ⟨S4x8192x1024, .f32⟩
  | 77 => ⟨S4x8192x1024, .f32⟩
  | 78 => ⟨S4x8192x5632, .f32⟩
  | 79 => ⟨S4x8192x2816, .f32⟩
  | 80 => ⟨S4x8192x2816, .f32⟩
  | 81 => ⟨S_, .i32⟩
  | 82 => ⟨S_, .f32⟩
  | 83 => ⟨S4x8194x2816, .f32⟩
  | 84 => ⟨S1x2816, .f32⟩
  | 85 => ⟨S2816, .f32⟩
  | 86 => ⟨S4x8192x2816, .f32⟩
  | 87 => ⟨S1x1x2816, .f32⟩
  | 88 => ⟨S4x8192x2816, .f32⟩
  | 89 => ⟨S4x8192x2816, .f32⟩
  | 90 => ⟨S1x2816, .f32⟩
  | 91 => ⟨S2816, .f32⟩
  | 92 => ⟨S4x8192x2816, .f32⟩
  | 93 => ⟨S1x1x2816, .f32⟩
  | 94 => ⟨S4x8192x2816, .f32⟩
  | 95 => ⟨S4x8192x2816, .f32⟩
  | 96 => ⟨S4x8192x2816, .f32⟩
  | 97 => ⟨S1x2816, .f32⟩
  | 98 => ⟨S2816, .f32⟩
  | 99 => ⟨S4x8192x2816, .f32⟩
  | 100 => ⟨S1x1x2816, .f32⟩
  | 101 => ⟨S4x8192x2816, .f32⟩
  | 102 => ⟨S4x8192x2816, .f32⟩
  | 103 => ⟨S4x8192x2816, .f32⟩
  | 104 => ⟨S1x1x2816, .f32⟩
  | 105 => ⟨S4x8192x2816, .f32⟩
  | 106 => ⟨S4x8192x2816, .f32⟩
  | 107 => ⟨S4x8192x2816, .f32⟩
  | 108 => ⟨S4x8192x2816, .f32⟩
  | 109 => ⟨S_, .f32⟩
  | 110 => ⟨S4x8192x2816, .f32⟩
  | 111 => ⟨S4x8192x2816, .f32⟩
  | 112 => ⟨S_, .f32⟩
  | 113 => ⟨S4x8192x2816, .f32⟩
  | 114 => ⟨S4x8192x2816, .f32⟩
  | 115 => ⟨S4x8192x2816, .f32⟩
  | 116 => ⟨S4x8192x2816, .f32⟩
  | 117 => ⟨S4x8192x1024, .f32⟩
  | 118 => ⟨S4x8192x1024, .f32⟩
  | 119 => ⟨S4x8192x1024, .f32⟩
  | 120 => ⟨S4x8192x1024, .f32⟩
  | 121 => ⟨S4x8192x1024, .f32⟩
  | 122 => ⟨S_, .f32⟩
  | 123 => ⟨S4x8192, .f32⟩
  | 124 => ⟨S4x8192x1, .f32⟩
  | 125 => ⟨S_, .f32⟩
  | 126 => ⟨S4x8192x1, .f32⟩
  | 127 => ⟨S4x8192x1, .f32⟩
  | _ => ⟨S4x8192x1024, .f32⟩

abbrev hbmTy0_1 (i : Nat) : BufTy := match i % 128 with
  | 0 => ⟨S_, .f32⟩
  | 1 => ⟨S4x8192x1, .f32⟩
  | 2 => ⟨S4x8192x1, .f32⟩
  | 3 => ⟨S4x8192x1, .f32⟩
  | 4 => ⟨S4x8192x1024, .f32⟩
  | 5 => ⟨S4x8192x1024, .f32⟩
  | 6 => ⟨S1x1x1024, .f32⟩
  | 7 => ⟨S4x8192x1024, .f32⟩
  | 8 => ⟨S4x8192x1024, .f32⟩
  | _ => ⟨S4x8192x1024, .f32⟩

abbrev hbmTy (i : Nat) : BufTy := match i / 128 with
  | 0 => hbmTy0_0 i
  | 1 => hbmTy0_1 i
  | _ => ⟨S4x8192x1024, .f32⟩

abbrev bufTy : (tb : Table) → Fin (tcTables nBuf tb) → BufTy
  | .hbm, ⟨i, _⟩ => hbmTy i
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_cst : Ref sig .tc := ⟨.hbm, 24, rfl⟩
abbrev main_v10 : Ref sig .tc := ⟨.hbm, 25, rfl⟩
abbrev main_v11 : Ref sig .tc := ⟨.hbm, 26, rfl⟩
abbrev main_cst_0 : Ref sig .tc := ⟨.hbm, 27, rfl⟩
abbrev main_v12 : Ref sig .tc := ⟨.hbm, 28, rfl⟩
abbrev main_v13 : Ref sig .tc := ⟨.hbm, 29, rfl⟩
abbrev main_cst_1 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_call0_v0 : Ref sig .tc := ⟨.hbm, 40, rfl⟩
abbrev main_call0_v1 : Ref sig .tc := ⟨.hbm, 41, rfl⟩
abbrev main_call0_cst : Ref sig .tc := ⟨.hbm, 42, rfl⟩
abbrev main_call0_v2 : Ref sig .tc := ⟨.hbm, 43, rfl⟩
abbrev main_call0_v3 : Ref sig .tc := ⟨.hbm, 44, rfl⟩
abbrev main_call0_cst_0 : Ref sig .tc := ⟨.hbm, 45, rfl⟩
abbrev main_call0_v4 : Ref sig .tc := ⟨.hbm, 46, rfl⟩
abbrev main_call0_v5 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_cst_2 : Ref sig .tc := ⟨.hbm, 56, rfl⟩
abbrev main_v31 : Ref sig .tc := ⟨.hbm, 57, rfl⟩
abbrev main_v32 : Ref sig .tc := ⟨.hbm, 58, rfl⟩
abbrev main_cst_3 : Ref sig .tc := ⟨.hbm, 59, rfl⟩
abbrev main_v33 : Ref sig .tc := ⟨.hbm, 60, rfl⟩
abbrev main_v34 : Ref sig .tc := ⟨.hbm, 61, rfl⟩
abbrev main_cst_4 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_cst_5 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_c : Ref sig .tc := ⟨.hbm, 81, rfl⟩
abbrev main_call1_v0 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_call2_v0 : Ref sig .tc := ⟨.hbm, 107, rfl⟩
abbrev main_call2_v1 : Ref sig .tc := ⟨.hbm, 108, rfl⟩
abbrev main_call2_cst : Ref sig .tc := ⟨.hbm, 109, rfl⟩
abbrev main_call2_v2 : Ref sig .tc := ⟨.hbm, 110, rfl⟩
abbrev main_call2_v3 : Ref sig .tc := ⟨.hbm, 111, rfl⟩
abbrev main_call2_cst_0 : Ref sig .tc := ⟨.hbm, 112, rfl⟩
abbrev main_call2_v4 : Ref sig .tc := ⟨.hbm, 113, rfl⟩
abbrev main_call2_v5 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_cst_6 : Ref sig .tc := ⟨.hbm, 122, rfl⟩
abbrev main_v83 : Ref sig .tc := ⟨.hbm, 123, rfl⟩
abbrev main_v84 : Ref sig .tc := ⟨.hbm, 124, rfl⟩
abbrev main_cst_7 : Ref sig .tc := ⟨.hbm, 125, rfl⟩
abbrev main_v85 : Ref sig .tc := ⟨.hbm, 126, rfl⟩
abbrev main_v86 : Ref sig .tc := ⟨.hbm, 127, rfl⟩
abbrev main_cst_8 : Ref sig .tc := ⟨.hbm, 128, rfl⟩
abbrev main_v87 : Ref sig .tc := ⟨.hbm, 129, rfl⟩
abbrev main_v88 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩

abbrev nD : Nat := 1
abbrev τ : Topo := Topo.v7x

variable {F : FTy → Type} [FloatOps F]
-- ==== Proj.lean ====
abbrev S4x8192x1024 : Shape := ⟨3, ![4, 8192, 1024]⟩
abbrev S4x1x6144 : Shape := ⟨3, ![4, 1, 6144]⟩
abbrev S1024 : Shape := ⟨1, ![1024]⟩
abbrev S1024x2592 : Shape := ⟨2, ![1024, 2592]⟩
abbrev S1x1024 : Shape := ⟨2, ![1, 1024]⟩
abbrev S4x8192x512 : Shape := ⟨3, ![4, 8192, 512]⟩
abbrev S4x8192x256 : Shape := ⟨3, ![4, 8192, 256]⟩
abbrev S4x8192x32 : Shape := ⟨3, ![4, 8192, 32]⟩
abbrev S1x1024x1024 : Shape := ⟨3, ![1, 1024, 1024]⟩
abbrev S1x1x6144 : Shape := ⟨3, ![1, 1, 6144]⟩
abbrev S1x1024x512 : Shape := ⟨3, ![1, 1024, 512]⟩
abbrev S1x1024x256 : Shape := ⟨3, ![1, 1024, 256]⟩
abbrev S1x1024x32 : Shape := ⟨3, ![1, 1024, 32]⟩
abbrev S1x6144 : Shape := ⟨2, ![1, 6144]⟩
abbrev S1x256x1024 : Shape := ⟨3, ![1, 256, 1024]⟩
abbrev S256x1024 : Shape := ⟨2, ![256, 1024]⟩
abbrev S256 : Shape := ⟨1, ![256]⟩
abbrev S256x1 : Shape := ⟨2, ![256, 1]⟩
abbrev S1024x512 : Shape := ⟨2, ![1024, 512]⟩
abbrev S1024x256 : Shape := ⟨2, ![1024, 256]⟩
abbrev S1024x32 : Shape := ⟨2, ![1024, 32]⟩
abbrev S256x512 : Shape := ⟨2, ![256, 512]⟩
abbrev S256x256 : Shape := ⟨2, ![256, 256]⟩
abbrev S1x256x512 : Shape := ⟨3, ![1, 256, 512]⟩
abbrev S1x256x256 : Shape := ⟨3, ![1, 256, 256]⟩
abbrev S256x32 : Shape := ⟨2, ![256, 32]⟩
abbrev S1x256x32 : Shape := ⟨3, ![1, 256, 32]⟩

abbrev nBuf : Space → Nat
  | .hbm => 11
  | .vmem => 18
  | .smem => 0
  | _ => 0

abbrev bufTy : (tb : Table) → Fin (tcTables nBuf tb) → BufTy
  | .hbm, ⟨0, _⟩ => ⟨S4x8192x1024, .f32⟩
  | .hbm, ⟨1, _⟩ => ⟨S4x1x6144, .f32⟩
  | .hbm, ⟨2, _⟩ => ⟨S1024, .f32⟩
  | .hbm, ⟨3, _⟩ => ⟨S1024x2592, .f32⟩
  | .hbm, ⟨4, _⟩ => ⟨S1x1024, .f32⟩
  | .hbm, ⟨5, _⟩ => ⟨S4x8192x512, .bf16⟩
  | .hbm, ⟨6, _⟩ => ⟨S4x8192x256, .bf16⟩
  | .hbm, ⟨7, _⟩ => ⟨S4x8192x256, .bf16⟩
  | .hbm, ⟨8, _⟩ => ⟨S4x8192x512, .bf16⟩
  | .hbm, ⟨9, _⟩ => ⟨S4x8192x512, .f32⟩
  | .hbm, ⟨10, _⟩ => ⟨S4x8192x32, .bf16⟩
  | .local _ .vmem, ⟨0, _⟩ => ⟨S1x1024x1024, .f32⟩
  | .local _ .vmem, ⟨1, _⟩ => ⟨S1x1024x1024, .f32⟩
  | .local _ .vmem, ⟨2, _⟩ => ⟨S1x1x6144, .f32⟩
  | .local _ .vmem, ⟨3, _⟩ => ⟨S1x1x6144, .f32⟩
  | .local _ .vmem, ⟨4, _⟩ => ⟨S1x1024, .f32⟩
  | .local _ .vmem, ⟨5, _⟩ => ⟨S1024x2592, .f32⟩
  | .local _ .vmem, ⟨6, _⟩ => ⟨S1x1024x512, .bf16⟩
  | .local _ .vmem, ⟨7, _⟩ => ⟨S1x1024x512, .bf16⟩
  | .local _ .vmem, ⟨8, _⟩ => ⟨S1x1024x256, .bf16⟩
  | .local _ .vmem, ⟨9, _⟩ => ⟨S1x1024x256, .bf16⟩
  | .local _ .vmem, ⟨10, _⟩ => ⟨S1x1024x256, .bf16⟩
  | .local _ .vmem, ⟨11, _⟩ => ⟨S1x1024x256, .bf16⟩
  | .local _ .vmem, ⟨12, _⟩ => ⟨S1x1024x512, .bf16⟩
  | .local _ .vmem, ⟨13, _⟩ => ⟨S1x1024x512, .bf16⟩
  | .local _ .vmem, ⟨14, _⟩ => ⟨S1x1024x512, .f32⟩
  | .local _ .vmem, ⟨15, _⟩ => ⟨S1x1024x512, .f32⟩
  | .local _ .vmem, ⟨16, _⟩ => ⟨S1x1024x32, .bf16⟩
  | .local _ .vmem, ⟨17, _⟩ => ⟨S1x1024x32, .bf16⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev main_v1_4 : Ref sig .tc := ⟨.hbm, 9, rfl⟩
abbrev main_v1_5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x6144 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x2592 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1024x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1024x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1024x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1024x32 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== ProjRefIdeal.lean ====
abbrev S4x8192x1024 : Shape := ⟨3, ![4, 8192, 1024]⟩
abbrev S4x1x6144 : Shape := ⟨3, ![4, 1, 6144]⟩
abbrev S1024 : Shape := ⟨1, ![1024]⟩
abbrev S1024x2592 : Shape := ⟨2, ![1024, 2592]⟩
abbrev S4x1x1024 : Shape := ⟨3, ![4, 1, 1024]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S4x8192x2592 : Shape := ⟨3, ![4, 8192, 2592]⟩
abbrev S4x8192x512 : Shape := ⟨3, ![4, 8192, 512]⟩
abbrev S4x8192x256 : Shape := ⟨3, ![4, 8192, 256]⟩
abbrev S4x8192x32 : Shape := ⟨3, ![4, 8192, 32]⟩

abbrev nBuf : Space → Nat
  | .hbm => 55
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S4x1x6144, .f32⟩
  | .hbm, ⟨2, _⟩ => ⟨S1024, .f32⟩
  | .hbm, ⟨3, _⟩ => ⟨S1024x2592, .f32⟩
  | .hbm, ⟨4, _⟩ => ⟨S4x1x1024, .f32⟩
  | .hbm, ⟨5, _⟩ => ⟨S4x1x1024, .f32⟩
  | .hbm, ⟨6, _⟩ => ⟨S4x1x1024, .f32⟩
  | .hbm, ⟨7, _⟩ => ⟨S4x1x1024, .f32⟩
  | .hbm, ⟨8, _⟩ => ⟨S4x1x1024, .f32⟩
  | .hbm, ⟨9, _⟩ => ⟨S4x1x1024, .f32⟩
  | .hbm, ⟨10, _⟩ => ⟨S4x8192x1024, .f32⟩
  | .hbm, ⟨11, _⟩ => ⟨S_, .f32⟩
  | .hbm, ⟨12, _⟩ => ⟨S4x8192, .f32⟩
  | .hbm, ⟨13, _⟩ => ⟨S4x8192x1, .f32⟩
  | .hbm, ⟨14, _⟩ => ⟨S_, .f32⟩
  | .hbm, ⟨15, _⟩ => ⟨S4x8192x1, .f32⟩
  | .hbm, ⟨16, _⟩ => ⟨S4x8192x1, .f32⟩
  | .hbm, ⟨17, _⟩ => ⟨S_, .f32⟩
  | .hbm, ⟨18, _⟩ => ⟨S4x8192x1, .f32⟩
  | .hbm, ⟨19, _⟩ => ⟨S4x8192x1, .f32⟩
  | .hbm, ⟨20, _⟩ => ⟨S4x8192x1, .f32⟩
  | .hbm, ⟨21, _⟩ => ⟨S4x8192x1024, .f32⟩
  | .hbm, ⟨22, _⟩ => ⟨S4x8192x1024, .f32⟩
  | .hbm, ⟨23, _⟩ => ⟨S1x1x1024, .f32⟩
  | .hbm, ⟨24, _⟩ => ⟨S4x8192x1024, .f32⟩
  | .hbm, ⟨25, _⟩ => ⟨S4x8192x1024, .f32⟩
  | .hbm, ⟨26, _⟩ => ⟨S_, .f32⟩
  | .hbm, ⟨27, _⟩ => ⟨S4x1x1024, .f32⟩
  | .hbm, ⟨28, _⟩ => ⟨S4x1x1024, .f32⟩
  | .hbm, ⟨29, _⟩ => ⟨S4x8192x1024, .f32⟩
  | .hbm, ⟨30, _⟩ => ⟨S4x8192x1024, .f32⟩
  | .hbm, ⟨31, _⟩ => ⟨S4x8192x1024, .f32⟩
  | .hbm, ⟨32, _⟩ => ⟨S4x8192x1024, .f32⟩
  | .hbm, ⟨33, _⟩ => ⟨S4x8192x2592, .f32⟩
  | .hbm, ⟨34, _⟩ => ⟨S4x8192x512, .f32⟩
  | .hbm, ⟨35, _⟩ => ⟨S4x8192x512, .f32⟩
  | .hbm, ⟨36, _⟩ => ⟨S4x8192x256, .f32⟩
  | .hbm, ⟨37, _⟩ => ⟨S4x8192x256, .f32⟩
  | .hbm, ⟨38, _⟩ => ⟨S4x8192x512, .f32⟩
  | .hbm, ⟨39, _⟩ => ⟨S4x8192x512, .f32⟩
  | .hbm, ⟨40, _⟩ => ⟨S4x8192x32, .f32⟩
  | .hbm, ⟨41, _⟩ => ⟨S4x8192x512, .f32⟩
  | .hbm, ⟨42, _⟩ => ⟨S4x8192x512, .f32⟩
  | .hbm, ⟨43, _⟩ => ⟨S_, .f32⟩
  | .hbm, ⟨44, _⟩ => ⟨S4x8192x512, .f32⟩
  | .hbm, ⟨45, _⟩ => ⟨S4x8192x512, .f32⟩
  | .hbm, ⟨46, _⟩ => ⟨S_, .f32⟩
  | .hbm, ⟨47, _⟩ => ⟨S4x8192x512, .f32⟩
  | .hbm, ⟨48, _⟩ => ⟨S4x8192x512, .f32⟩
  | .hbm, ⟨49, _⟩ => ⟨S4x8192x512, .f32⟩
  | .hbm, ⟨50, _⟩ => ⟨S4x8192x512, .bf16⟩
  | .hbm, ⟨51, _⟩ => ⟨S4x8192x256, .bf16⟩
  | .hbm, ⟨52, _⟩ => ⟨S4x8192x256, .bf16⟩
  | .hbm, ⟨53, _⟩ => ⟨S4x8192x512, .bf16⟩
  | .hbm, ⟨54, _⟩ => ⟨S4x8192x32, .bf16⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_2 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_cst_3 : Ref sig .tc := ⟨.hbm, 43, rfl⟩
abbrev main_v35 : Ref sig .tc := ⟨.hbm, 44, rfl⟩
abbrev main_v36 : Ref sig .tc := ⟨.hbm, 45, rfl⟩
abbrev main_cst_4 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩

abbrev nD : Nat := 1
abbrev τ : Topo := Topo.v7x

variable {F : FTy → Type} [FloatOps F]
-- ==== Proof.GlaCall.Bits.lean ====
/- The frame of the printed GLA kernel at the bit-exact floats. The kernel and its idealization print the same text, so their
   `main` and their function tables are the same terms and the idealization's run, which holds for any float instance, is
   this one's run too. -/
module

public import proofs.«01_k».proof.Defs
public import proofs.«01_k».proof.Proof.Gen.Kernel
public import proofs.«01_k».proof.Proof.Gen.KernelIdeal.Frame

@[expose] public section

noncomputable section

namespace Cert.Proof.Gla

open Idealize.ShloMosaic Idealize.ShloMosaic.TcCoe Idealize.SL.Sem

set_option maxHeartbeats 6000000 in
/-- The two programs' tables of kernel bodies agree. -/
theorem bodies_eq : Cert.Kernel.defs₀ (F := Bits) = Cert.KernelIdeal.defs₀ (F := Bits) := by
  refine congrArg Defs.onTc ?_
  funext l a
  match l, a with
  | 0, (t, s) => rfl

set_option maxHeartbeats 6000000 in
/-- So do their tables of functions. -/
theorem defs_eq : Cert.Kernel.defs (F := Bits) = Cert.KernelIdeal.defs (F := Bits) :=
  congrArg (Pipeline.defs Cert.KernelIdeal.pcfgs) bodies_eq

set_option maxHeartbeats 6000000 in
/-- The printed kernel ends, with every semaphore at zero and its arguments unchanged. -/
theorem frame_bits : Cert.quiescent_Kernel := fun m ρ _ => by
  rw [defs_eq]
  exact Cert.KernelIdeal.Gen.frame (F := Bits) m ρ

end Cert.Proof.Gla

end
-- ==== Proof.GlaValue.Model.lean ====
/- The recurrence's body for one direction, with the chunk as a variable: what the generated words state chunk by chunk. -/
module

public import proofs.«01_k».proof.Proof.Gen.KernelIdeal.Value

@[expose] public section

set_option maxRecDepth 65536

noncomputable section

namespace Cert.Proof.Gla

open Idealize.ShloMosaic Idealize.ShloMosaic.TcCoe Cert.KernelIdeal Cert.KernelIdeal.Gen

variable {F : FTy → Type} [FloatOps F]

theorem slices_rows (c : Fin 32) : S2048x256.Slices ![64 * c.val, 0] S64x256 := by revert c; decide
theorem slices_wide (c : Fin 32) (p : Fin 2) : S2048x512.Slices ![64 * c.val, 256 * p.val] S64x256 := by revert c p; decide
theorem slices_lanes (c : Fin 32) (p : Fin 2) : S2048x256.Slices ![64 * c.val, 128 * p.val] S64x128 := by revert c p; decide
theorem slices_last (l : Fin 64) : S64x256.Slices ![l.val, 0] S1x256 := by revert l; decide
theorem slices_half (s : Fin 2) : S64x256.Slices ![0, 128 * s.val] S64x128 := by revert s; decide
theorem slices_decay (p : Fin 2) : S256x128.Slices ![128 * p.val, 0] S128x128 := by revert p; decide
theorem slices_decayHead (s : Fin 2) : S128x128.Slices ![64 * s.val, 0] S64x128 := by revert s; decide
theorem slices_kv (s : Fin 2) : S128x256.Slices ![64 * s.val, 128 * s.val] S64x128 := by revert s; decide
theorem concats_rows {α : Type} (f : Fin 32 → S64x256.Idx → α) :
    Shape.Concatenates ((List.ofFn fun c => (⟨S64x256, f c⟩ : (s : Shape) × (s.Idx → α))).map (·.1)) S2048x256 0 := by
  rw [List.map_ofFn]; exact (by decide : Shape.Concatenates (List.ofFn fun _ : Fin 32 => S64x256) S2048x256 0)

/-- The gates of a block: `k0_pay11` of its logits. -/
def gateHi (w : Vec F S32x256 .bf16) (b : Vec F S1x256 .f32) (z : Vec F S1x2048x32 .bf16) : FVec F S2048x256 .bf16 :=
  truncf .bf16 (k0_pay11 w b z) bitsLt_bf16_f32
def gateLo (w : Vec F S32x256 .bf16) (b : Vec F S1x256 .f32) (z : Vec F S1x2048x32 .bf16) : FVec F S2048x256 .bf16 :=
  truncf .bf16 (subf (k0_pay11 w b z) (extf .f32 (gateHi w b z) bitsLt_bf16_f32)) bitsLt_bf16_f32

/-- Chunk `c`'s running sums of the gates. -/
def sums (tri : FVec F S64x64 .bf16) (w : Vec F S32x256 .bf16) (b : Vec F S1x256 .f32) (z : Vec F S1x2048x32 .bf16)
    (c : Fin 32) : FVec F S64x256 .f32 :=
  addf
    (matmul dot_S64x64_S64x256_S64x256_1_0_0_1_n_n none tri
      (extractStridedSlice S64x256 ![64 * c.val, 0] (gateHi w b z) (slices_rows c)) (constant S64x256 .f32 0x00000000#32))
    (matmul dot_S64x64_S64x256_S64x256_1_0_0_1_n_n none tri
      (extractStridedSlice S64x256 ![64 * c.val, 0] (gateLo w b z) (slices_rows c)) (constant S64x256 .f32 0x00000000#32))

/-- The chunk's whole sum. -/
def total (tri : FVec F S64x64 .bf16) (l : Fin 64) (w : Vec F S32x256 .bf16) (b : Vec F S1x256 .f32)
    (z : Vec F S1x2048x32 .bf16) (c : Fin 32) : FVec F S1x256 .f32 :=
  extractStridedSlice S1x256 ![l.val, 0] (sums tri w b z c) (slices_last l)

def totalRows (tri : FVec F S64x64 .bf16) (l : Fin 64) (w : Vec F S32x256 .bf16) (b : Vec F S1x256 .f32)
    (z : Vec F S1x2048x32 .bf16) (c : Fin 32) : FVec F S64x256 .f32 :=
  broadcastTo S64x256 (shapeCast S1x256 (total tri l w b z c) shapeCasts_S1x256_S1x256) broadcasts_S1x256_S64x256

/-- The chunk's decay, one row for each key channel. -/
def decay (tri : FVec F S64x64 .bf16) (l : Fin 64) (w : Vec F S32x256 .bf16) (b : Vec F S1x256 .f32)
    (z : Vec F S1x2048x32 .bf16) (c : Fin 32) : FVec F S256x128 .f32 :=
  transpose S256x128 [1, 0]
    (broadcastTo S128x256 (shapeCast S1x256 (exp (total tri l w b z c)) shapeCasts_S1x256_S1x256) broadcasts_S1x256_S128x256)
    transposes_S128x256_p1_0_S256x128

def allSums (tri : FVec F S64x64 .bf16) (w : Vec F S32x256 .bf16) (b : Vec F S1x256 .f32) (z : Vec F S1x2048x32 .bf16) :
    FVec F S2048x256 .f32 :=
  concatenate S2048x256 0 (List.ofFn fun c => ⟨S64x256, sums tri w b z c⟩) (concats_rows _)

def allTotals (tri : FVec F S64x64 .bf16) (l : Fin 64) (w : Vec F S32x256 .bf16) (b : Vec F S1x256 .f32)
    (z : Vec F S1x2048x32 .bf16) : FVec F S2048x256 .f32 :=
  concatenate S2048x256 0 (List.ofFn fun c => ⟨S64x256, totalRows tri l w b z c⟩) (concats_rows _)

/-- The queries with the gates' growth, the keys with their inverse, and the keys carried to the chunk's end. -/
def qe (tri : FVec F S64x64 .bf16) (w : Vec F S32x256 .bf16) (b : Vec F S1x256 .f32) (z : Vec F S1x2048x32 .bf16)
    (q : Vec F S1x2048x256 .bf16) : FVec F S2048x256 .bf16 :=
  truncf .bf16 (mulf (mulf (extf .f32 (shapeCast S2048x256 q shapeCasts_S1x2048x256_S2048x256 : FVec F S2048x256 .bf16)
    bitsLt_bf16_f32) (broadcast S2048x256 (Scalar.ofBits .f32 0x3E000000#32))) (exp (allSums tri w b z))) bitsLt_bf16_f32
def ke (tri : FVec F S64x64 .bf16) (w : Vec F S32x256 .bf16) (b : Vec F S1x256 .f32) (z : Vec F S1x2048x32 .bf16)
    (k : Vec F S1x2048x256 .bf16) : FVec F S2048x256 .f32 :=
  mulf (k0_pay149 k) (exp (subf (broadcast S2048x256 (Scalar.ofBits .f32 0x00000000#32)) (allSums tri w b z)))
def kt (tri : FVec F S64x64 .bf16) (l : Fin 64) (w : Vec F S32x256 .bf16) (b : Vec F S1x256 .f32)
    (z : Vec F S1x2048x32 .bf16) (k : Vec F S1x2048x256 .bf16) : FVec F S2048x256 .bf16 :=
  truncf .bf16 (mulf (k0_pay149 k) (exp (subf (allTotals tri l w b z) (allSums tri w b z)))) bitsLt_bf16_f32

/-- The values of chunk `c`, heads `2p` and `2p + 1`. -/
def vp (v : Vec F S1x2048x512 .bf16) (c : Fin 32) (p : Fin 2) : FVec F S64x256 .bf16 :=
  extractStridedSlice S64x256 ![64 * c.val, 256 * p.val] (k0_pay153 v) (slices_wide c p)

/-- The scores inside a chunk. -/
def scores (keep : IVec S64x128 1) (qe : FVec F S2048x256 .bf16) (ke : FVec F S2048x256 .f32) (c : Fin 32) (p : Fin 2) :
    FVec F S64x128 .bf16 :=
  truncf .bf16
    (select keep
      (matmul dot_S64x128_S128x128_S64x128_1_1_0_0_n_n none
        (extractStridedSlice S64x128 ![64 * c.val, 128 * p.val] qe (slices_lanes c p))
        (truncf .bf16
          (concatenate S128x128 0
            [⟨S64x128, select k0_pay9 (extractStridedSlice S64x128 ![64 * c.val, 128 * p.val] ke (slices_lanes c p))
                (broadcast S64x128 (Scalar.ofBits .f32 0x00000000#32))⟩,
              ⟨S64x128, select k0_pay9 (broadcast S64x128 (Scalar.ofBits .f32 0x00000000#32))
                (extractStridedSlice S64x128 ![64 * c.val, 128 * p.val] ke (slices_lanes c p))⟩]
            concatenates_S64x128_S64x128_S128x128_d0 : FVec F S128x128 .f32) bitsLt_bf16_f32)
        (constant S64x128 .f32 0x00000000#32))
      (broadcast S64x128 (Scalar.ofBits .f32 0x00000000#32) : FVec F S64x128 .f32)) bitsLt_bf16_f32

/-- Two heads' parts on the diagonal of a block. -/
def diag {e : FTy} (zero x y : FVec F S64x128 e) : FVec F S128x256 e :=
  concatenate S128x256 0
    [⟨S64x256, concatenate S64x256 1 [⟨S64x128, x⟩, ⟨S64x128, zero⟩] concatenates_S64x128_S64x128_S64x256_d1⟩,
      ⟨S64x256, concatenate S64x256 1 [⟨S64x128, zero⟩, ⟨S64x128, y⟩] concatenates_S64x128_S64x128_S64x256_d1⟩]
    concatenates_S64x256_S64x256_S128x256_d0

def kv (kt : FVec F S2048x256 .bf16) (v : Vec F S1x2048x512 .bf16) (c : Fin 32) (p : Fin 2) : FVec F S128x256 .f32 :=
  matmul dot_S64x128_S64x256_S128x256_0_0_1_1_n_n none
    (extractStridedSlice S64x128 ![64 * c.val, 128 * p.val] kt (slices_lanes c p)) (vp v c p)
    (constant S128x256 .f32 0x00000000#32)

/-- One chunk's step of the four heads' states. -/
def step (decay : Fin 32 → FVec F S256x128 .f32) (kv : Fin 32 → Fin 2 → FVec F S128x256 .f32) (c : Fin 32)
    (s : Fin 2 → Fin 2 → FVec F S64x128 .f32) (p e : Fin 2) : FVec F S64x128 .f32 :=
  addf
    (mulf (extractStridedSlice S64x128 ![64 * e.val, 0]
      (extractStridedSlice S128x128 ![128 * p.val, 0] (decay c) (slices_decay p)) (slices_decayHead e)) (s p e))
    (extractStridedSlice S64x128 ![64 * e.val, 128 * e.val] (kv c p) (slices_kv e))

/-- The states after `n` chunks, taken in the order `ord`. -/
def states (ord : Fin 32 → Fin 32) (decay : Fin 32 → FVec F S256x128 .f32) (kv : Fin 32 → Fin 2 → FVec F S128x256 .f32)
    (s0 : Fin 2 → Fin 2 → FVec F S64x128 .f32) : ℕ → Fin 2 → Fin 2 → FVec F S64x128 .f32
  | 0 => s0
  | n + 1 => step decay kv (ord (Fin.ofNat 32 n)) (states ord decay kv s0 n)

/-- A chunk's outputs of two heads, from the states before it. -/
def outPair (qe : FVec F S2048x256 .bf16) (a : FVec F S64x128 .bf16) (vp : FVec F S64x256 .bf16)
    (s : Fin 2 → FVec F S64x128 .f32) (c : Fin 32) (p : Fin 2) : FVec F S1x64x256 .f32 :=
  shapeCast S1x64x256
    (matmul dot_S64x256_S256x256_S64x256_1_0_0_1_n_n none
      (concatenate S64x256 1
        [⟨S64x128, extractStridedSlice S64x128 ![64 * c.val, 128 * p.val] qe (slices_lanes c p)⟩, ⟨S64x128, a⟩]
        concatenates_S64x128_S64x128_S64x256_d1 : FVec F S64x256 .bf16)
      (concatenate S256x256 0
        [⟨S128x256, truncf .bf16 (diag (k0_pay445 (F := F)) (s 0) (s 1)) bitsLt_bf16_f32⟩,
          ⟨S128x256, diag (k0_pay10 (F := F))
            (extractStridedSlice S64x128 ![0, 0] vp (slices_half 0)) (extractStridedSlice S64x128 ![0, 128] vp (slices_half 1))⟩]
        concatenates_S128x256_S128x256_S256x256_d0)
      (constant S64x256 .f32 0x00000000#32 : FVec F S64x256 .f32))
    shapeCasts_S64x256_S1x64x256

/-- What a direction reads: the gate's weight, bias and logits, the queries, the keys, the values, and the states before. -/
structure Ins (F : FTy → Type) where
  w : Vec F S32x256 .bf16
  b : Vec F S1x256 .f32
  z : Vec F S1x2048x32 .bf16
  q : Vec F S1x2048x256 .bf16
  k : Vec F S1x2048x256 .bf16
  v : Vec F S1x2048x512 .bf16
  s : Fin 4 → Vec F S1x64x128 .f32

/-- The two directions: the mask of the running sums, the mask of the scores, the chunk's last row and the chunks' order. -/
structure Dir (F : FTy → Type) where
  tri : FVec F S64x64 .bf16
  keep : IVec S64x128 1
  l : Fin 64
  ord : Fin 32 → Fin 32

def fwd : Dir F := ⟨k0_pay7, k0_pay8, 63, id⟩
def bwd : Dir F := ⟨k0_pay736, k0_pay737, 0, fun c => ⟨31 - c.val, by omega⟩⟩

/-- The states of a block after `n` of its chunks. -/
def blockStates (d : Dir F) (x : Ins F) (n : ℕ) : Fin 2 → Fin 2 → FVec F S64x128 .f32 :=
  states d.ord (decay d.tri d.l x.w x.b x.z) (kv (kt d.tri d.l x.w x.b x.z x.k) x.v)
    (fun p e => shapeCast S64x128 (x.s ⟨2 * p.val + e.val, by omega⟩) shapeCasts_S1x64x128_S64x128) n

/-- The outputs of the block's `n`-th chunk. -/
def blockOut (d : Dir F) (x : Ins F) (n : Fin 32) (p : Fin 2) : FVec F S1x64x256 .f32 :=
  outPair (qe d.tri x.w x.b x.z x.q)
    (scores d.keep (qe d.tri x.w x.b x.z x.q) (ke d.tri x.w x.b x.z x.k) (d.ord n) p)
    (vp x.v (d.ord n) p) (blockStates d x n.val p) (d.ord n) p

theorem inb_out (c : Fin 32) (p : Fin 2) :
    ∀ a, ![0, 64 * c.val, 256 * p.val] a + S1x64x256.size a ≤ S1x2048x512.size a := by revert c p; decide
theorem inb_state (h : Fin 4) : ∀ a, ![h.val, 0, 0] a + S1x64x128.size a ≤ S4x64x128.size a := by revert h; decide

/-- A block's stores, last first. -/
def stores (d : Dir F) (x : Ins F) : List (View.Piece (Elt F) S1x2048x512 .f32) :=
  List.ofFn fun i : Fin 64 =>
    ⟨Rect.unit ![0, 64 * (d.ord ⟨31 - i.val / 2, by omega⟩).val, 256 * (⟨1 - i.val % 2, by omega⟩ : Fin 2).val] S1x64x256.size
        (inb_out _ _),
      blockOut d x ⟨31 - i.val / 2, by omega⟩ ⟨1 - i.val % 2, by omega⟩⟩

end Cert.Proof.Gla

end
-- ==== Proof.GlaValue.Words.lean ====
/- The generated words of a grid point, case by case, as the recurrence's stores: what the outputs and the scratch are given. -/
module

public import proofs.«01_k».proof.Proof.GlaValue.Model
public import Idealize.ShloMosaic.Lib.Pipeline.ValueKit

@[expose] public section

set_option maxRecDepth 65536
set_option maxHeartbeats 4000000

noncomputable section

namespace Cert.Proof.Gla

open Idealize.ShloMosaic Idealize.ShloMosaic.TcCoe Cert.KernelIdeal Cert.KernelIdeal.Gen

section
variable (c : Dev nD) (i : grid0.Coords) (arg2 : Memref sig .tc .vmem S1x2048x256 .bf16) (harg2 : arg2.IsWhole) (arg3 : Memref sig .tc .vmem S1x2048x256 .bf16) (harg3 : arg3.IsWhole) (arg4 : Memref sig .tc .vmem S1x2048x512 .bf16) (harg4 : arg4.IsWhole) (arg5 : Memref sig .tc .vmem S1x2048x32 .bf16) (harg5 : arg5.IsWhole) (arg6 : Memref sig .tc .vmem S1x2048x256 .bf16) (harg6 : arg6.IsWhole) (arg7 : Memref sig .tc .vmem S1x2048x256 .bf16) (harg7 : arg7.IsWhole) (arg8 : Memref sig .tc .vmem S1x2048x512 .bf16) (harg8 : arg8.IsWhole) (arg9 : Memref sig .tc .vmem S1x2048x32 .bf16) (harg9 : arg9.IsWhole) (arg10 : Memref sig .tc .vmem S32x256 .bf16) (harg10 : arg10.IsWhole) (arg11 : Memref sig .tc .vmem S1x256 .f32) (harg11 : arg11.IsWhole) (arg12 : Memref sig .tc .vmem S32x256 .bf16) (harg12 : arg12.IsWhole) (arg13 : Memref sig .tc .vmem S1x256 .f32) (harg13 : arg13.IsWhole) (arg14 : Memref sig .tc .vmem S1x4x64x128 .f32) (harg14 : arg14.IsWhole) (arg15 : Memref sig .tc .vmem S1x4x64x128 .f32) (harg15 : arg15.IsWhole) (arg16 : Memref sig .tc .vmem S1x2048x512 .f32) (harg16 : arg16.IsWhole) (arg17 : Memref sig .tc .vmem S1x2048x512 .f32) (harg17 : arg17.IsWhole) (arg18 : Memref sig .tc .vmem S1x4x64x128 .f32) (harg18 : arg18.IsWhole) (arg19 : Memref sig .tc .vmem S1x4x64x128 .f32) (harg19 : arg19.IsWhole) (arg20 : Memref sig .tc .vmem S4x64x128 .f32) (harg20 : arg20.IsWhole) (arg21 : Memref sig .tc .vmem S4x64x128 .f32) (harg21 : arg21.IsWhole)
  (x0 : Vec Ideal S1x2048x256 .bf16) (x1 : Vec Ideal S1x2048x256 .bf16) (x2 : Vec Ideal S1x2048x512 .bf16) (x3 : Vec Ideal S1x2048x32 .bf16) (x4 : Vec Ideal S1x2048x256 .bf16) (x5 : Vec Ideal S1x2048x256 .bf16) (x6 : Vec Ideal S1x2048x512 .bf16) (x7 : Vec Ideal S1x2048x32 .bf16) (x8 : Vec Ideal S32x256 .bf16) (x9 : Vec Ideal S1x256 .f32) (x10 : Vec Ideal S32x256 .bf16) (x11 : Vec Ideal S1x256 .f32) (x12 : Vec Ideal S1x4x64x128 .f32) (x13 : Vec Ideal S1x4x64x128 .f32) (xs0 xs1 : Vec Ideal S4x64x128 .f32)

/-- The four heads' states stored back after a block, last first. -/
def storesBack (s : Fin 2 → Fin 2 → FVec Ideal S64x128 .f32) : List (View.Piece (Elt Ideal) S4x64x128 .f32) :=
  List.ofFn fun i : Fin 4 =>
    ⟨Rect.unit (s := S4x64x128) ![(⟨3 - i.val, by omega⟩ : Fin 4).val, 0, 0] S1x64x128.size (inb_state _),
      shapeCast S1x64x128 (s ⟨(3 - i.val) / 2, by omega⟩ ⟨(3 - i.val) % 2, by omega⟩) shapeCasts_S64x128_S1x64x128⟩

/-- The states written out are those in the scratch. -/
theorem last_of (a : View sig .tc .vmem S4x64x128 .f32) (L : List (View.Piece (Elt Ideal) S4x64x128 .f32)) (h : Fin 4) (j : Fin 64)
    (y : Fin 128) :
    View.canon [(⟨Rect.unit (s := S1x4x64x128) ![0, 0, 0, 0] S1x4x64x128.size inb_S1x4x64x128_S1x4x64x128_0_0_0_0,
      k0_pay3 (a.readCov L (Rect.unit (s := S4x64x128) ![0, 0, 0] S4x64x128.size inb_S4x64x128_S4x64x128_0_0_0).toLoadRect)⟩
        : View.Piece (Elt Ideal) S1x4x64x128 .f32)] (ix4 0 h j y) = View.canon L (ix3 h j y) := by
  rw [View.canon_cons_unit_lit' _ _ _ (by decide), View.readCov_eq_canon']
  pointwise [k0_pay3]

theorem out_A0 (hc0 : cond0_0 i) (hc1 : ¬cond0_1 i) : out0_A_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 x13
   = View.canon (stores fwd ⟨(arg10.view.readAt (Elt Ideal) (Rect.unit ![0, 0] S32x256.size inb_S32x256_S32x256_0_0).toLoadRect (harg10.unread x8)), (arg11.view.readAt (Elt Ideal) (Rect.unit ![0, 0] S1x256.size inb_S1x256_S1x256_0_0).toLoadRect (harg11.unread x9)), (arg5.view.readAt (Elt Ideal) (Rect.unit ![0, 0, 0] S1x2048x32.size inb_S1x2048x32_S1x2048x32_0_0_0).toLoadRect (harg5.unread x3)), (arg2.view.readAt (Elt Ideal) (Rect.unit ![0, 0, 0] S1x2048x256.size inb_S1x2048x256_S1x2048x256_0_0_0).toLoadRect (harg2.unread x0)), (arg3.view.readAt (Elt Ideal) (Rect.unit ![0, 0, 0] S1x2048x256.size inb_S1x2048x256_S1x2048x256_0_0_0).toLoadRect (harg3.unread x1)), (arg4.view.readAt (Elt Ideal) (Rect.unit ![0, 0, 0] S1x2048x512.size inb_S1x2048x512_S1x2048x512_0_0_0).toLoadRect (harg4.unread x2)), fun h => arg20.view.readCov (kernelRun0_A.sl.HS0_1 c arg14 harg14 x12) (Rect.unit (s := S4x64x128) ![h.val, 0, 0] S1x64x128.size (inb_state h)).toLoadRect⟩) :=
  (View.read_writes_junk_eq_canon _ _).trans (congrArg View.canon (by sl_kernel_rfl))

theorem back_A0 (hc0 : cond0_0 i) (hc1 : ¬cond0_1 i) : sout0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 x13
   = View.canon (storesBack (blockStates fwd ⟨(arg10.view.readAt (Elt Ideal) (Rect.unit ![0, 0] S32x256.size inb_S32x256_S32x256_0_0).toLoadRect (harg10.unread x8)), (arg11.view.readAt (Elt Ideal) (Rect.unit ![0, 0] S1x256.size inb_S1x256_S1x256_0_0).toLoadRect (harg11.unread x9)), (arg5.view.readAt (Elt Ideal) (Rect.unit ![0, 0, 0] S1x2048x32.size inb_S1x2048x32_S1x2048x32_0_0_0).toLoadRect (harg5.unread x3)), (arg2.view.readAt (Elt Ideal) (Rect.unit ![0, 0, 0] S1x2048x256.size inb_S1x2048x256_S1x2048x256_0_0_0).toLoadRect (harg2.unread x0)), (arg3.view.readAt (Elt Ideal) (Rect.unit ![0, 0, 0] S1x2048x256.size inb_S1x2048x256_S1x2048x256_0_0_0).toLoadRect (harg3.unread x1)), (arg4.view.readAt (Elt Ideal) (Rect.unit ![0, 0, 0] S1x2048x512.size inb_S1x2048x512_S1x2048x512_0_0_0).toLoadRect (harg4.unread x2)), fun h => arg20.view.readCov (kernelRun0_A.sl.HS0_1 c arg14 harg14 x12) (Rect.unit (s := S4x64x128) ![h.val, 0, 0] S1x64x128.size (inb_state h)).toLoadRect⟩ 32) ++ kernelRun0_A.sl.HS0_1 c arg14 harg14 x12) :=
  (View.read_writes_junk_eq_canon _ _).trans (congrArg View.canon (by sl_kernel_rfl))

theorem out_A1 (hc0 : cond0_0 i) (hc1 : ¬cond0_1 i) : out0_A_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 x13
   = View.canon (stores bwd ⟨(arg12.view.readAt (Elt Ideal) (Rect.unit ![0, 0] S32x256.size inb_S32x256_S32x256_0_0).toLoadRect (harg12.unread x10)), (arg13.view.readAt (Elt Ideal) (Rect.unit ![0, 0] S1x256.size inb_S1x256_S1x256_0_0).toLoadRect (harg13.unread x11)), (arg9.view.readAt (Elt Ideal) (Rect.unit ![0, 0, 0] S1x2048x32.size inb_S1x2048x32_S1x2048x32_0_0_0).toLoadRect (harg9.unread x7)), (arg6.view.readAt (Elt Ideal) (Rect.unit ![0, 0, 0] S1x2048x256.size inb_S1x2048x256_S1x2048x256_0_0_0).toLoadRect (harg6.unread x4)), (arg7.view.readAt (Elt Ideal) (Rect.unit ![0, 0, 0] S1x2048x256.size inb_S1x2048x256_S1x2048x256_0_0_0).toLoadRect (harg7.unread x5)), (arg8.view.readAt (Elt Ideal) (Rect.unit ![0, 0, 0] S1x2048x512.size inb_S1x2048x512_S1x2048x512_0_0_0).toLoadRect (harg8.unread x6)), fun h => arg21.view.readCov (kernelRun0_A.sl.HS1_1 c arg15 harg15 x13) (Rect.unit (s := S4x64x128) ![h.val, 0, 0] S1x64x128.size (inb_state h)).toLoadRect⟩) :=
  (View.read_writes_junk_eq_canon _ _).trans (congrArg View.canon (by sl_kernel_rfl))

theorem back_A1 (hc0 : cond0_0 i) (hc1 : ¬cond0_1 i) : sout0_A_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 x13
   = View.canon (storesBack (blockStates bwd ⟨(arg12.view.readAt (Elt Ideal) (Rect.unit ![0, 0] S32x256.size inb_S32x256_S32x256_0_0).toLoadRect (harg12.unread x10)), (arg13.view.readAt (Elt Ideal) (Rect.unit ![0, 0] S1x256.size inb_S1x256_S1x256_0_0).toLoadRect (harg13.unread x11)), (arg9.view.readAt (Elt Ideal) (Rect.unit ![0, 0, 0] S1x2048x32.size inb_S1x2048x32_S1x2048x32_0_0_0).toLoadRect (harg9.unread x7)), (arg6.view.readAt (Elt Ideal) (Rect.unit ![0, 0, 0] S1x2048x256.size inb_S1x2048x256_S1x2048x256_0_0_0).toLoadRect (harg6.unread x4)), (arg7.view.readAt (Elt Ideal) (Rect.unit ![0, 0, 0] S1x2048x256.size inb_S1x2048x256_S1x2048x256_0_0_0).toLoadRect (harg7.unread x5)), (arg8.view.readAt (Elt Ideal) (Rect.unit ![0, 0, 0] S1x2048x512.size inb_S1x2048x512_S1x2048x512_0_0_0).toLoadRect (harg8.unread x6)), fun h => arg21.view.readCov (kernelRun0_A.sl.HS1_1 c arg15 harg15 x13) (Rect.unit (s := S4x64x128) ![h.val, 0, 0] S1x64x128.size (inb_state h)).toLoadRect⟩ 32) ++ kernelRun0_A.sl.HS1_1 c arg15 harg15 x13) :=
  (View.read_writes_junk_eq_canon _ _).trans (congrArg View.canon (by sl_kernel_rfl))

theorem out_B0 (hc0 : ¬cond0_0 i) (hc1 : ¬cond0_1 i) : out0_B_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 x13 xs0 xs1
   = View.canon (stores fwd ⟨(arg10.view.readAt (Elt Ideal) (Rect.unit ![0, 0] S32x256.size inb_S32x256_S32x256_0_0).toLoadRect (harg10.unread x8)), (arg11.view.readAt (Elt Ideal) (Rect.unit ![0, 0] S1x256.size inb_S1x256_S1x256_0_0).toLoadRect (harg11.unread x9)), (arg5.view.readAt (Elt Ideal) (Rect.unit ![0, 0, 0] S1x2048x32.size inb_S1x2048x32_S1x2048x32_0_0_0).toLoadRect (harg5.unread x3)), (arg2.view.readAt (Elt Ideal) (Rect.unit ![0, 0, 0] S1x2048x256.size inb_S1x2048x256_S1x2048x256_0_0_0).toLoadRect (harg2.unread x0)), (arg3.view.readAt (Elt Ideal) (Rect.unit ![0, 0, 0] S1x2048x256.size inb_S1x2048x256_S1x2048x256_0_0_0).toLoadRect (harg3.unread x1)), (arg4.view.readAt (Elt Ideal) (Rect.unit ![0, 0, 0] S1x2048x512.size inb_S1x2048x512_S1x2048x512_0_0_0).toLoadRect (harg4.unread x2)), fun h => arg20.view.readAt (Elt Ideal) (Rect.unit (s := S4x64x128) ![h.val, 0, 0] S1x64x128.size (inb_state h)).toLoadRect (harg20.unread xs0)⟩) :=
  (View.read_writes_junk_eq_canon _ _).trans (congrArg View.canon (by sl_kernel_rfl))

theorem back_B0 (hc0 : ¬cond0_0 i) (hc1 : ¬cond0_1 i) : sout0_B_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 x13 xs0 xs1
   = View.canon (storesBack (blockStates fwd ⟨(arg10.view.readAt (Elt Ideal) (Rect.unit ![0, 0] S32x256.size inb_S32x256_S32x256_0_0).toLoadRect (harg10.unread x8)), (arg11.view.readAt (Elt Ideal) (Rect.unit ![0, 0] S1x256.size inb_S1x256_S1x256_0_0).toLoadRect (harg11.unread x9)), (arg5.view.readAt (Elt Ideal) (Rect.unit ![0, 0, 0] S1x2048x32.size inb_S1x2048x32_S1x2048x32_0_0_0).toLoadRect (harg5.unread x3)), (arg2.view.readAt (Elt Ideal) (Rect.unit ![0, 0, 0] S1x2048x256.size inb_S1x2048x256_S1x2048x256_0_0_0).toLoadRect (harg2.unread x0)), (arg3.view.readAt (Elt Ideal) (Rect.unit ![0, 0, 0] S1x2048x256.size inb_S1x2048x256_S1x2048x256_0_0_0).toLoadRect (harg3.unread x1)), (arg4.view.readAt (Elt Ideal) (Rect.unit ![0, 0, 0] S1x2048x512.size inb_S1x2048x512_S1x2048x512_0_0_0).toLoadRect (harg4.unread x2)), fun h => arg20.view.readAt (Elt Ideal) (Rect.unit (s := S4x64x128) ![h.val, 0, 0] S1x64x128.size (inb_state h)).toLoadRect (harg20.unread xs0)⟩ 32)) :=
  (View.read_writes_junk_eq_canon _ _).trans (congrArg View.canon (by sl_kernel_rfl))

theorem out_B1 (hc0 : ¬cond0_0 i) (hc1 : ¬cond0_1 i) : out0_B_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 x13 xs0 xs1
   = View.canon (stores bwd ⟨(arg12.view.readAt (Elt Ideal) (Rect.unit ![0, 0] S32x256.size inb_S32x256_S32x256_0_0).toLoadRect (harg12.unread x10)), (arg13.view.readAt (Elt Ideal) (Rect.unit ![0, 0] S1x256.size inb_S1x256_S1x256_0_0).toLoadRect (harg13.unread x11)), (arg9.view.readAt (Elt Ideal) (Rect.unit ![0, 0, 0] S1x2048x32.size inb_S1x2048x32_S1x2048x32_0_0_0).toLoadRect (harg9.unread x7)), (arg6.view.readAt (Elt Ideal) (Rect.unit ![0, 0, 0] S1x2048x256.size inb_S1x2048x256_S1x2048x256_0_0_0).toLoadRect (harg6.unread x4)), (arg7.view.readAt (Elt Ideal) (Rect.unit ![0, 0, 0] S1x2048x256.size inb_S1x2048x256_S1x2048x256_0_0_0).toLoadRect (harg7.unread x5)), (arg8.view.readAt (Elt Ideal) (Rect.unit ![0, 0, 0] S1x2048x512.size inb_S1x2048x512_S1x2048x512_0_0_0).toLoadRect (harg8.unread x6)), fun h => arg21.view.readAt (Elt Ideal) (Rect.unit (s := S4x64x128) ![h.val, 0, 0] S1x64x128.size (inb_state h)).toLoadRect (harg21.unread xs1)⟩) :=
  (View.read_writes_junk_eq_canon _ _).trans (congrArg View.canon (by sl_kernel_rfl))

theorem back_B1 (hc0 : ¬cond0_0 i) (hc1 : ¬cond0_1 i) : sout0_B_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 x13 xs0 xs1
   = View.canon (storesBack (blockStates bwd ⟨(arg12.view.readAt (Elt Ideal) (Rect.unit ![0, 0] S32x256.size inb_S32x256_S32x256_0_0).toLoadRect (harg12.unread x10)), (arg13.view.readAt (Elt Ideal) (Rect.unit ![0, 0] S1x256.size inb_S1x256_S1x256_0_0).toLoadRect (harg13.unread x11)), (arg9.view.readAt (Elt Ideal) (Rect.unit ![0, 0, 0] S1x2048x32.size inb_S1x2048x32_S1x2048x32_0_0_0).toLoadRect (harg9.unread x7)), (arg6.view.readAt (Elt Ideal) (Rect.unit ![0, 0, 0] S1x2048x256.size inb_S1x2048x256_S1x2048x256_0_0_0).toLoadRect (harg6.unread x4)), (arg7.view.readAt (Elt Ideal) (Rect.unit ![0, 0, 0] S1x2048x256.size inb_S1x2048x256_S1x2048x256_0_0_0).toLoadRect (harg7.unread x5)), (arg8.view.readAt (Elt Ideal) (Rect.unit ![0, 0, 0] S1x2048x512.size inb_S1x2048x512_S1x2048x512_0_0_0).toLoadRect (harg8.unread x6)), fun h => arg21.view.readAt (Elt Ideal) (Rect.unit (s := S4x64x128) ![h.val, 0, 0] S1x64x128.size (inb_state h)).toLoadRect (harg21.unread xs1)⟩ 32)) :=
  (View.read_writes_junk_eq_canon _ _).trans (congrArg View.canon (by sl_kernel_rfl))

theorem out_C0 (hc0 : ¬cond0_0 i) (hc1 : cond0_1 i) : out0_C_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 x13 xs0 xs1
   = View.canon (stores fwd ⟨(arg10.view.readAt (Elt Ideal) (Rect.unit ![0, 0] S32x256.size inb_S32x256_S32x256_0_0).toLoadRect (harg10.unread x8)), (arg11.view.readAt (Elt Ideal) (Rect.unit ![0, 0] S1x256.size inb_S1x256_S1x256_0_0).toLoadRect (harg11.unread x9)), (arg5.view.readAt (Elt Ideal) (Rect.unit ![0, 0, 0] S1x2048x32.size inb_S1x2048x32_S1x2048x32_0_0_0).toLoadRect (harg5.unread x3)), (arg2.view.readAt (Elt Ideal) (Rect.unit ![0, 0, 0] S1x2048x256.size inb_S1x2048x256_S1x2048x256_0_0_0).toLoadRect (harg2.unread x0)), (arg3.view.readAt (Elt Ideal) (Rect.unit ![0, 0, 0] S1x2048x256.size inb_S1x2048x256_S1x2048x256_0_0_0).toLoadRect (harg3.unread x1)), (arg4.view.readAt (Elt Ideal) (Rect.unit ![0, 0, 0] S1x2048x512.size inb_S1x2048x512_S1x2048x512_0_0_0).toLoadRect (harg4.unread x2)), fun h => arg20.view.readAt (Elt Ideal) (Rect.unit (s := S4x64x128) ![h.val, 0, 0] S1x64x128.size (inb_state h)).toLoadRect (harg20.unread xs0)⟩) :=
  (View.read_writes_junk_eq_canon _ _).trans (congrArg View.canon (by sl_kernel_rfl))

theorem back_C0 (hc0 : ¬cond0_0 i) (hc1 : cond0_1 i) : sout0_C_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 x13 xs0 xs1
   = View.canon (storesBack (blockStates fwd ⟨(arg10.view.readAt (Elt Ideal) (Rect.unit ![0, 0] S32x256.size inb_S32x256_S32x256_0_0).toLoadRect (harg10.unread x8)), (arg11.view.readAt (Elt Ideal) (Rect.unit ![0, 0] S1x256.size inb_S1x256_S1x256_0_0).toLoadRect (harg11.unread x9)), (arg5.view.readAt (Elt Ideal) (Rect.unit ![0, 0, 0] S1x2048x32.size inb_S1x2048x32_S1x2048x32_0_0_0).toLoadRect (harg5.unread x3)), (arg2.view.readAt (Elt Ideal) (Rect.unit ![0, 0, 0] S1x2048x256.size inb_S1x2048x256_S1x2048x256_0_0_0).toLoadRect (harg2.unread x0)), (arg3.view.readAt (Elt Ideal) (Rect.unit ![0, 0, 0] S1x2048x256.size inb_S1x2048x256_S1x2048x256_0_0_0).toLoadRect (harg3.unread x1)), (arg4.view.readAt (Elt Ideal) (Rect.unit ![0, 0, 0] S1x2048x512.size inb_S1x2048x512_S1x2048x512_0_0_0).toLoadRect (harg4.unread x2)), fun h => arg20.view.readAt (Elt Ideal) (Rect.unit (s := S4x64x128) ![h.val, 0, 0] S1x64x128.size (inb_state h)).toLoadRect (harg20.unread xs0)⟩ 32)) :=
  (View.read_writes_junk_eq_canon _ _).trans (congrArg View.canon (by sl_kernel_rfl))

theorem out_C1 (hc0 : ¬cond0_0 i) (hc1 : cond0_1 i) : out0_C_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 x13 xs0 xs1
   = View.canon (stores bwd ⟨(arg12.view.readAt (Elt Ideal) (Rect.unit ![0, 0] S32x256.size inb_S32x256_S32x256_0_0).toLoadRect (harg12.unread x10)), (arg13.view.readAt (Elt Ideal) (Rect.unit ![0, 0] S1x256.size inb_S1x256_S1x256_0_0).toLoadRect (harg13.unread x11)), (arg9.view.readAt (Elt Ideal) (Rect.unit ![0, 0, 0] S1x2048x32.size inb_S1x2048x32_S1x2048x32_0_0_0).toLoadRect (harg9.unread x7)), (arg6.view.readAt (Elt Ideal) (Rect.unit ![0, 0, 0] S1x2048x256.size inb_S1x2048x256_S1x2048x256_0_0_0).toLoadRect (harg6.unread x4)), (arg7.view.readAt (Elt Ideal) (Rect.unit ![0, 0, 0] S1x2048x256.size inb_S1x2048x256_S1x2048x256_0_0_0).toLoadRect (harg7.unread x5)), (arg8.view.readAt (Elt Ideal) (Rect.unit ![0, 0, 0] S1x2048x512.size inb_S1x2048x512_S1x2048x512_0_0_0).toLoadRect (harg8.unread x6)), fun h => arg21.view.readAt (Elt Ideal) (Rect.unit (s := S4x64x128) ![h.val, 0, 0] S1x64x128.size (inb_state h)).toLoadRect (harg21.unread xs1)⟩) :=
  (View.read_writes_junk_eq_canon _ _).trans (congrArg View.canon (by sl_kernel_rfl))

theorem back_C1 (hc0 : ¬cond0_0 i) (hc1 : cond0_1 i) : sout0_C_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 x13 xs0 xs1
   = View.canon (storesBack (blockStates bwd ⟨(arg12.view.readAt (Elt Ideal) (Rect.unit ![0, 0] S32x256.size inb_S32x256_S32x256_0_0).toLoadRect (harg12.unread x10)), (arg13.view.readAt (Elt Ideal) (Rect.unit ![0, 0] S1x256.size inb_S1x256_S1x256_0_0).toLoadRect (harg13.unread x11)), (arg9.view.readAt (Elt Ideal) (Rect.unit ![0, 0, 0] S1x2048x32.size inb_S1x2048x32_S1x2048x32_0_0_0).toLoadRect (harg9.unread x7)), (arg6.view.readAt (Elt Ideal) (Rect.unit ![0, 0, 0] S1x2048x256.size inb_S1x2048x256_S1x2048x256_0_0_0).toLoadRect (harg6.unread x4)), (arg7.view.readAt (Elt Ideal) (Rect.unit ![0, 0, 0] S1x2048x256.size inb_S1x2048x256_S1x2048x256_0_0_0).toLoadRect (harg7.unread x5)), (arg8.view.readAt (Elt Ideal) (Rect.unit ![0, 0, 0] S1x2048x512.size inb_S1x2048x512_S1x2048x512_0_0_0).toLoadRect (harg8.unread x6)), fun h => arg21.view.readAt (Elt Ideal) (Rect.unit (s := S4x64x128) ![h.val, 0, 0] S1x64x128.size (inb_state h)).toLoadRect (harg21.unread xs1)⟩ 32)) :=
  (View.read_writes_junk_eq_canon _ _).trans (congrArg View.canon (by sl_kernel_rfl))

theorem last_C0 (hc0 : ¬cond0_0 i) (hc1 : cond0_1 i) (h : Fin 4) (j : Fin 64) (y : Fin 128) : out0_C_16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 x13 xs0 xs1 (ix4 0 h j y)
   = sout0_C_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 x13 xs0 xs1 (ix3 h j y) :=
  (congrFun ((View.read_writes_junk_eq_canon _ _).trans (congrArg View.canon (by sl_kernel_rfl))) _).trans
    ((last_of arg20.view (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 x13 xs0 xs1).2.2.2.2.1 h j y).trans (congrFun (View.read_writes_junk_eq_canon _ _) _).symm)

theorem last_C1 (hc0 : ¬cond0_0 i) (hc1 : cond0_1 i) (h : Fin 4) (j : Fin 64) (y : Fin 128) : out0_C_17 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 x13 xs0 xs1 (ix4 0 h j y)
   = sout0_C_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 x13 xs0 xs1 (ix3 h j y) :=
  (congrFun ((View.read_writes_junk_eq_canon _ _).trans (congrArg View.canon (by sl_kernel_rfl))) _).trans
    ((last_of arg21.view (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 x13 xs0 xs1).2.2.2.2.2.1 h j y).trans (congrFun (View.read_writes_junk_eq_canon _ _) _).symm)
end

end Cert.Proof.Gla

end
-- ==== Proof.FfnValue.Spec.lean ====
/- One row of the layer's output projection and gated feed-forward, as functions of the row's entries over the extended
   reals: what both programs compute, stated once so that each side is read as it. -/
module

public import Idealize.ShloMosaic.Lib.Pointwise

@[expose] public section

noncomputable section

namespace Cert.Proof.Ffn

open Idealize.ShloMosaic

/-- `x · σ(x)`. -/
def silu (x : EReal) : EReal := x * Ideal.div 1 (1 + Ideal.exp (-x))

/-- The root-mean-square factor of a row of `n` entries whose squares sum to `s`. -/
def rmsInv (n : BitVec 32) (s : EReal) : EReal :=
  Ideal.rsqrt (Ideal.div s (Ideal.ofBits FTy.f32 n) + Ideal.ofBits FTy.f32 897988541#32)

/-- A row's inputs: the residual stream, the convolution's output, the summed attention output and its gate. -/
structure Row where
  x : Fin 1024 → EReal
  y : Fin 512 → EReal
  o : Fin 512 → EReal
  g : Fin 512 → EReal

/-- What the rows of one batch entry share: the modulation's four vectors and the weights. -/
structure Par where
  g1 : Fin 1024 → EReal
  sh : Fin 1024 → EReal
  sc : Fin 1024 → EReal
  g2 : Fin 1024 → EReal
  gn : Fin 512 → EReal
  n2 : Fin 1024 → EReal
  fg : Fin 1024 → EReal
  wo : Fin 1024 → Fin 1024 → EReal
  wu : Fin 1024 → Fin 5632 → EReal
  dw : Fin 3 → Fin 2816 → EReal
  db : Fin 2816 → EReal
  wd : Fin 2816 → Fin 1024 → EReal

/-- The sum of squares of the head (128 entries) that entry `j` lies in. -/
def headSq (o : Fin 512 → EReal) (j : Fin 512) : EReal :=
  ∑ k : Fin 128, o ⟨j.val / 128 * 128 + k.val, by omega⟩ * o ⟨j.val / 128 * 128 + k.val, by omega⟩

/-- The attention output normalised per head and gated. -/
def gated (P : Par) (R : Row) (j : Fin 512) : EReal :=
  R.o j * rmsInv 1124073472#32 (headSq R.o j) * P.gn j * silu (R.g j)

/-- The convolution's output beside the gated attention output. -/
def mixed (P : Par) (R : Row) (j : Fin 1024) : EReal :=
  if h : j.val < 512 then R.y ⟨j.val, h⟩ else gated P R ⟨j.val - 512, by omega⟩

/-- The residual stream after the output projection. -/
def stream (P : Par) (R : Row) (d : Fin 1024) : EReal :=
  R.x d + P.g1 d * ∑ k, mixed P R k * P.wo k d

/-- The normalised and modulated stream, the feed-forward's input. -/
def hidden (P : Par) (R : Row) (d : Fin 1024) : EReal :=
  stream P R d * rmsInv 1149239296#32 (∑ k, stream P R k * stream P R k) * P.n2 d * (1 + P.sc d) + P.sh d

/-- The up projection. -/
def up (P : Par) (R : Row) (c : Fin 5632) : EReal := ∑ k, hidden P R k * P.wu k c

/-- The gate half of the up projection. -/
def upGate (P : Par) (R : Row) (k : Fin 2816) : EReal := up P R ⟨k.val, by omega⟩

/-- The depthwise convolution of three consecutive rows of one channel. -/
def conv3 (P : Par) (k : Fin 2816) (p c n : EReal) : EReal :=
  P.dw 0 k * p + P.dw 1 k * c + P.dw 2 k * n + P.db k

/-- The gated feed-forward's inner activation; `p` and `n` are the neighbouring rows' gate halves. -/
def act (P : Par) (p : Fin 2816 → EReal) (R : Row) (n : Fin 2816 → EReal) (k : Fin 2816) : EReal :=
  silu (conv3 P k (p k) (upGate P R k) (n k)) * up P R ⟨2816 + k.val, by omega⟩

/-- The stream after the feed-forward. -/
def stream2 (P : Par) (p : Fin 2816 → EReal) (R : Row) (n : Fin 2816 → EReal) (d : Fin 1024) : EReal :=
  stream P R d + P.g2 d * ∑ k, act P p R n k * P.wd k d

/-- The normalised result. -/
def result (P : Par) (p : Fin 2816 → EReal) (R : Row) (n : Fin 2816 → EReal) (d : Fin 1024) : EReal :=
  stream2 P p R n d * rmsInv 1149239296#32 (∑ k, stream2 P p R n k * stream2 P p R n k) * P.fg d

end Cert.Proof.Ffn

end
-- ==== Proof.GlaValue.Spec.lean ====
/- Gated linear attention over one head's sequence, chunk by chunk of 64 positions: the mathematics both programs state. -/
module

public import proofs.«01_k».proof.Proof.FfnValue.Spec

@[expose] public section

noncomputable section

namespace Cert.Proof.Gla

open Idealize.ShloMosaic

/-- One head's sequence in scan order: scaled queries, keys, log gates, values, and the state it starts from. -/
structure Strm where
  q : Fin 8192 → Fin 64 → EReal
  k : Fin 8192 → Fin 64 → EReal
  g : Fin 8192 → Fin 64 → EReal
  v : Fin 8192 → Fin 128 → EReal
  s : Fin 64 → Fin 128 → EReal

/-- Position `r` of chunk `n`. -/
def pos (n : ℕ) (r : Fin 64) : Fin 8192 := ⟨(n * 64 + r.val) % 8192, Nat.mod_lt _ (by omega)⟩

theorem pos_eq (n : Fin 128) (r : Fin 64) : pos n.val r = ⟨n.val * 64 + r.val, by omega⟩ :=
  Fin.ext (Nat.mod_eq_of_lt (by omega))

namespace Strm
variable (L : Strm)

/-- A chunk's running sums of the gates. -/
def cs (n : ℕ) (r d : Fin 64) : EReal := ∑ s : Fin 64, if s ≤ r then L.g (pos n s) d else 0

/-- The queries with the gates' growth, the keys with its inverse, and the keys carried to the chunk's end. -/
def qe (n : ℕ) (r d : Fin 64) : EReal := L.q (pos n r) d * Ideal.exp (L.cs n r d)
def ke (n : ℕ) (r d : Fin 64) : EReal := L.k (pos n r) d * Ideal.exp (-L.cs n r d)
def kt (n : ℕ) (r d : Fin 64) : EReal := L.k (pos n r) d * Ideal.exp (L.cs n 63 d - L.cs n r d)

/-- What a chunk adds to the state. -/
def kv (n : ℕ) (d : Fin 64) (e : Fin 128) : EReal := ∑ r : Fin 64, L.kt n r d * L.v (pos n r) e

/-- The scores inside a chunk. -/
def att (n : ℕ) (r s : Fin 64) : EReal := if s ≤ r then ∑ d : Fin 64, L.qe n r d * L.ke n s d else 0

/-- A chunk's outputs from inside the chunk. -/
def intra (n : ℕ) (r : Fin 64) (e : Fin 128) : EReal := ∑ s : Fin 64, L.v (pos n s) e * L.att n r s

/-- The state before chunk `n`. -/
def st : ℕ → Fin 64 → Fin 128 → EReal
  | 0 => L.s
  | n + 1 => fun d e => Ideal.exp (L.cs n 63 d) * st n d e + L.kv n d e

/-- The output at position `r` of chunk `n`. -/
def out (n : ℕ) (r : Fin 64) (e : Fin 128) : EReal := L.intra n r e + ∑ d : Fin 64, L.st n d e * L.qe n r d

end Strm

/-- The log gate of a logit `x`. -/
def logGate (x : EReal) : EReal :=
  Ideal.div (-(max (-x) 0 + Ideal.log1p (Ideal.exp (-(FloatOps.absf (F := Ideal) (φ := .f32) x))))) (Ideal.ofBits .f32 0x41800000#32)

/-- The sequence of batch row `b` and head `h` in the scan order `T`, with the gate's logits from columns `o …` of `z`. -/
def strm (T : Fin 8192 → Fin 8192) (o : Fin 17) (q k : Fin 4 → Fin 8192 → Fin 256 → EReal)
    (v : Fin 4 → Fin 8192 → Fin 512 → EReal) (z : Fin 4 → Fin 8192 → Fin 32 → EReal) (w : Fin 16 → Fin 256 → EReal)
    (c : Fin 256 → EReal) (s : Fin 4 → Fin 4 → Fin 64 → Fin 128 → EReal) (b h : Fin 4) : Strm where
  q t d := q b (T t) ⟨h.val * 64 + d.val, by omega⟩ * Scalar.ofBits (F := Ideal) .f32 0x3E000000#32
  k t d := k b (T t) ⟨h.val * 64 + d.val, by omega⟩
  g t d := logGate ((∑ i : Fin 16, z b (T t) ⟨o.val + i.val, by omega⟩ * w i ⟨h.val * 64 + d.val, by omega⟩)
    + c ⟨h.val * 64 + d.val, by omega⟩)
  v t e := v b (T t) ⟨h.val * 128 + e.val, by omega⟩
  s d e := s b h d e

end Cert.Proof.Gla

end
-- ==== Proof.GlaValue.Chunk.lean ====
/- The generic model of a chunk at the extended reals, entry by entry. -/
module

public import proofs.«01_k».proof.Proof.FfnValue.Spec
public import proofs.«01_k».proof.Proof.GlaValue.Model

@[expose] public section

set_option maxRecDepth 65536
set_option maxHeartbeats 4000000

noncomputable section

namespace Cert.Proof.Gla

open Idealize.ShloMosaic Idealize.ShloMosaic.TcCoe Cert.KernelIdeal Cert.KernelIdeal.Gen

variable (tri : FVec Ideal S64x64 .bf16) (l : Fin 64) (w : Vec Ideal S32x256 .bf16) (b : Vec Ideal S1x256 .f32)
  (z : Vec Ideal S1x2048x32 .bf16) (q k : Vec Ideal S1x2048x256 .bf16) (v : Vec Ideal S1x2048x512 .bf16)

/-- Row `r` of chunk `c`. -/
abbrev at64 (c : Fin 32) (r : Fin 64) : Fin 2048 := ⟨64 * c.val + r.val, by omega⟩
/-- Lane `x` of pair `p`. -/
abbrev lane (p : Fin 2) (x : Fin 128) : Fin 256 := ⟨128 * p.val + x.val, by omega⟩

theorem hi_apply (i : S2048x256.Idx) : gateHi w b z i = k0_pay11 w b z i := by
  pointwise [gateHi]
theorem lo_apply (i : S2048x256.Idx) : gateLo w b z i = k0_pay11 w b z i - k0_pay11 w b z i := by
  pointwise [gateLo, gateHi]

theorem sums_apply (c : Fin 32) (r : Fin 64) (j : Fin 256) :
    sums tri w b z c (ix2 r j)
      = (∑ s : Fin 64, tri (ix2 r s) * k0_pay11 w b z (ix2 (at64 c s) j))
        + ∑ s : Fin 64, tri (ix2 r s) * (k0_pay11 w b z (ix2 (at64 c s) j) - k0_pay11 w b z (ix2 (at64 c s) j)) := by
  pointwise [sums]
  simp only [hi_apply, lo_apply]

theorem decay_apply (c : Fin 32) (j : Fin 256) (x : Fin 128) :
    decay tri l w b z c (ix2 j x) = Ideal.exp (sums tri w b z c (ix2 l j)) := by
  pointwise [decay, total]

theorem totalRows_apply (c : Fin 32) (r : Fin 64) (j : Fin 256) :
    totalRows tri l w b z c (ix2 r j) = sums tri w b z c (ix2 l j) := by
  pointwise [totalRows, total]

theorem allSums_apply (c : Fin 32) (r : Fin 64) (j : Fin 256) :
    allSums tri w b z (ix2 (at64 c r) j) = sums tri w b z c (ix2 r j) :=
  concatenate_ofFn_apply (t := S2048x256) (s₁ := S64x256) 0 (K := 64) (fun c => sums tri w b z c) (concats_rows _) rfl rfl (ix2 (at64 c r) j) c
    (by show (64 * c.val + r.val) / 64 = _; omega) (ix2 r j)
    (by show r.val = (64 * c.val + r.val) % 64; omega)
    (by intro a h; fin_cases a <;> simp_all)

theorem allTotals_apply (c : Fin 32) (r : Fin 64) (j : Fin 256) :
    allTotals tri l w b z (ix2 (at64 c r) j) = sums tri w b z c (ix2 l j) := by
  rw [← totalRows_apply tri l w b z c r j]
  exact concatenate_ofFn_apply (t := S2048x256) (s₁ := S64x256) 0 (K := 64) (fun c => totalRows tri l w b z c) (concats_rows _) rfl rfl (ix2 (at64 c r) j) c
    (by show (64 * c.val + r.val) / 64 = _; omega) (ix2 r j)
    (by show r.val = (64 * c.val + r.val) % 64; omega)
    (by intro a h; fin_cases a <;> simp_all)

theorem qe_apply (c : Fin 32) (r : Fin 64) (j : Fin 256) :
    qe tri w b z q (ix2 (at64 c r) j)
      = q (ix3 0 (at64 c r) j) * Scalar.ofBits (F := Ideal) .f32 0x3E000000#32 * Ideal.exp (sums tri w b z c (ix2 r j)) := by
  rw [← allSums_apply]
  pointwise [qe]

theorem ke_apply (c : Fin 32) (r : Fin 64) (j : Fin 256) :
    ke tri w b z k (ix2 (at64 c r) j) = k (ix3 0 (at64 c r) j) * Ideal.exp (- sums tri w b z c (ix2 r j)) := by
  rw [← allSums_apply, ← zero_sub]
  pointwise [ke, k0_pay149]

theorem kt_apply (c : Fin 32) (r : Fin 64) (j : Fin 256) :
    kt tri l w b z k (ix2 (at64 c r) j)
      = k (ix3 0 (at64 c r) j) * Ideal.exp (sums tri w b z c (ix2 l j) - sums tri w b z c (ix2 r j)) := by
  rw [← allTotals_apply tri l w b z c r, ← allSums_apply tri w b z c r]
  pointwise [kt, k0_pay149]

theorem vp_apply (c : Fin 32) (p : Fin 2) (r : Fin 64) (j : Fin 256) :
    vp v c p (ix2 r j) = v (ix3 0 (at64 c r) ⟨256 * p.val + j.val, by omega⟩) := by
  pointwise [vp, k0_pay153]

theorem kv_apply (u : FVec Ideal S2048x256 .bf16) (c : Fin 32) (p : Fin 2) (x : Fin 128) (y : Fin 256) :
    kv u v c p (ix2 x y) = ∑ r : Fin 64, u (ix2 (at64 c r) (lane p x)) * v (ix3 0 (at64 c r) ⟨256 * p.val + y.val, by omega⟩) := by
  simp only [← vp_apply]
  pointwise [kv]

theorem step_apply (dec : Fin 32 → FVec Ideal S256x128 .f32) (u : Fin 32 → Fin 2 → FVec Ideal S128x256 .f32) (c : Fin 32)
    (s : Fin 2 → Fin 2 → FVec Ideal S64x128 .f32) (p e : Fin 2) (x : Fin 64) (y : Fin 128) :
    step dec u c s p e (ix2 x y) = dec c (ix2 ⟨128 * p.val + (64 * e.val + x.val), by omega⟩ y) * s p e (ix2 x y)
      + u c p (ix2 ⟨64 * e.val + x.val, by omega⟩ ⟨128 * e.val + y.val, by omega⟩) := by
  pointwise [step]

/-- The scores of head `2p + e` inside a chunk: only its own key columns count. -/
theorem scores_apply (keep : IVec S64x128 1) (u : FVec Ideal S2048x256 .bf16) (t : FVec Ideal S2048x256 .f32) (c : Fin 32) (p : Fin 2)
    (r : Fin 64) (e : Fin 2) (s : Fin 64) :
    scores keep u t c p (ix2 r ⟨64 * e.val + s.val, by omega⟩)
      = if keep (ix2 r ⟨64 * e.val + s.val, by omega⟩) = 1#1 then
          ∑ x : Fin 64, u (ix2 (at64 c r) (lane p ⟨64 * e.val + x.val, by omega⟩)) * t (ix2 (at64 c s) (lane p ⟨64 * e.val + x.val, by omega⟩))
        else 0 := by
  have hm : ∀ (m : Fin 64) (x : Fin 128), k0_pay9 (ix2 m x) = if x.val < 64 then 1#1 else 0#1 := by decide +kernel
  pointwise [scores]
  simp only [hm, Scalar.select]
  by_cases hk : keep (ix2 r ⟨64 * e.val + s.val, by omega⟩) = 1#1
  · rw [if_pos (by simpa using hk), if_pos hk]
    show (∑ x : Fin (64 + 64), _) = _
    rw [Fin.sum_univ_add]
    obtain rfl | rfl : e = 0 ∨ e = 1 := by omega
    · refine (congrArg₂ (· + ·) (Finset.sum_congr rfl fun x _ => ?_) (Finset.sum_eq_zero fun x _ => ?_)).trans (add_zero _) <;> have := x.isLt <;> have := s.isLt
      · simp
      · simp
    · refine (congrArg₂ (· + ·) (Finset.sum_eq_zero fun x _ => ?_) (Finset.sum_congr rfl fun x _ => ?_)).trans (zero_add _) <;> have := x.isLt <;> have := s.isLt
      · simp
      · simp [lane, at64, Nat.add_comm]
  · rw [if_neg (by simpa using hk), if_neg hk]

theorem outPair_apply (u : FVec Ideal S2048x256 .bf16) (a : FVec Ideal S64x128 .bf16) (t : FVec Ideal S64x256 .bf16)
    (s : Fin 2 → FVec Ideal S64x128 .f32) (c : Fin 32) (p : Fin 2) (r : Fin 64) (e : Fin 2) (y : Fin 128) :
    outPair u a t s c p (ix3 0 r ⟨128 * e.val + y.val, by omega⟩)
      = (∑ x : Fin 64, u (ix2 (at64 c r) (lane p ⟨64 * e.val + x.val, by omega⟩)) * s e (ix2 x y))
        + ∑ x : Fin 64, a (ix2 r ⟨64 * e.val + x.val, by omega⟩) * t (ix2 x ⟨128 * e.val + y.val, by omega⟩) := by
  pointwise [outPair, diag]
  have h0 : ∀ i, k0_pay445 (F := Ideal) i = 0 := by intro i; pointwise [k0_pay445]
  have h1 : ∀ i, k0_pay10 (F := Ideal) i = 0 := by intro i; pointwise [k0_pay10]
  simp only [h0, h1]
  show (∑ x : Fin (128 + 128), _) = _
  rw [Fin.sum_univ_add]
  congr 1
  · show (∑ x : Fin (64 + 64), _) = _
    rw [Fin.sum_univ_add]
    obtain rfl | rfl : e = 0 ∨ e = 1 := by omega
    · refine (congrArg₂ (· + ·) (Finset.sum_congr rfl fun x _ => ?_) (Finset.sum_eq_zero fun x _ => ?_)).trans (add_zero _) <;> have := x.isLt <;> have := y.isLt
      · have e1 : (x.val < 128) = True := eq_true (by omega)
        have e2 : (x.val + 64 < 128) = True := eq_true (by omega)
        have e3 : x.val + 64 < 128 := by omega
        simp [e1, e2, e3, lane, at64, Nat.add_comm 64]
      · have e1 : (x.val < 128) = True := eq_true (by omega)
        have e2 : (x.val + 64 < 128) = True := eq_true (by omega)
        have e3 : x.val + 64 < 128 := by omega
        simp [e1, e2, e3, lane, at64, Nat.add_comm 64]
    · refine (congrArg₂ (· + ·) (Finset.sum_eq_zero fun x _ => ?_) (Finset.sum_congr rfl fun x _ => ?_)).trans (zero_add _) <;> have := x.isLt <;> have := y.isLt
      · have e1 : (x.val < 128) = True := eq_true (by omega)
        have e2 : (x.val + 64 < 128) = True := eq_true (by omega)
        have e3 : x.val + 64 < 128 := by omega
        simp [e1, e2, e3, lane, at64, Nat.add_comm 64]
      · have e1 : (x.val < 128) = True := eq_true (by omega)
        have e2 : (x.val + 64 < 128) = True := eq_true (by omega)
        have e3 : x.val + 64 < 128 := by omega
        simp [e1, e2, e3, lane, at64, Nat.add_comm 64]
  · show (∑ x : Fin (64 + 64), _) = _
    rw [Fin.sum_univ_add]
    obtain rfl | rfl : e = 0 ∨ e = 1 := by omega
    · refine (congrArg₂ (· + ·) (Finset.sum_congr rfl fun x _ => ?_) (Finset.sum_eq_zero fun x _ => ?_)).trans (add_zero _) <;> have := x.isLt <;> have := y.isLt
      · have e1 : (x.val < 128) = True := eq_true (by omega)
        have e2 : (x.val + 64 < 128) = True := eq_true (by omega)
        have e3 : x.val + 64 < 128 := by omega
        simp [e1, e2, e3, lane, at64, Nat.add_comm 64]
      · have e1 : (x.val < 128) = True := eq_true (by omega)
        have e2 : (x.val + 64 < 128) = True := eq_true (by omega)
        have e3 : x.val + 64 < 128 := by omega
        simp [e1, e2, e3, lane, at64, Nat.add_comm 64]
    · refine (congrArg₂ (· + ·) (Finset.sum_eq_zero fun x _ => ?_) (Finset.sum_congr rfl fun x _ => ?_)).trans (zero_add _) <;> have := x.isLt <;> have := y.isLt
      · have e1 : (x.val < 128) = True := eq_true (by omega)
        have e2 : (x.val + 64 < 128) = True := eq_true (by omega)
        have e3 : x.val + 64 < 128 := by omega
        simp [e1, e2, e3, lane, at64, Nat.add_comm 64]
      · have e1 : (x.val < 128) = True := eq_true (by omega)
        have e2 : (x.val + 64 < 128) = True := eq_true (by omega)
        have e3 : x.val + 64 < 128 := by omega
        simp [e1, e2, e3, lane, at64, Nat.add_comm 64]

end Cert.Proof.Gla
end
-- ==== Proof.GlaValue.Block.lean ====
/- A block of 32 chunks of the model computes the specification's chunks, for either direction. -/
module

public import proofs.«01_k».proof.Proof.GlaValue.Spec
public import proofs.«01_k».proof.Proof.GlaValue.Chunk

@[expose] public section

set_option maxRecDepth 65536
set_option maxHeartbeats 1000000

noncomputable section

namespace Cert.Proof.Gla

open Idealize.ShloMosaic Idealize.ShloMosaic.TcCoe Cert.KernelIdeal Cert.KernelIdeal.Gen

/-- A direction's row order inside a chunk: its masks keep the rows up to a given one. -/
structure Ordered (d : Dir Ideal) (ρ : Equiv.Perm (Fin 64)) : Prop where
  tri : ∀ r s : Fin 64, d.tri (ix2 (ρ r) (ρ s)) = if s ≤ r then 1 else 0
  keep : ∀ (r s : Fin 64) (e : Fin 2), d.keep (ix2 (ρ r) ⟨64 * e.val + (ρ s).val, by omega⟩) = if s ≤ r then 1#1 else 0#1
  last : d.l = ρ 63

theorem mask_one : ((BitVec.setWidth 32 1#1).toInt : ℝ) = 1 := by norm_num [show (BitVec.setWidth 32 1#1).toInt = 1 by decide]
theorem mask_zero : ((BitVec.setWidth 32 0#1).toInt : ℝ) = 0 := by norm_num [show (BitVec.setWidth 32 0#1).toInt = 0 by decide]

theorem mask_apply (b : BitVec 1) (P : Prop) [Decidable P] (h : b = if P then 1#1 else 0#1) :
    FloatOps.sitofp (F := Ideal) FTy.f32 (BitVec.setWidth 32 b) = if P then (1 : EReal) else 0 := by
  show (((BitVec.setWidth 32 b).toInt : ℝ) : EReal) = _
  subst h
  split_ifs
  · rw [mask_one]; rfl
  · rw [mask_zero]; rfl

theorem fwd_ordered : Ordered fwd (Equiv.refl _) where
  tri r s := by
    have h : ∀ r s : Fin 64, IntOp.cmpi .sle (BitVec.ofNat 32 s.val) (BitVec.ofNat 32 r.val) = if s ≤ r then 1#1 else 0#1 := by
      decide +kernel
    pointwise [fwd, k0_pay7]
    exact mask_apply _ _ (h r s)
  keep := by
    show ∀ (r s : Fin 64) (e : Fin 2), k0_pay8 (ix2 r ⟨64 * e.val + s.val, _⟩) = _
    decide +kernel
  last := rfl

theorem bwd_ordered : Ordered bwd Fin.revPerm where
  tri r s := by
    have h : ∀ r s : Fin 64, IntOp.cmpi .sge (BitVec.ofNat 32 s.rev.val) (BitVec.ofNat 32 r.rev.val) = if s ≤ r then 1#1 else 0#1 := by
      decide +kernel
    pointwise [bwd, k0_pay736]
    exact mask_apply _ _ (h r s)
  keep := by
    show ∀ (r s : Fin 64) (e : Fin 2), k0_pay737 (ix2 r.rev ⟨64 * e.val + s.rev.val, _⟩) = _
    decide +kernel
  last := rfl

/-- A block's inputs are those of the sequences `L` from chunk `N` on. -/
structure Fits (d : Dir Ideal) (ρ : Equiv.Perm (Fin 64)) (x : Ins Ideal) (N : ℕ) (L : Fin 2 → Fin 2 → Strm) : Prop where
  q : ∀ (n : Fin 32) (r : Fin 64) (p e : Fin 2) (j : Fin 64),
    x.q (ix3 0 (at64 (d.ord n) (ρ r)) (lane p ⟨64 * e.val + j.val, by omega⟩)) * Scalar.ofBits (F := Ideal) .f32 0x3E000000#32
      = (L p e).q (pos (N + n.val) r) j
  k : ∀ (n : Fin 32) (r : Fin 64) (p e : Fin 2) (j : Fin 64),
    x.k (ix3 0 (at64 (d.ord n) (ρ r)) (lane p ⟨64 * e.val + j.val, by omega⟩)) = (L p e).k (pos (N + n.val) r) j
  g : ∀ (n : Fin 32) (r : Fin 64) (p e : Fin 2) (j : Fin 64),
    k0_pay11 x.w x.b x.z (ix2 (at64 (d.ord n) (ρ r)) (lane p ⟨64 * e.val + j.val, by omega⟩)) = (L p e).g (pos (N + n.val) r) j
  v : ∀ (n : Fin 32) (r : Fin 64) (p e : Fin 2) (y : Fin 128),
    x.v (ix3 0 (at64 (d.ord n) (ρ r)) ⟨256 * p.val + (128 * e.val + y.val), by omega⟩) = (L p e).v (pos (N + n.val) r) y
  s : ∀ (p e : Fin 2) (j : Fin 64) (y : Fin 128), x.s ⟨2 * p.val + e.val, by omega⟩ (ix3 0 j y) = (L p e).st N j y
  fin : ∀ (p e : Fin 2) (t : Fin 8192) (j : Fin 64), (L p e).g t j + ((L p e).g t j - (L p e).g t j) = (L p e).g t j

variable {d : Dir Ideal} {ρ : Equiv.Perm (Fin 64)} (ho : Ordered d ρ) {x : Ins Ideal} {N : ℕ} {L : Fin 2 → Fin 2 → Strm}
  (hf : Fits d ρ x N L)
include ho hf

theorem sums_eq (n : Fin 32) (r : Fin 64) (p e : Fin 2) (j : Fin 64) :
    sums d.tri x.w x.b x.z (d.ord n) (ix2 (ρ r) (lane p ⟨64 * e.val + j.val, by omega⟩)) = (L p e).cs (N + n.val) r j := by
  rw [sums_apply, ← Finset.sum_add_distrib, ← Equiv.sum_comp ρ]
  refine Finset.sum_congr rfl fun s _ => ?_
  rw [ho.tri, hf.g]
  split_ifs
  · rw [one_mul, one_mul, hf.fin]
  · rw [zero_mul, zero_mul, add_zero]

theorem qe_eq (n : Fin 32) (r : Fin 64) (p e : Fin 2) (j : Fin 64) :
    qe d.tri x.w x.b x.z x.q (ix2 (at64 (d.ord n) (ρ r)) (lane p ⟨64 * e.val + j.val, by omega⟩)) = (L p e).qe (N + n.val) r j := by
  rw [qe_apply, hf.q, sums_eq ho hf]; rfl

theorem ke_eq (n : Fin 32) (r : Fin 64) (p e : Fin 2) (j : Fin 64) :
    ke d.tri x.w x.b x.z x.k (ix2 (at64 (d.ord n) (ρ r)) (lane p ⟨64 * e.val + j.val, by omega⟩)) = (L p e).ke (N + n.val) r j := by
  rw [ke_apply, hf.k, sums_eq ho hf]; rfl

theorem kt_eq (n : Fin 32) (r : Fin 64) (p e : Fin 2) (j : Fin 64) :
    kt d.tri d.l x.w x.b x.z x.k (ix2 (at64 (d.ord n) (ρ r)) (lane p ⟨64 * e.val + j.val, by omega⟩)) = (L p e).kt (N + n.val) r j := by
  rw [kt_apply, hf.k, ho.last, sums_eq ho hf, sums_eq ho hf]; rfl

theorem scores_eq (n : Fin 32) (r s : Fin 64) (p e : Fin 2) :
    scores d.keep (qe d.tri x.w x.b x.z x.q) (ke d.tri x.w x.b x.z x.k) (d.ord n) p (ix2 (ρ r) ⟨64 * e.val + (ρ s).val, by omega⟩)
      = (L p e).att (N + n.val) r s := by
  rw [scores_apply, ho.keep, Strm.att]
  simp only [qe_eq ho hf, ke_eq ho hf]
  by_cases h : s ≤ r <;> simp [h]

theorem kv_eq (n : Fin 32) (p e : Fin 2) (j : Fin 64) (y : Fin 128) :
    kv (kt d.tri d.l x.w x.b x.z x.k) x.v (d.ord n) p (ix2 ⟨64 * e.val + j.val, by omega⟩ ⟨128 * e.val + y.val, by omega⟩)
      = (L p e).kv (N + n.val) j y := by
  rw [kv_apply, ← Equiv.sum_comp ρ]
  exact Finset.sum_congr rfl fun r _ => by rw [kt_eq ho hf, hf.v]

theorem states_eq (n : ℕ) (hn : n ≤ 32) (p e : Fin 2) (j : Fin 64) (y : Fin 128) :
    blockStates d x n p e (ix2 j y) = (L p e).st (N + n) j y := by
  induction n with
  | zero =>
    rw [show (L p e).st (N + 0) j y = _ from (hf.s p e j y).symm]
    pointwise [blockStates, states]
  | succ n ih =>
    have hn' : (Fin.ofNat 32 n).val = n := Nat.mod_eq_of_lt (by omega)
    show step _ _ (d.ord (Fin.ofNat 32 n)) (blockStates d x n) p e (ix2 j y) = _
    rw [step_apply, ih (by omega), kv_eq ho hf, decay_apply, ho.last, sums_eq ho hf, hn']
    rfl

theorem out_eq (n : Fin 32) (r : Fin 64) (p e : Fin 2) (y : Fin 128) :
    blockOut d x n p (ix3 0 (ρ r) ⟨128 * e.val + y.val, by omega⟩) = (L p e).out (N + n.val) r y := by
  rw [blockOut, outPair_apply, Strm.out, add_comm]
  congr 1
  · rw [← Equiv.sum_comp ρ]
    refine Finset.sum_congr rfl fun s _ => ?_
    rw [scores_eq ho hf, vp_apply, hf.v, mul_comm]
  · refine Finset.sum_congr rfl fun j _ => ?_
    rw [qe_eq ho hf, states_eq ho hf _ (by omega), mul_comm]

end Cert.Proof.Gla

end
-- ==== Proof.GlaValue.Reads.lean ====
/- What a grid point stores, at its blocks: the outputs' stores, and the states left in the scratch and written out. -/
module

public import proofs.«01_k».proof.Proof.GlaValue.Words
public import proofs.«01_k».proof.Proof.GlaValue.Block
public import Idealize.ShloMosaic.Lib.Pipeline.ValueKit

@[expose] public section

set_option maxRecDepth 65536
set_option maxHeartbeats 4000000

noncomputable section

namespace Cert.Proof.Gla

open Idealize.ShloMosaic Idealize.ShloMosaic.TcCoe Cert.KernelIdeal Cert.KernelIdeal.Gen

/-- A direction's inputs from its blocks and the four heads' states. -/
def insOf (w : Vec Ideal S32x256 .bf16) (b : Vec Ideal S1x256 .f32) (z : Vec Ideal S1x2048x32 .bf16)
    (q k : Vec Ideal S1x2048x256 .bf16) (v : Vec Ideal S1x2048x512 .bf16) (s : Vec Ideal S4x64x128 .f32) : Ins Ideal :=
  ⟨w, b, z, q, k, v, fun h i => s (ix3 h (i 1) (i 2))⟩

/-- A batch entry's states. -/
def startOf (x : Vec Ideal S1x4x64x128 .f32) : Vec Ideal S4x64x128 .f32 := fun i => x (ix4 0 (i 0) (i 1) (i 2))

theorem ins_eq {w w' b b' z z' q q' k k' v v'} {s : Fin 4 → Vec Ideal S1x64x128 .f32} {s' : Vec Ideal S4x64x128 .f32}
    (hw : w = w') (hb : b = b') (hz : z = z') (hq : q = q') (hk : k = k') (hv : v = v')
    (hs : ∀ h j y, s h (ix3 0 j y) = s' (ix3 h j y)) : (⟨w, b, z, q, k, v, s⟩ : Ins Ideal) = insOf w' b' z' q' k' v' s' := by
  subst hw hb hz hq hk hv
  refine congrArg _ (funext fun h => funext fun i => ?_)
  obtain ⟨u, j, y, rfl⟩ : ∃ (u : Fin 1) (j : Fin 64) (y : Fin 128), i = ix3 u j y := ⟨i 0, i 1, i 2, by
    funext a; match a with | 0 => rfl | 1 => rfl | 2 => rfl⟩
  obtain rfl : u = 0 := Subsingleton.elim _ _
  exact hs h j y

/-- A load of a whole buffer is its contents. -/
theorem whole_read {S : Shape} {e : EltTy} (a : Memref sig .tc .vmem S e) (h : a.IsWhole) (x : S.Idx → Elt Ideal e)
    {off : Fin S.rank → Nat} (hoff : ∀ i, off i = 0) (inb : ∀ i, off i + S.size i ≤ S.size i) :
    a.view.readAt (Elt Ideal) (Rect.unit off S.size inb).toLoadRect (h.unread x) = x := by
  rw [View.readAt_eq_ld, h.read_unread]
  exact View.ld_unit_lit inb x hoff

theorem state_emb (h : Fin 4) (j : Fin 64) (y : Fin 128) :
    (Rect.unit (s := S4x64x128) ![h.val, 0, 0] S1x64x128.size (inb_state h)).emb (ix3 0 j y) = ix3 h j y := by
  funext a
  refine Fin.ext ?_
  match a with
  | 0 => exact (by omega : h.val + 1 * 0 = h.val)
  | 1 => exact (by omega : 0 + 1 * j.val = j.val)
  | 2 => exact (by omega : 0 + 1 * y.val = y.val)

/-- A load of one head's states from the scratch. -/
theorem state_read (a : Memref sig .tc .vmem S4x64x128 .f32) (ha : a.IsWhole) (x : Vec Ideal S4x64x128 .f32) (h : Fin 4) (j : Fin 64)
    (y : Fin 128) : a.view.readAt (Elt Ideal) (Rect.unit (s := S4x64x128) ![h.val, 0, 0] S1x64x128.size (inb_state h)).toLoadRect
      (ha.unread x) (ix3 0 j y) = x (ix3 h j y) := by
  rw [View.readAt_eq_ld, ha.read_unread]
  exact congrArg x (state_emb h j y)

/-- … from the first point's copy. -/
theorem state_read_first0 (c : Dev nD) (a : View sig .tc .vmem S4x64x128 .f32) (b : Memref sig .tc .vmem S1x4x64x128 .f32) (hb : b.IsWhole)
    (x : Vec Ideal S1x4x64x128 .f32) (h : Fin 4) (j : Fin 64) (y : Fin 128) :
    a.readCov (kernelRun0_A.sl.HS0_1 c b hb x) (Rect.unit (s := S4x64x128) ![h.val, 0, 0] S1x64x128.size (inb_state h)).toLoadRect
      (ix3 0 j y) = startOf x (ix3 h j y) := by
  rw [View.readCov_eq_canon']
  refine (congrArg _ (state_emb h j y)).trans ?_
  unfold kernelRun0_A.sl.HS0_1
  rw [View.canon_cons_unit_lit' _ _ _ (by decide), whole_read _ _ _ (by decide)]
  pointwise [k0_pay5, startOf]

theorem state_read_first1 (c : Dev nD) (a : View sig .tc .vmem S4x64x128 .f32) (b : Memref sig .tc .vmem S1x4x64x128 .f32) (hb : b.IsWhole)
    (x : Vec Ideal S1x4x64x128 .f32) (h : Fin 4) (j : Fin 64) (y : Fin 128) :
    a.readCov (kernelRun0_A.sl.HS1_1 c b hb x) (Rect.unit (s := S4x64x128) ![h.val, 0, 0] S1x64x128.size (inb_state h)).toLoadRect
      (ix3 0 j y) = startOf x (ix3 h j y) := by
  rw [View.readCov_eq_canon']
  refine (congrArg _ (state_emb h j y)).trans ?_
  unfold kernelRun0_A.sl.HS1_1
  rw [View.canon_cons_unit_lit' _ _ _ (by decide), whole_read _ _ _ (by decide)]
  pointwise [k0_pay6, startOf]

section
variable {a b : Fin 4} (w : Vec Ideal S1x64x128 .f32) (L : List (View.Piece (Elt Ideal) S4x64x128 .f32))

theorem canon_hit (j : Fin 64) (y : Fin 128) :
    View.canon (⟨Rect.unit (s := S4x64x128) ![a.val, 0, 0] S1x64x128.size (inb_state a), w⟩ :: L) (ix3 a j y) = w (ix3 0 j y) :=
  (congrArg _ (state_emb a j y).symm).trans (View.canon_cons_emb (Rect.unit (s := S4x64x128) ![a.val, 0, 0] S1x64x128.size (inb_state a)) w L (ix3 0 j y))

theorem canon_skip (hab : a ≠ b) (j : Fin 64) (y : Fin 128) :
    View.canon (⟨Rect.unit (s := S4x64x128) ![a.val, 0, 0] S1x64x128.size (inb_state a), w⟩ :: L) (ix3 b j y)
      = View.canon L (ix3 b j y) := by
  refine View.canon_cons_of_not_mem _ _ fun hm => ?_
  obtain ⟨i, hi, he⟩ := (Rect.unit (s := S4x64x128) ![a.val, 0, 0] S1x64x128.size (inb_state a)).mem_set.mp hm 0
  have : b.val = a.val + 1 * i := he
  have : i < 1 := hi
  exact hab (Fin.ext (by omega))
end

/-- The scratch after the four heads' states are stored. -/
theorem canon_back (s : Fin 2 → Fin 2 → FVec Ideal S64x128 .f32) (L : List (View.Piece (Elt Ideal) S4x64x128 .f32)) (p e : Fin 2)
    (j : Fin 64) (y : Fin 128) : View.canon (storesBack s ++ L) (ix3 ⟨2 * p.val + e.val, by omega⟩ j y) = s p e (ix2 j y) := by
  have hs : storesBack s ++ L = ⟨Rect.unit (s := S4x64x128) ![(3 : Fin 4).val, 0, 0] S1x64x128.size (inb_state 3), shapeCast S1x64x128 (s 1 1) shapeCasts_S64x128_S1x64x128⟩
      :: ⟨Rect.unit (s := S4x64x128) ![(2 : Fin 4).val, 0, 0] S1x64x128.size (inb_state 2), shapeCast S1x64x128 (s 1 0) shapeCasts_S64x128_S1x64x128⟩
      :: ⟨Rect.unit (s := S4x64x128) ![(1 : Fin 4).val, 0, 0] S1x64x128.size (inb_state 1), shapeCast S1x64x128 (s 0 1) shapeCasts_S64x128_S1x64x128⟩
      :: ⟨Rect.unit (s := S4x64x128) ![(0 : Fin 4).val, 0, 0] S1x64x128.size (inb_state 0), shapeCast S1x64x128 (s 0 0) shapeCasts_S64x128_S1x64x128⟩ :: L := rfl
  rw [hs]
  match p, e with
  | 0, 0 =>
    refine (canon_skip (b := 0) _ _ (by decide) j y).trans ((canon_skip (b := 0) _ _ (by decide) j y).trans
      ((canon_skip (b := 0) _ _ (by decide) j y).trans ((canon_hit _ _ j y).trans ?_)))
    pointwise
  | 0, 1 =>
    refine (canon_skip (b := 1) _ _ (by decide) j y).trans ((canon_skip (b := 1) _ _ (by decide) j y).trans
      ((canon_hit _ _ j y).trans ?_))
    pointwise
  | 1, 0 =>
    refine (canon_skip (b := 2) _ _ (by decide) j y).trans ((canon_hit _ _ j y).trans ?_)
    pointwise
  | 1, 1 =>
    refine (canon_hit _ _ j y).trans ?_
    pointwise

theorem out_emb (n : Fin 32) (p : Fin 2) (r : Fin 64) (y : Fin 256) :
    (Rect.unit (s := S1x2048x512) ![0, 64 * n.val, 256 * p.val] S1x64x256.size (inb_out n p)).emb (ix3 0 r y)
      = ix3 0 (at64 n r) ⟨256 * p.val + y.val, by omega⟩ := by
  funext a
  refine Fin.ext ?_
  match a with
  | 0 => rfl
  | 1 => exact (by omega : 64 * n.val + 1 * r.val = 64 * n.val + r.val)
  | 2 => exact (by omega : 256 * p.val + 1 * y.val = 256 * p.val + y.val)

/-- A row and a column of a block, taken apart. -/
theorem pick (f : Fin 2 → Fin 2 → Fin 32 → Fin 64 → Fin 128 → EReal) (p e : Fin 2) (n : Fin 32) (r : Fin 64) (y : Fin 128) :
    f ⟨(256 * p.val + (128 * e.val + y.val)) / 256, by omega⟩ ⟨(256 * p.val + (128 * e.val + y.val)) / 128 % 2, by omega⟩
      ⟨(64 * n.val + r.val) / 64, by omega⟩ ⟨(64 * n.val + r.val) % 64, by omega⟩
      ⟨(256 * p.val + (128 * e.val + y.val)) % 128, by omega⟩ = f p e n r y := by
  congr 1 <;> first | (congr 1 <;> first | (congr 1 <;> first | (congr 1 <;> (refine Fin.ext ?_; dsimp only; omega)) | (refine Fin.ext ?_; dsimp only; omega)) | (refine Fin.ext ?_; dsimp only; omega)) | (refine Fin.ext ?_; dsimp only; omega)

/-- A block's output: the outputs of its sequences, chunk by chunk. -/
theorem canon_stores {d : Dir Ideal} {ρ : Equiv.Perm (Fin 64)} (ho : Ordered d ρ) {x : Ins Ideal} {N : ℕ} {L : Fin 2 → Fin 2 → Strm}
    (hf : Fits d ρ x N L) (h2 : ∀ n, d.ord (d.ord n) = n) (hρ : ∀ r, ρ (ρ r) = r) (row : Fin 2048) (col : Fin 512)
    (hc : ∃ pc ∈ stores d x, ix3 0 row col ∈ pc.1.set) :
    View.canon (stores d x) (ix3 0 row col)
      = (L ⟨col.val / 256, by omega⟩ ⟨col.val / 128 % 2, by omega⟩).out (N + (d.ord ⟨row.val / 64, by omega⟩).val)
          (ρ ⟨row.val % 64, by omega⟩) ⟨col.val % 128, by omega⟩ := by
  let G : Fin 2048 → Fin 512 → EReal := fun row col =>
    (L ⟨col.val / 256, by omega⟩ ⟨col.val / 128 % 2, by omega⟩).out (N + (d.ord ⟨row.val / 64, by omega⟩).val)
          (ρ ⟨row.val % 64, by omega⟩) ⟨col.val % 128, by omega⟩
  refine View.canon_apply_of_pieces (Val := Elt Ideal) (e := .f32) (S := S1x2048x512) (fun y => G (y 1) (y 2)) _ ?_ _ hc
  refine (List.forall_mem_ofFn_iff).mpr fun i z => ?_
  obtain ⟨u, r, y, rfl⟩ : ∃ (u : Fin 1) (r : Fin 64) (y : Fin 256), z = ix3 u r y := ⟨z 0, z 1, z 2, by
    funext a; match a with | 0 => rfl | 1 => rfl | 2 => rfl⟩
  obtain rfl : u = 0 := Subsingleton.elim _ _
  refine Eq.trans ?_ (congrArg (fun y : S1x2048x512.Idx => G (y 1) (y 2)) (out_emb _ _ r y)).symm
  obtain ⟨r, rfl⟩ : ∃ r', r = ρ r' := ⟨ρ r, (hρ r).symm⟩
  obtain ⟨e, y, rfl⟩ : ∃ (e : Fin 2) (y' : Fin 128), y = ⟨128 * e.val + y'.val, by omega⟩ :=
    ⟨⟨y.val / 128, by omega⟩, ⟨y.val % 128, by omega⟩, Fin.ext (by show y.val = 128 * (y.val / 128) + y.val % 128; omega)⟩
  refine (out_eq ho hf _ r _ e y).trans ?_
  refine Eq.trans ?_ (pick (fun p e n r y => (L p e).out (N + (d.ord n).val) (ρ r) y) _ e (d.ord _) (ρ r) y).symm
  dsimp only
  rw [h2, hρ]

theorem same {d : Dir Ideal} {x x' : Ins Ideal} (h : x = x') {T : List (View.Piece (Elt Ideal) S4x64x128 .f32)} :
    View.canon (stores d x) = View.canon (stores d x')
      ∧ ∃ L, View.canon (storesBack (blockStates d x 32) ++ T) = View.canon (storesBack (blockStates d x' 32) ++ L) := by
  subst h; exact ⟨rfl, T, rfl⟩

theorem same_nil {d : Dir Ideal} {x x' : Ins Ideal} (h : x = x') :
    View.canon (stores d x) = View.canon (stores d x')
      ∧ ∃ L, View.canon (storesBack (blockStates d x 32)) = View.canon (storesBack (blockStates d x' 32) ++ L) := by
  subst h; exact ⟨rfl, [], by rw [List.append_nil]⟩

variable (m : (ℓ : Loc nD τ sig) → Buf (Elt Ideal) ℓ) (c : Dev nD) (t : Fin cfg0.N)

/-- The states a grid point starts from. -/
def scr0 : Vec Ideal S4x64x128 .f32 :=
  if t.val % 4 = 0 then startOf (iblk m c 12 t)
  else (outsAt0 m c (t.val - 1) (Nat.lt_of_le_of_lt (Nat.sub_le _ _) t.isLt)).2.2.2.2.1
def scr1 : Vec Ideal S4x64x128 .f32 :=
  if t.val % 4 = 0 then startOf (iblk m c 13 t)
  else (outsAt0 m c (t.val - 1) (Nat.lt_of_le_of_lt (Nat.sub_le _ _) t.isLt)).2.2.2.2.2

/-- The two directions' inputs at a grid point. -/
def ins0 : Ins Ideal :=
  insOf (iblk m c 8 t) (iblk m c 9 t) (iblk m c 3 t) (iblk m c 0 t) (iblk m c 1 t) (iblk m c 2 t) (scr0 m c t)
def ins1 : Ins Ideal :=
  insOf (iblk m c 10 t) (iblk m c 11 t) (iblk m c 7 t) (iblk m c 4 t) (iblk m c 5 t) (iblk m c 6 t) (scr1 m c t)

end Cert.Proof.Gla

end
-- ==== Proof.GlaValue.Points.lean ====
/- What a grid point leaves: its stores, the states in the scratch, and the states written out. -/
module

public import proofs.«01_k».proof.Proof.GlaValue.Reads
public import Idealize.ShloMosaic.Lib.Pipeline.ValueKit

@[expose] public section

set_option maxRecDepth 65536
set_option maxHeartbeats 4000000

noncomputable section

namespace Cert.Proof.Gla

open Idealize.ShloMosaic Idealize.ShloMosaic.TcCoe Cert.KernelIdeal Cert.KernelIdeal.Gen

variable (m : (ℓ : Loc nD τ sig) → Buf (Elt Ideal) ℓ) (c : Dev nD) (t : Fin cfg0.N)

/-- What a grid point leaves of direction fwd: its stores, and the states after its chunks. -/
theorem point0 : (outsAt0 m c t.val t.isLt).1 = View.canon (stores fwd (ins0 m c t))
    ∧ ∃ L, (outsAt0 m c t.val t.isLt).2.2.2.2.1 = View.canon (storesBack (blockStates fwd (ins0 m c t) 32) ++ L) := by
  by_cases h0 : t.val % 4 = 0
  · rw [outsAt0_A m c t h0 (by omega)]
    dsimp only
    rw [out_A0, back_A0]
    refine same (ins_eq (whole_read _ _ _ (by decide) _) (whole_read _ _ _ (by decide) _) (whole_read _ _ _ (by decide) _)
      (whole_read _ _ _ (by decide) _) (whole_read _ _ _ (by decide) _) (whole_read _ _ _ (by decide) _) fun h j y => ?_)
    rw [scr0, if_pos h0]
    exact state_read_first0 ..
  by_cases h1 : t.val % 4 = 3
  · rw [outsAt0_C m c t h0 h1]
    dsimp only
    rw [out_C0, back_C0]
    refine same_nil (ins_eq (whole_read _ _ _ (by decide) _) (whole_read _ _ _ (by decide) _) (whole_read _ _ _ (by decide) _)
      (whole_read _ _ _ (by decide) _) (whole_read _ _ _ (by decide) _) (whole_read _ _ _ (by decide) _) fun h j y => ?_)
    rw [scr0, if_neg h0]
    exact state_read ..
  · rw [outsAt0_B m c t h0 h1]
    dsimp only
    rw [out_B0, back_B0]
    refine same_nil (ins_eq (whole_read _ _ _ (by decide) _) (whole_read _ _ _ (by decide) _) (whole_read _ _ _ (by decide) _)
      (whole_read _ _ _ (by decide) _) (whole_read _ _ _ (by decide) _) (whole_read _ _ _ (by decide) _) fun h j y => ?_)
    rw [scr0, if_neg h0]
    exact state_read ..

/-- The states a batch entry's last point writes out are those it leaves in the scratch. -/
theorem last0 (h1 : t.val % 4 = 3) (h : Fin 4) (j : Fin 64) (y : Fin 128) :
    (outsAt0 m c t.val t.isLt).2.2.1 (ix4 0 h j y) = (outsAt0 m c t.val t.isLt).2.2.2.2.1 (ix3 h j y) := by
  rw [outsAt0_C m c t (by omega) h1]
  dsimp only
  exact last_C0 ..

/-- What a grid point leaves of direction bwd: its stores, and the states after its chunks. -/
theorem point1 : (outsAt0 m c t.val t.isLt).2.1 = View.canon (stores bwd (ins1 m c t))
    ∧ ∃ L, (outsAt0 m c t.val t.isLt).2.2.2.2.2 = View.canon (storesBack (blockStates bwd (ins1 m c t) 32) ++ L) := by
  by_cases h0 : t.val % 4 = 0
  · rw [outsAt0_A m c t h0 (by omega)]
    dsimp only
    rw [out_A1, back_A1]
    refine same (ins_eq (whole_read _ _ _ (by decide) _) (whole_read _ _ _ (by decide) _) (whole_read _ _ _ (by decide) _)
      (whole_read _ _ _ (by decide) _) (whole_read _ _ _ (by decide) _) (whole_read _ _ _ (by decide) _) fun h j y => ?_)
    rw [scr1, if_pos h0]
    exact state_read_first1 ..
  by_cases h1 : t.val % 4 = 3
  · rw [outsAt0_C m c t h0 h1]
    dsimp only
    rw [out_C1, back_C1]
    refine same_nil (ins_eq (whole_read _ _ _ (by decide) _) (whole_read _ _ _ (by decide) _) (whole_read _ _ _ (by decide) _)
      (whole_read _ _ _ (by decide) _) (whole_read _ _ _ (by decide) _) (whole_read _ _ _ (by decide) _) fun h j y => ?_)
    rw [scr1, if_neg h0]
    exact state_read ..
  · rw [outsAt0_B m c t h0 h1]
    dsimp only
    rw [out_B1, back_B1]
    refine same_nil (ins_eq (whole_read _ _ _ (by decide) _) (whole_read _ _ _ (by decide) _) (whole_read _ _ _ (by decide) _)
      (whole_read _ _ _ (by decide) _) (whole_read _ _ _ (by decide) _) (whole_read _ _ _ (by decide) _) fun h j y => ?_)
    rw [scr1, if_neg h0]
    exact state_read ..

/-- The states a batch entry's last point writes out are those it leaves in the scratch. -/
theorem last1 (h1 : t.val % 4 = 3) (h : Fin 4) (j : Fin 64) (y : Fin 128) :
    (outsAt0 m c t.val t.isLt).2.2.2.1 (ix4 0 h j y) = (outsAt0 m c t.val t.isLt).2.2.2.2.2 (ix3 h j y) := by
  rw [outsAt0_C m c t (by omega) h1]
  dsimp only
  exact last_C1 ..

end Cert.Proof.Gla

end
-- ==== Proof.GlaValue.Ref.lean ====
/- The reference's arrays, read as the specification's sequences. -/
module

public import proofs.«01_k».proof.Proof.GlaValue.Spec
public import proofs.«01_k».proof.Proof.Gen.ReferenceIdeal.Step

@[expose] public section

set_option maxRecDepth 65536
set_option maxHeartbeats 1000000

noncomputable section

namespace Cert.Proof.GlaRef

open Idealize.ShloMosaic Idealize.ShloMosaic.TcCoe
open Cert.ReferenceIdeal Cert.ReferenceIdeal.Gen Cert.ReferenceIdeal.Step Cert.Proof.Gla

/-- A sum with the terms in a list's order. -/
theorem foldl_eq_sum (N : ℕ) (f : Fin N → EReal) : (List.finRange N).foldl (fun r n => r + f n) 0 = ∑ n, f n := by
  rw [Fin.sum_univ_def, List.sum_eq_foldl, List.foldl_map]

/-- The window's offsets. -/
def offsets : Fin 64 ≃ (⟨5, ![1, 1, 64, 1, 1]⟩ : Shape).Idx where
  toFun x := ix5 0 0 x 0 0
  invFun i := i 2
  left_inv _ := rfl
  right_inv i := by
    funext a
    fin_cases a <;> first | rfl | exact Subsingleton.elim (α := Fin 1) _ _

/-- `reduce_window` with 63 low padding along the chunk's rows sums the rows up to each one. -/
theorem cumsum_apply (x : FVec Ideal S8x128x64x4x64 .f32) (v : FVec Ideal S_ .f32) (hv : v (Shape.Idx.first h_S_) = 0)
    (b : Fin 8) (n : Fin 128) (r : Fin 64) (h : Fin 4) (d : Fin 64) :
    (Host.reduceWindowAdd ![1, 1, 64, 1, 1] ![1, 1, 1, 1, 1] ![0, 0, 63, 0, 0] ![0, 0, 0, 0, 0] x v
      reduceWindows_S8x128x64x4x64_S8x128x64x4x64_w1s1p0_0_w1s1p0_0_w64s1p63_0_w1s1p0_0_w1s1p0_0 h_S_ : FVec Ideal S8x128x64x4x64 .f32)
        (ix5 b n r h d) = ∑ s : Fin 64, if s ≤ r then x (ix5 b n s h d) else 0 := by
  have e : ∀ (m : Fin 64), (63 ≤ r.val + m.val ↔ m + (r + 1) ≤ r) := by intro m; omega
  rw [← Equiv.sum_comp (Equiv.addRight (r + 1))]
  unfold Host.reduceWindowAdd
  rw [hv]
  let G : (⟨5, ![1, 1, 64, 1, 1]⟩ : Shape).Idx → EReal := fun i =>
    if hin : ∀ a : Fin 5, (![0, 0, 63, 0, 0] : Fin 5 → ℕ) a ≤ (ix5 b n r h d a).val * (![1, 1, 1, 1, 1] : Fin 5 → ℕ) a + (i a).val
        ∧ (ix5 b n r h d a).val * (![1, 1, 1, 1, 1] : Fin 5 → ℕ) a + (i a).val - (![0, 0, 63, 0, 0] : Fin 5 → ℕ) a < S8x128x64x4x64.size a then
      x (fun a => ⟨(ix5 b n r h d a).val * (![1, 1, 1, 1, 1] : Fin 5 → ℕ) a + (i a).val - (![0, 0, 63, 0, 0] : Fin 5 → ℕ) a, (hin a).2⟩)
    else 0
  refine (foldl_eq_sum _ _).trans ?_
  refine (Finset.sum_congr rfl fun n _ => (dite_congr rfl (fun _ => rfl) (fun _ => rfl) : _ = G ((Shape.rowMajor (⟨5, ![1, 1, 64, 1, 1]⟩ : Shape)).symm n))).trans ?_
  rw [Equiv.sum_comp (Shape.rowMajor (⟨5, ![1, 1, 64, 1, 1]⟩ : Shape)).symm G, ← Equiv.sum_comp offsets]
  refine Finset.sum_congr rfl fun m _ => ?_
  show G (ix5 0 0 m 0 0) = if m + (r + 1) ≤ r then x (ix5 b n (m + (r + 1)) h d) else 0
  by_cases hle : m + (r + 1) ≤ r
  · have hr := (e m).2 hle
    rw [if_pos hle]
    refine (dif_pos ?_).trans ?_
    · intro a
      fin_cases a <;> simp <;> omega
    · congr 1
      funext a
      fin_cases a <;> apply Fin.ext <;> simp <;> omega
  · rw [if_neg hle]
    refine dif_neg fun hin => ?_
    have := (hin 2).1
    exact hle ((e m).1 (by simpa using this))

variable (a0 a1 : FVec Ideal S4x8192x256 .bf16) (a2 : FVec Ideal S4x8192x512 .bf16) (a3 : FVec Ideal S4x8192x32 .bf16)
  (a4 : FVec Ideal S16x256 .f32) (a5 : FVec Ideal S256 .f32) (a6 : FVec Ideal S16x256 .f32) (a7 : FVec Ideal S256 .f32)
  (a8 a9 : FVec Ideal S4x4x64x128 .f32)

/-- The eight rows of sequences: four in time, four against it. -/
def strmF (b h : Fin 4) : Strm :=
  strm id 0 (fun b t j => a0 (ix3 b t j)) (fun b t j => a1 (ix3 b t j)) (fun b t j => a2 (ix3 b t j)) (fun b t j => a3 (ix3 b t j))
    (fun i j => a4 (ix2 i j)) (fun j => a5 (ix1 j)) (fun b h d e => a8 (ix4 b h d e)) b h
def strmB (b h : Fin 4) : Strm :=
  strm Fin.rev 16 (fun b t j => a0 (ix3 b t j)) (fun b t j => a1 (ix3 b t j)) (fun b t j => a2 (ix3 b t j)) (fun b t j => a3 (ix3 b t j))
    (fun i j => a6 (ix2 i j)) (fun j => a7 (ix1 j)) (fun b h d e => a9 (ix4 b h d e)) b h
def strm8 (b : Fin 8) (h : Fin 4) : Strm :=
  if hb : b.val < 4 then strmF a0 a1 a2 a3 a4 a5 a8 ⟨b.val, hb⟩ h else strmB a0 a1 a2 a3 a6 a7 a9 ⟨b.val - 4, by omega⟩ h

theorem q_apply (b : Fin 8) (t : Fin 8192) (h : Fin 4) (d : Fin 64) :
    A_main_v44 (F := Ideal) a0 a1 a2 a3 a4 a5 a6 a7 a8 a9 (ix4 b t h d) = (strm8 a0 a1 a2 a3 a4 a5 a6 a7 a8 a9 b h).q t d := by
  unfold strm8
  split_ifs with hb <;> pointwise [A_main_v44, A_main_v43, A_main_v8, A_main_v6, A_main_v0, K_main_v7, K_main_cst, strmF, strmB, strm, hb] <;> try simp

theorem k_apply (b : Fin 8) (t : Fin 8192) (h : Fin 4) (d : Fin 64) :
    A_main_v46 (F := Ideal) a0 a1 a2 a3 a4 a5 a6 a7 a8 a9 (ix4 b t h d) = (strm8 a0 a1 a2 a3 a4 a5 a6 a7 a8 a9 b h).k t d := by
  unfold strm8
  split_ifs with hb <;> pointwise [A_main_v46, A_main_v45, A_main_v9, A_main_v1, strmF, strmB, strm, hb] <;> try simp

theorem v_apply (b : Fin 8) (t : Fin 8192) (h : Fin 4) (d : Fin 128) :
    A_main_v48 (F := Ideal) a0 a1 a2 a3 a4 a5 a6 a7 a8 a9 (ix4 b t h d) = (strm8 a0 a1 a2 a3 a4 a5 a6 a7 a8 a9 b h).v t d := by
  unfold strm8
  split_ifs with hb <;> pointwise [A_main_v48, A_main_v47, A_main_v10, A_main_v2, strmF, strmB, strm, hb] <;> try simp

theorem g_apply (b : Fin 8) (t : Fin 8192) (h : Fin 4) (d : Fin 64) :
    A_main_v50 (F := Ideal) a0 a1 a2 a3 a4 a5 a6 a7 a8 a9 (ix4 b t h d) = (strm8 a0 a1 a2 a3 a4 a5 a6 a7 a8 a9 b h).g t d := by
  unfold strm8
  split_ifs with hb <;> pointwise [A_main_v50, A_main_v49, A_main_v42, A_main_v41, A_main_v39, A_main_v38, A_main_v37, A_main_v36, A_main_v35, A_main_v34, A_main_v33, A_main_v31, A_main_v30, A_main_v29, A_main_v28, A_main_v27, A_main_v5, A_main_v3,
    A_main_v26, A_main_v25, A_main_v23, A_main_v22, A_main_v21, A_main_v20, A_main_v19, A_main_v18, A_main_v17, A_main_v15, A_main_v14, A_main_v13, A_main_v12, A_main_v11, A_main_v4, K_main_v40, K_main_v32, K_main_v16, K_main_v24,
    K_main_cst_0, K_main_cst_1, K_main_cst_2, K_main_cst_3, logGate, strmF, strmB, strm, hb] <;> try simp

theorem s_apply (b : Fin 8) (h : Fin 4) (d : Fin 64) (e : Fin 128) :
    A_main_v51 (F := Ideal) a0 a1 a2 a3 a4 a5 a6 a7 a8 a9 (ix4 b h d e) = (strm8 a0 a1 a2 a3 a4 a5 a6 a7 a8 a9 b h).s d e := by
  unfold strm8
  split_ifs with hb <;> pointwise [A_main_v51, strmF, strmB, strm, hb] <;> try simp

theorem v52_apply (b : Fin 8) (n : Fin 128) (r : Fin 64) (h : Fin 4) (d : Fin 64) :
    A_main_v52 (F := Ideal) a0 a1 a2 a3 a4 a5 a6 a7 a8 a9 (ix5 b n r h d) = (strm8 a0 a1 a2 a3 a4 a5 a6 a7 a8 a9 b h).q (pos n r) d := by
  rw [← q_apply, pos_eq]
  pointwise [A_main_v52]

theorem v53_apply (b : Fin 8) (n : Fin 128) (r : Fin 64) (h : Fin 4) (d : Fin 64) :
    A_main_v53 (F := Ideal) a0 a1 a2 a3 a4 a5 a6 a7 a8 a9 (ix5 b n r h d) = (strm8 a0 a1 a2 a3 a4 a5 a6 a7 a8 a9 b h).k (pos n r) d := by
  rw [← k_apply, pos_eq]
  pointwise [A_main_v53]

theorem v54_apply (b : Fin 8) (n : Fin 128) (r : Fin 64) (h : Fin 4) (d : Fin 64) :
    A_main_v54 (F := Ideal) a0 a1 a2 a3 a4 a5 a6 a7 a8 a9 (ix5 b n r h d) = (strm8 a0 a1 a2 a3 a4 a5 a6 a7 a8 a9 b h).g (pos n r) d := by
  rw [← g_apply, pos_eq]
  pointwise [A_main_v54]

theorem v55_apply (b : Fin 8) (n : Fin 128) (r : Fin 64) (h : Fin 4) (e : Fin 128) :
    A_main_v55 (F := Ideal) a0 a1 a2 a3 a4 a5 a6 a7 a8 a9 (ix5 b n r h e) = (strm8 a0 a1 a2 a3 a4 a5 a6 a7 a8 a9 b h).v (pos n r) e := by
  rw [← v_apply, pos_eq]
  pointwise [A_main_v55]

section
variable (x y z : FVec Ideal S8x128x64x4x64 .f32) (i : S8x128x64x4x64.Idx)
theorem grow_apply : mulf x (Host.exp y) i = x i * Ideal.exp (y i) := by pointwise
theorem shrink_apply : mulf x (Host.exp (Host.negf y)) i = x i * Ideal.exp (-y i) := by pointwise
theorem carry_apply : mulf x (Host.exp (subf z y)) i = x i * Ideal.exp (z i - y i) := by pointwise
end

theorem v56_apply (b : Fin 8) (n : Fin 128) (r : Fin 64) (h : Fin 4) (d : Fin 64) :
    A_main_v56 (F := Ideal) a0 a1 a2 a3 a4 a5 a6 a7 a8 a9 (ix5 b n r h d) = (strm8 a0 a1 a2 a3 a4 a5 a6 a7 a8 a9 b h).cs n r d := by
  refine (cumsum_apply _ _ (by pointwise [K_main_call4_call0_v0, K_main_call4_call0_cst]) b n r h d).trans ?_
  simp only [v54_apply]
  rfl

theorem v60_apply (b : Fin 8) (n : Fin 128) (r : Fin 64) (h : Fin 4) (d : Fin 64) :
    A_main_v60 (F := Ideal) a0 a1 a2 a3 a4 a5 a6 a7 a8 a9 (ix5 b n r h d) = (strm8 a0 a1 a2 a3 a4 a5 a6 a7 a8 a9 b h).qe n r d := by
  unfold A_main_v60 A_main_v59
  rw [grow_apply, v52_apply, v56_apply, Strm.qe]

theorem v63_apply (b : Fin 8) (n : Fin 128) (r : Fin 64) (h : Fin 4) (d : Fin 64) :
    A_main_v63 (F := Ideal) a0 a1 a2 a3 a4 a5 a6 a7 a8 a9 (ix5 b n r h d) = (strm8 a0 a1 a2 a3 a4 a5 a6 a7 a8 a9 b h).ke n r d := by
  unfold A_main_v63 A_main_v62 A_main_v61
  rw [shrink_apply, v53_apply, v56_apply, Strm.ke]

theorem v58_apply (b : Fin 8) (n : Fin 128) (h : Fin 4) (d : Fin 64) :
    A_main_v58 (F := Ideal) a0 a1 a2 a3 a4 a5 a6 a7 a8 a9 (ix4 b n h d) = (strm8 a0 a1 a2 a3 a4 a5 a6 a7 a8 a9 b h).cs n 63 d := by
  rw [← v56_apply]
  pointwise [A_main_v58, A_main_v57]

theorem v68_apply (b : Fin 8) (n : Fin 128) (r : Fin 64) (h : Fin 4) (d : Fin 64) :
    A_main_v68 (F := Ideal) a0 a1 a2 a3 a4 a5 a6 a7 a8 a9 (ix5 b n r h d) = (strm8 a0 a1 a2 a3 a4 a5 a6 a7 a8 a9 b h).kt n r d := by
  have e : A_main_v65 (F := Ideal) a0 a1 a2 a3 a4 a5 a6 a7 a8 a9 (ix5 b n r h d) = A_main_v58 (F := Ideal) a0 a1 a2 a3 a4 a5 a6 a7 a8 a9 (ix4 b n h d) := by
    pointwise [A_main_v65, A_main_v64]
  unfold A_main_v68 A_main_v67 A_main_v66
  rw [carry_apply, e, v53_apply, v58_apply, v56_apply, Strm.kt]

theorem mask_apply (r s : Fin 64) : K_main_v70 (F := Ideal) (ix2 r s) = if s ≤ r then 1#1 else 0#1 := by
  revert r s
  decide +kernel

theorem v72_apply (b : Fin 8) (n : Fin 128) (h : Fin 4) (r s : Fin 64) :
    A_main_v72 (F := Ideal) a0 a1 a2 a3 a4 a5 a6 a7 a8 a9 (ix5 b n h r s) = (strm8 a0 a1 a2 a3 a4 a5 a6 a7 a8 a9 b h).att n r s := by
  unfold Strm.att
  simp only [← v60_apply, ← v63_apply]
  pointwise [A_main_v72, A_main_v71, K_main_call6_v1, K_main_call6_v2, K_main_call6_v0, K_main_cst_4]
  rw [mask_apply, show id (constant (F := Ideal) S_ FTy.f32 0#32) ix0 = (0 : EReal) from Ideal.ofBits_zero_f32]
  by_cases hs : s ≤ r <;> simp [hs, Scalar.select]

theorem v79_apply (b : Fin 8) (n : Fin 128) (r : Fin 64) (h : Fin 4) (e : Fin 128) :
    A_main_v79 (F := Ideal) a0 a1 a2 a3 a4 a5 a6 a7 a8 a9 (ix5 n b r h e) = (strm8 a0 a1 a2 a3 a4 a5 a6 a7 a8 a9 b h).intra n r e := by
  unfold Strm.intra
  simp only [← v72_apply, ← v55_apply]
  pointwise [A_main_v79, A_main_v74, A_main_v73]

theorem v75_apply (b : Fin 8) (n : Fin 128) (h : Fin 4) (d : Fin 64) (e : Fin 128) :
    A_main_v75 (F := Ideal) a0 a1 a2 a3 a4 a5 a6 a7 a8 a9 (ix5 n b h d e) = (strm8 a0 a1 a2 a3 a4 a5 a6 a7 a8 a9 b h).kv n d e := by
  unfold Strm.kv
  simp only [← v68_apply, ← v55_apply]
  pointwise [A_main_v75]

theorem v77_apply (b : Fin 8) (n : Fin 128) (h : Fin 4) (d : Fin 64) :
    A_main_v77 (F := Ideal) a0 a1 a2 a3 a4 a5 a6 a7 a8 a9 (ix4 n b h d) = Ideal.exp ((strm8 a0 a1 a2 a3 a4 a5 a6 a7 a8 a9 b h).cs n 63 d) := by
  rw [← v58_apply]
  pointwise [A_main_v77, A_main_v76]

theorem v78_apply (b : Fin 8) (n : Fin 128) (r : Fin 64) (h : Fin 4) (d : Fin 64) :
    A_main_v78 (F := Ideal) a0 a1 a2 a3 a4 a5 a6 a7 a8 a9 (ix5 n b r h d) = (strm8 a0 a1 a2 a3 a4 a5 a6 a7 a8 a9 b h).qe n r d := by
  rw [← v60_apply]
  pointwise [A_main_v78]

end Cert.Proof.GlaRef

end
-- ==== Proof.GlaValue.RefLoop.lean ====
/- The reference's recurrence, trip by trip, as the specification's states and outputs. -/
module

public import proofs.«01_k».proof.Proof.GlaValue.Ref
public import Idealize.ShloMosaic.Lib.DynamicIndex
public import Idealize.ShloMosaic.Lib.Pipeline.ValueKit
public import proofs.«01_k».proof.Proof.Gen.ReferenceIdeal.Step

@[expose] public section

set_option maxRecDepth 65536
set_option maxHeartbeats 1000000

noncomputable section

namespace Cert.Proof.GlaRef

open Idealize.ShloMosaic Idealize.ShloMosaic.TcCoe
open Cert.ReferenceIdeal Cert.ReferenceIdeal.Gen Cert.ReferenceIdeal.Step Cert.Proof.Gla

section
variable (s : State Ideal) (n : Fin 128)

theorem b4_eq : b4 n.val s = extractStridedSlice S1x8x64x4x64 ![n.val, 0, 0, 0, 0] s.main_v81_0 (by revert n; decide) :=
  Host.dynamicSlice_eq_extractStridedSlice _ _ _ _ _ _ fun a => by
    fin_cases a <;> first | exact toInt_ofNat_of_lt (by omega) | rfl

theorem b10_eq : b10 n.val s = extractStridedSlice S1x8x64x4x128 ![n.val, 0, 0, 0, 0] s.main_v81_1 (by revert n; decide) :=
  Host.dynamicSlice_eq_extractStridedSlice _ _ _ _ _ _ fun a => by
    fin_cases a <;> first | exact toInt_ofNat_of_lt (by omega) | rfl

theorem b16_eq : b16 n.val s = extractStridedSlice S1x8x4x64x128 ![n.val, 0, 0, 0, 0] s.main_v81_2 (by revert n; decide) :=
  Host.dynamicSlice_eq_extractStridedSlice _ _ _ _ _ _ fun a => by
    fin_cases a <;> first | exact toInt_ofNat_of_lt (by omega) | rfl

theorem b21_eq : b21 n.val s = extractStridedSlice S1x8x4x64 ![n.val, 0, 0, 0] s.main_v81_3 (by revert n; decide) :=
  Host.dynamicSlice_eq_extractStridedSlice _ _ _ _ _ _ fun a => by
    fin_cases a <;> first | exact toInt_ofNat_of_lt (by omega) | rfl

theorem b35_eq : b35 n.val s = updateSlice s.main_v81_6 (b30 n.val s) ![n.val, 0, 0, 0, 0] (by revert n; decide) :=
  Host.dynamicUpdateSlice_eq_updateSlice _ _ _ _ _ (fun a => by
    fin_cases a
    · show (min (max (BitVec.ofNat 32 n.val).toInt 0) 127).toNat = n.val
      rw [toInt_ofNat_of_lt (by omega)]
      omega
    all_goals rfl) _

/-- The new state. -/
theorem b26_apply (b : Fin 8) (h : Fin 4) (d : Fin 64) (e : Fin 128) :
    b26 n.val s (ix4 b h d e) = s.main_v81_3 (ix4 n b h d) * s.main_v81_5 (ix4 b h d e) + s.main_v81_2 (ix5 n b h d e) := by
  pointwise [b26, b25, b24, b23, b22, b21_eq, b17, b16_eq]

/-- The outputs stored. -/
theorem b29_apply (b : Fin 8) (r : Fin 64) (h : Fin 4) (e : Fin 128) :
    b29 n.val s (ix4 b r h e) = s.main_v81_1 (ix5 n b r h e) + ∑ d : Fin 64, s.main_v81_5 (ix4 b h d e) * s.main_v81_0 (ix5 n b r h d) := by
  pointwise [b29, b28, b27, b11, b10_eq, b5, b4_eq]

theorem b35_apply (k : Fin 128) (b : Fin 8) (r : Fin 64) (h : Fin 4) (e : Fin 128) :
    b35 n.val s (ix5 k b r h e) = if k = n then b29 n.val s (ix4 b r h e) else s.main_v81_6 (ix5 k b r h e) := by
  pointwise [b35_eq, b30]
  by_cases h : k = n
  · rw [dif_pos ⟨by rw [h], by rw [h]; omega⟩, if_pos h]
  · rw [dif_neg fun hc => h (Fin.ext (by omega)), if_neg h]
end

variable (a0 a1 : FVec Ideal S4x8192x256 .bf16) (a2 : FVec Ideal S4x8192x512 .bf16) (a3 : FVec Ideal S4x8192x32 .bf16)
  (a4 : FVec Ideal S16x256 .f32) (a5 : FVec Ideal S256 .f32) (a6 : FVec Ideal S16x256 .f32) (a7 : FVec Ideal S256 .f32)
  (a8 a9 : FVec Ideal S4x4x64x128 .f32)

/-- The loop's states. -/
def loop : ℕ → State Ideal
  | 0 => init a0 a1 a2 a3 a4 a5 a6 a7 a8 a9
  | n + 1 => step n (loop n)

theorem fixed (n : ℕ) : (loop a0 a1 a2 a3 a4 a5 a6 a7 a8 a9 n).main_v81_0 = A_main_v78 a0 a1 a2 a3 a4 a5 a6 a7 a8 a9 ∧ (loop a0 a1 a2 a3 a4 a5 a6 a7 a8 a9 n).main_v81_1 = A_main_v79 a0 a1 a2 a3 a4 a5 a6 a7 a8 a9
    ∧ (loop a0 a1 a2 a3 a4 a5 a6 a7 a8 a9 n).main_v81_2 = A_main_v75 a0 a1 a2 a3 a4 a5 a6 a7 a8 a9 ∧ (loop a0 a1 a2 a3 a4 a5 a6 a7 a8 a9 n).main_v81_3 = A_main_v77 a0 a1 a2 a3 a4 a5 a6 a7 a8 a9 := by
  induction n with
  | zero => exact ⟨rfl, rfl, rfl, rfl⟩
  | succ n ih => exact ih

theorem state_eq (n : ℕ) (hn : n ≤ 128) (b : Fin 8) (h : Fin 4) (d : Fin 64) (e : Fin 128) :
    (loop a0 a1 a2 a3 a4 a5 a6 a7 a8 a9 n).main_v81_5 (ix4 b h d e) = (strm8 a0 a1 a2 a3 a4 a5 a6 a7 a8 a9 b h).st n d e := by
  induction n with
  | zero => exact s_apply a0 a1 a2 a3 a4 a5 a6 a7 a8 a9 b h d e
  | succ n ih =>
    obtain ⟨-, -, h2, h3⟩ := fixed a0 a1 a2 a3 a4 a5 a6 a7 a8 a9 n
    refine (b26_apply (loop a0 a1 a2 a3 a4 a5 a6 a7 a8 a9 n) ⟨n, hn⟩ b h d e).trans ?_
    rw [h2, h3, ih (by omega), v75_apply, v77_apply]
    rfl

theorem outs_eq (n : ℕ) (hn : n ≤ 128) (k : Fin 128) (hk : k.val < n) (b : Fin 8) (r : Fin 64) (h : Fin 4) (e : Fin 128) :
    (loop a0 a1 a2 a3 a4 a5 a6 a7 a8 a9 n).main_v81_6 (ix5 k b r h e) = (strm8 a0 a1 a2 a3 a4 a5 a6 a7 a8 a9 b h).out k r e := by
  induction n with
  | zero => exact absurd hk (Nat.not_lt_zero _)
  | succ n ih =>
    obtain ⟨h0, h1, -, -⟩ := fixed a0 a1 a2 a3 a4 a5 a6 a7 a8 a9 n
    refine (b35_apply (loop a0 a1 a2 a3 a4 a5 a6 a7 a8 a9 n) ⟨n, hn⟩ k b r h e).trans ?_
    by_cases hkn : k = ⟨n, hn⟩
    · rw [if_pos hkn, b29_apply, h0, h1, v79_apply]
      subst hkn
      simp only [state_eq a0 a1 a2 a3 a4 a5 a6 a7 a8 a9 n (by omega), v78_apply]
      rfl
    · rw [if_neg hkn, ih (by omega) (by have : k.val ≠ n := fun e => hkn (Fin.ext e); omega)]

theorem out_time (b : Fin 4) (t : Fin 8192) (h : Fin 4) (e : Fin 128) :
    R_main_v85 (loop a0 a1 a2 a3 a4 a5 a6 a7 a8 a9 128) (ix3 b t ⟨h.val * 128 + e.val, by omega⟩)
      = (strmF a0 a1 a2 a3 a4 a5 a8 b h).out (t.val / 64) ⟨t.val % 64, by omega⟩ e := by
  have := outs_eq a0 a1 a2 a3 a4 a5 a6 a7 a8 a9 128 le_rfl ⟨t.val / 64, by omega⟩ (by show t.val / 64 < 128; omega) ⟨b.val, by omega⟩ ⟨t.val % 64, by omega⟩ h e
  rw [strm8, dif_pos (by show b.val < 4; omega)] at this
  rw [← this]
  pointwise [R_main_v85]

theorem out_rev (b : Fin 4) (t : Fin 8192) (h : Fin 4) (e : Fin 128) :
    R_main_v87 (loop a0 a1 a2 a3 a4 a5 a6 a7 a8 a9 128) (ix3 b t.rev ⟨h.val * 128 + e.val, by omega⟩)
      = (strmB a0 a1 a2 a3 a6 a7 a9 b h).out (t.val / 64) ⟨t.val % 64, by omega⟩ e := by
  have := outs_eq a0 a1 a2 a3 a4 a5 a6 a7 a8 a9 128 le_rfl ⟨t.val / 64, by omega⟩ (by show t.val / 64 < 128; omega) ⟨4 + b.val, by omega⟩ ⟨t.val % 64, by omega⟩ h e
  rw [strm8, dif_neg (by show ¬ 4 + b.val < 4; omega)] at this
  simp only [Nat.add_sub_cancel_left] at this
  rw [← this]
  pointwise [R_main_v87]
  simp [Fin.rev_rev]
  rw [show (⟨(h.val * 128 + e.val) / 128, by omega⟩ : Fin 4) = h from Fin.ext (by simp; omega),
    show (⟨e.val % 128, by omega⟩ : Fin 128) = e from Fin.ext (Nat.mod_eq_of_lt e.isLt)]

theorem last_time (b h : Fin 4) (d : Fin 64) (e : Fin 128) :
    R_main_v88 (loop a0 a1 a2 a3 a4 a5 a6 a7 a8 a9 128) (ix4 b h d e) = (strmF a0 a1 a2 a3 a4 a5 a8 b h).st 128 d e := by
  have := state_eq a0 a1 a2 a3 a4 a5 a6 a7 a8 a9 128 le_rfl ⟨b.val, by omega⟩ h d e
  rw [strm8, dif_pos (by show b.val < 4; omega)] at this
  rw [← this]
  pointwise [R_main_v88]

theorem last_rev (b h : Fin 4) (d : Fin 64) (e : Fin 128) :
    R_main_v89 (loop a0 a1 a2 a3 a4 a5 a6 a7 a8 a9 128) (ix4 b h d e) = (strmB a0 a1 a2 a3 a6 a7 a9 b h).st 128 d e := by
  have := state_eq a0 a1 a2 a3 a4 a5 a6 a7 a8 a9 128 le_rfl ⟨4 + b.val, by omega⟩ h d e
  rw [strm8, dif_neg (by show ¬ 4 + b.val < 4; omega)] at this
  simp only [Nat.add_sub_cancel_left] at this
  rw [← this]
  pointwise [R_main_v89]

end Cert.Proof.GlaRef

end
-- ==== Proof.GlaValue.Arrays.lean ====
/- What a grid point's blocks hold of the arguments. -/
module

public import proofs.«01_k».proof.Defs
public import proofs.«01_k».proof.Proof.GlaValue.Points
public import proofs.«01_k».proof.Proof.GlaValue.RefLoop
public import Idealize.ShloMosaic.Lib.Pipeline.ValueKit
public import Idealize.ShloMosaic.Lib.StableHlo.ReadAt

@[expose] public section

set_option maxRecDepth 65536
set_option maxHeartbeats 4000000

noncomputable section

namespace Cert.Proof.Gla

open Idealize.ShloMosaic Idealize.ShloMosaic.TcCoe Idealize.SL.Sem Cert.KernelIdeal Cert.KernelIdeal.Gen

variable (m : (ℓ : Loc nD τ sig) → Buf (Elt Ideal) ℓ) (c : Dev nD) (t : Fin cfg0.N)

/-- Where every window stands at a grid point. -/
theorem places : ∀ t : Fin grid0.N, win0_0.index t = ![t.val / 4, t.val % 4, 0]
    ∧ win0_1.index t = ![t.val / 4, t.val % 4, 0]
    ∧ win0_2.index t = ![t.val / 4, t.val % 4, 0]
    ∧ win0_3.index t = ![t.val / 4, t.val % 4, 0]
    ∧ win0_4.index t = ![t.val / 4, 3 - t.val % 4, 0]
    ∧ win0_5.index t = ![t.val / 4, 3 - t.val % 4, 0]
    ∧ win0_6.index t = ![t.val / 4, 3 - t.val % 4, 0]
    ∧ win0_7.index t = ![t.val / 4, 3 - t.val % 4, 0]
    ∧ win0_8.index t = ![0, 0]
    ∧ win0_9.index t = ![0, 0]
    ∧ win0_10.index t = ![0, 0]
    ∧ win0_11.index t = ![0, 0]
    ∧ win0_12.index t = ![t.val / 4, 0, 0, 0]
    ∧ win0_13.index t = ![t.val / 4, 0, 0, 0]
    ∧ win0_14.index t = ![t.val / 4, t.val % 4, 0]
    ∧ win0_15.index t = ![t.val / 4, 3 - t.val % 4, 0]
    ∧ win0_16.index t = ![t.val / 4, 0, 0, 0]
    ∧ win0_17.index t = ![t.val / 4, 0, 0, 0] := by
  decide +kernel

theorem point_lt : t.val < 16 := lt_of_lt_of_eq t.isLt (show cfg0.N = 16 from N_0)

/-- The grid point's batch entry. -/
def batch : Fin 4 := ⟨t.val / 4, by have := point_lt t; omega⟩

/-- The positions that row `r` of the grid point's blocks is. -/
def rowF (r : Fin 2048) : Fin 8192 := ⟨2048 * (t.val % 4) + r.val, by omega⟩
def rowB (r : Fin 2048) : Fin 8192 := ⟨2048 * (3 - t.val % 4) + r.val, by omega⟩

/-- An argument of the call. -/
abbrev A (b : Ref sig .tc) : Buf (Elt Ideal) ((c.tc : Thread nD τ).loc b) := m ((c.tc : Thread nD τ).loc b)

/-- The gates' weights, padded to the logits' width. -/
def padF (i : Fin 32) (j : Fin 256) : EReal := if h : i.val < 16 then A m c main_arg4 (ix2 ⟨i.val, h⟩ j) else 0
def padB (i : Fin 32) (j : Fin 256) : EReal := if i.val < 16 then 0 else A m c main_arg6 (ix2 ⟨i.val - 16, by omega⟩ j)

theorem entry_wf (i : Fin 32) (j : Fin 256) : V m c main_v2 (ix2 i j) = padF m c i j := by
  unfold V padF
  after_reads_at
  split_ifs <;> first | rfl | (after_reads_at; done) | (after_reads_at; exact Ideal.ofBits_zero_f32)
theorem entry_wb (i : Fin 32) (j : Fin 256) : V m c main_v4 (ix2 i j) = padB m c i j := by
  unfold V padB
  after_reads_at
  split_ifs <;> first | rfl | (after_reads_at; done) | (after_reads_at; exact Ideal.ofBits_zero_f32)
theorem entry_bf (j : Fin 256) : V m c main_v5 (ix2 0 j) = A m c main_arg5 (ix1 j) := by
  unfold V
  after_reads_at
theorem entry_bb (j : Fin 256) : V m c main_v6 (ix2 0 j) = A m c main_arg7 (ix1 j) := by
  unfold V
  after_reads_at

theorem blk0 (r : Fin 2048) (j : Fin 256) : iblk m c 0 t (ix3 0 r j) = A m c main_arg0 (ix3 (batch t) (rowF t r) j) := by
  blk_ext [iblk, V, places t, batch, rowF]
theorem blk1 (r : Fin 2048) (j : Fin 256) : iblk m c 1 t (ix3 0 r j) = A m c main_arg1 (ix3 (batch t) (rowF t r) j) := by
  blk_ext [iblk, V, places t, batch, rowF]
theorem blk2 (r : Fin 2048) (j : Fin 512) : iblk m c 2 t (ix3 0 r j) = A m c main_arg2 (ix3 (batch t) (rowF t r) j) := by
  blk_ext [iblk, V, places t, batch, rowF]
theorem blk3 (r : Fin 2048) (j : Fin 32) : iblk m c 3 t (ix3 0 r j) = A m c main_arg3 (ix3 (batch t) (rowF t r) j) := by
  blk_ext [iblk, V, places t, batch, rowF]
theorem blk4 (r : Fin 2048) (j : Fin 256) : iblk m c 4 t (ix3 0 r j) = A m c main_arg0 (ix3 (batch t) (rowB t r) j) := by
  blk_ext [iblk, V, places t, batch, rowB]
theorem blk5 (r : Fin 2048) (j : Fin 256) : iblk m c 5 t (ix3 0 r j) = A m c main_arg1 (ix3 (batch t) (rowB t r) j) := by
  blk_ext [iblk, V, places t, batch, rowB]
theorem blk6 (r : Fin 2048) (j : Fin 512) : iblk m c 6 t (ix3 0 r j) = A m c main_arg2 (ix3 (batch t) (rowB t r) j) := by
  blk_ext [iblk, V, places t, batch, rowB]
theorem blk7 (r : Fin 2048) (j : Fin 32) : iblk m c 7 t (ix3 0 r j) = A m c main_arg3 (ix3 (batch t) (rowB t r) j) := by
  blk_ext [iblk, V, places t, batch, rowB]
theorem blk8 (i : Fin 32) (j : Fin 256) : iblk m c 8 t (ix2 i j) = padF m c i j := by
  refine (congrArg (V m c main_v2) (?_ : (win0_8.blk t).view.emb (ix2 i j) = ix2 i j)).trans (entry_wf m c i j)
  blk_ext [places t]
theorem blk9 (j : Fin 256) : iblk m c 9 t (ix2 0 j) = A m c main_arg5 (ix1 j) := by
  refine (congrArg (V m c main_v5) (?_ : (win0_9.blk t).view.emb (ix2 0 j) = ix2 0 j)).trans (entry_bf m c j)
  blk_ext [places t]
theorem blk10 (i : Fin 32) (j : Fin 256) : iblk m c 10 t (ix2 i j) = padB m c i j := by
  refine (congrArg (V m c main_v4) (?_ : (win0_10.blk t).view.emb (ix2 i j) = ix2 i j)).trans (entry_wb m c i j)
  blk_ext [places t]
theorem blk11 (j : Fin 256) : iblk m c 11 t (ix2 0 j) = A m c main_arg7 (ix1 j) := by
  refine (congrArg (V m c main_v6) (?_ : (win0_11.blk t).view.emb (ix2 0 j) = ix2 0 j)).trans (entry_bb m c j)
  blk_ext [places t]
theorem blk12 (h : Fin 4) (d : Fin 64) (e : Fin 128) :
    iblk m c 12 t (ix4 0 h d e) = A m c main_arg8 (ix4 (batch t) h d e) := by
  blk_ext [iblk, V, places t, batch]
theorem blk13 (h : Fin 4) (d : Fin 64) (e : Fin 128) :
    iblk m c 13 t (ix4 0 h d e) = A m c main_arg9 (ix4 (batch t) h d e) := by
  blk_ext [iblk, V, places t, batch]

end Cert.Proof.Gla

end
-- ==== Proof.GlaValue.Gate.lean ====
/- The log gate: the kernel's spelling of it, and that it is never positive infinity. -/
module

public import proofs.«01_k».proof.Proof.GlaValue.Model
public import proofs.«01_k».proof.Proof.GlaValue.Spec

@[expose] public section

set_option maxRecDepth 65536
set_option maxHeartbeats 1000000

noncomputable section

namespace Cert.Proof.Gla

open Idealize.ShloMosaic Idealize.ShloMosaic.TcCoe Cert.KernelIdeal Cert.KernelIdeal.Gen

theorem ofBits_sixteen : Ideal.ofBits .f32 0x41800000#32 = ((16 : ℝ) : EReal) := by
  simp [Ideal.ofBits, Ideal.ieee, -EReal.coe_mul]; norm_num

theorem ofBits_sixteenth : Ideal.ofBits .f32 0x3D800000#32 = ((1 / 16 : ℝ) : EReal) := by
  simp [Ideal.ofBits, Ideal.ieee, -EReal.coe_mul]; norm_num

/-- Division by sixteen is multiplication by its inverse. -/
theorem div_sixteen (x : EReal) : Ideal.div x (Ideal.ofBits .f32 0x41800000#32) = x * Ideal.ofBits .f32 0x3D800000#32 := by
  rw [ofBits_sixteen, ofBits_sixteenth, Ideal.div, if_neg (by norm_num), ← EReal.coe_inv, one_div]

/-- The logarithm in the gate is of a number not below one. -/
theorem log1p_nonneg (y : EReal) : 0 ≤ Ideal.log1p (Ideal.exp y) := by
  induction y using EReal.rec with
  | bot =>
    rw [Ideal.log1p, Ideal.exp_bot, add_zero, ← EReal.coe_one, Ideal.log_coe, if_neg (by norm_num), Real.log_one]
    rfl
  | top => exact le_top
  | coe r =>
    rw [Ideal.log1p, Ideal.exp_coe, show (1 : EReal) + (Real.exp r : EReal) = ((1 + Real.exp r : ℝ) : EReal) by push_cast; rfl,
      Ideal.log_coe, if_neg (by have := Real.exp_pos r; linarith)]
    exact EReal.coe_nonneg.mpr (Real.log_nonneg (by have := Real.exp_pos r; linarith))

theorem logGate_ne_top (x : EReal) : logGate x ≠ ⊤ := by
  rw [logGate, div_sixteen, ofBits_sixteenth]
  have h : 0 ≤ max (-x) 0 + Ideal.log1p (Ideal.exp (-(FloatOps.absf (F := Ideal) (φ := .f32) x))) :=
    add_nonneg (le_max_right _ _) (log1p_nonneg _)
  generalize max (-x) 0 + Ideal.log1p (Ideal.exp (-(FloatOps.absf (F := Ideal) (φ := .f32) x))) = y at h
  induction y using EReal.rec with
  | bot => exact absurd h (by simp)
  | top => rw [EReal.neg_top, EReal.bot_mul_coe_of_pos (by norm_num)]; exact bot_ne_top
  | coe r => rw [← EReal.coe_neg, ← EReal.coe_mul]; exact EReal.coe_ne_top _

/-- Splitting a gate in two parts loses nothing. -/
theorem split_gate (x : EReal) : logGate x + (logGate x - logGate x) = logGate x := by
  have h := logGate_ne_top x
  generalize logGate x = y at h
  induction y using EReal.rec with
  | bot => rfl
  | top => exact absurd rfl h
  | coe r => rw [← EReal.coe_sub, ← EReal.coe_add, sub_self, add_zero]

/-- The kernel's spelling of the gate. -/
theorem gate_eq (x : EReal) :
    (min x 0 - Ideal.log1p (Ideal.exp (0 - FloatOps.absf (F := Ideal) (φ := .f32) x))) * Ideal.ofBits .f32 0x3D800000#32 = logGate x := by
  rw [logGate, div_sixteen, zero_sub]
  congr 1
  have hl := log1p_nonneg (-(FloatOps.absf (F := Ideal) (φ := .f32) x))
  have hm : min x 0 = -(max (-x) 0) := by
    rcases le_total x 0 with h | h
    · rw [min_eq_left h, max_eq_left (by simpa using EReal.neg_le_neg_iff.mpr h), neg_neg]
    · rw [min_eq_right h, max_eq_right (by simpa using EReal.neg_le_neg_iff.mpr h), neg_zero]
  rw [hm, EReal.neg_add (Or.inl (ne_of_gt (lt_of_lt_of_le EReal.bot_lt_zero (le_max_right _ _))))
    (Or.inr (ne_of_gt (lt_of_lt_of_le EReal.bot_lt_zero hl)))]

/-- The gates of a block at a row and a column. -/
theorem gate_apply (w : Vec Ideal S32x256 .bf16) (b : Vec Ideal S1x256 .f32) (z : Vec Ideal S1x2048x32 .bf16) (r : Fin 2048)
    (j : Fin 256) : k0_pay11 w b z (ix2 r j) = logGate ((∑ i : Fin 32, z (ix3 0 r i) * w (ix2 i j)) + b (ix2 0 j)) := by
  rw [← gate_eq]
  pointwise [k0_pay11]

end Cert.Proof.Gla

end
-- ==== Proof.GlaValue.Fits.lean ====
/- A grid point's blocks are thirty-two chunks of the reference's sequences. -/
module

public import proofs.«01_k».proof.Proof.GlaValue.Arrays
public import proofs.«01_k».proof.Proof.GlaValue.Gate

@[expose] public section

set_option maxRecDepth 65536
set_option maxHeartbeats 1000000

noncomputable section

namespace Cert.Proof.Gla

open Idealize.ShloMosaic Idealize.ShloMosaic.TcCoe Idealize.SL.Sem Cert.KernelIdeal Cert.KernelIdeal.Gen

variable (m : (ℓ : Loc nD τ sig) → Buf (Elt Ideal) ℓ) (c : Dev nD) (t : Fin cfg0.N)

theorem rowF_at (n : Fin 32) (r : Fin 64) : rowF t (at64 n r) = pos (32 * (t.val % 4) + n.val) r :=
  Fin.ext (by
    show 2048 * (t.val % 4) + (64 * n.val + r.val) = ((32 * (t.val % 4) + n.val) * 64 + r.val) % 8192
    omega)

theorem rowB_at (n : Fin 32) (r : Fin 64) :
    rowB t (at64 (bwd (F := Ideal) |>.ord n) (Fin.revPerm r)) = (pos (32 * (t.val % 4) + n.val) r).rev :=
  Fin.ext (by
    show 2048 * (3 - t.val % 4) + (64 * (31 - n.val) + (Fin.rev r).val) = (Fin.rev (pos (32 * (t.val % 4) + n.val) r)).val
    rw [Fin.val_rev, Fin.val_rev]
    show _ = 8192 - (((32 * (t.val % 4) + n.val) * 64 + r.val) % 8192 + 1)
    omega)

theorem lane_eq (p e : Fin 2) (j : Fin 64) :
    lane p ⟨64 * e.val + j.val, by omega⟩ = ⟨(⟨2 * p.val + e.val, by omega⟩ : Fin 4).val * 64 + j.val, by dsimp only; omega⟩ :=
  Fin.ext (by show 128 * p.val + (64 * e.val + j.val) = (2 * p.val + e.val) * 64 + j.val; omega)

theorem col_eq (p e : Fin 2) (y : Fin 128) :
    (⟨256 * p.val + (128 * e.val + y.val), by omega⟩ : Fin 512)
      = ⟨(⟨2 * p.val + e.val, by omega⟩ : Fin 4).val * 128 + y.val, by dsimp only; omega⟩ :=
  Fin.ext (by show 256 * p.val + (128 * e.val + y.val) = (2 * p.val + e.val) * 128 + y.val; omega)

/-- The padding rows contribute nothing to a gate. -/
theorem sum_padF (z : Fin 32 → EReal) (j : Fin 256) :
    ∑ i, z i * padF m c i j = ∑ i : Fin 16, z ⟨0 + i.val, by omega⟩ * (A m c main_arg4 (ix2 i j) : EReal) := by
  rw [Fin.sum_univ_add (a := 16) (b := 16) fun i => z i * padF m c i j]
  rw [Finset.sum_eq_zero (s := Finset.univ) (f := fun i : Fin 16 => z (Fin.natAdd 16 i) * padF m c (Fin.natAdd 16 i) j), add_zero]
  · refine Finset.sum_congr rfl fun i _ => congrArg₂ _ (congrArg z (Fin.ext (Nat.zero_add _).symm)) ?_
    exact dif_pos i.isLt
  · intro i _
    rw [padF, dif_neg (by show ¬ 16 + i.val < 16; omega), mul_zero]

theorem sum_padB (z : Fin 32 → EReal) (j : Fin 256) :
    ∑ i, z i * padB m c i j = ∑ i : Fin 16, z ⟨16 + i.val, by omega⟩ * (A m c main_arg6 (ix2 i j) : EReal) := by
  rw [Fin.sum_univ_add (a := 16) (b := 16) fun i => z i * padB m c i j]
  rw [Finset.sum_eq_zero (s := Finset.univ) (f := fun i : Fin 16 => z (Fin.castAdd 16 i) * padB m c (Fin.castAdd 16 i) j), zero_add]
  · refine Finset.sum_congr rfl fun i _ => congrArg₂ _ rfl ?_
    refine (if_neg (by show ¬ 16 + i.val < 16; omega)).trans ?_
    exact congrArg (fun k => (A m c main_arg6 (ix2 k j) : EReal)) (Fin.ext (by show 16 + i.val - 16 = i.val; omega))
  · intro i _
    rw [padB, if_pos (by show i.val < 16; omega), mul_zero]

/-- The reference's sequences of a batch entry. -/
def seqF (b : Fin 4) (p e : Fin 2) : Strm :=
  GlaRef.strmF (A m c main_arg0) (A m c main_arg1) (A m c main_arg2) (A m c main_arg3) (A m c main_arg4) (A m c main_arg5)
    (A m c main_arg8) b ⟨2 * p.val + e.val, by omega⟩
def seqB (b : Fin 4) (p e : Fin 2) : Strm :=
  GlaRef.strmB (A m c main_arg0) (A m c main_arg1) (A m c main_arg2) (A m c main_arg3) (A m c main_arg6) (A m c main_arg7)
    (A m c main_arg9) b ⟨2 * p.val + e.val, by omega⟩

theorem fits0 (hs : ∀ (p e : Fin 2) (j : Fin 64) (y : Fin 128),
      scr0 m c t (ix3 ⟨2 * p.val + e.val, by omega⟩ j y) = (seqF m c (batch t) p e).st (32 * (t.val % 4)) j y) :
    Fits fwd (Equiv.refl _) (ins0 m c t) (32 * (t.val % 4)) (seqF m c (batch t)) where
  q n r p e j := by
    refine congrArg (· * Scalar.ofBits (F := Ideal) .f32 0x3E000000#32) ((blk0 m c t _ _).trans ?_)
    rw [lane_eq]; erw [rowF_at]; rfl
  k n r p e j := by
    refine (blk1 m c t _ _).trans ?_
    rw [lane_eq]; erw [rowF_at]; rfl
  g n r p e j := by
    refine (gate_apply _ _ _ _ _).trans (congrArg logGate (congrArg₂ (· + ·) ?_ ?_))
    · refine (Finset.sum_congr rfl fun i _ => congrArg₂ (fun a b : EReal => a * b) (blk3 m c t _ i) (blk8 m c t i _)).trans ?_
      refine (sum_padF m c (fun i => A m c main_arg3 (ix3 (batch t) (rowF t (at64 n r)) i)) _).trans ?_
      rw [lane_eq, rowF_at]; rfl
    · refine (blk9 m c t _).trans ?_
      rw [lane_eq]
  v n r p e y := by
    refine (blk2 m c t _ _).trans ?_
    rw [col_eq]; erw [rowF_at]; rfl
  s p e j y := hs p e j y
  fin p e u j := split_gate _

theorem fits1 (hs : ∀ (p e : Fin 2) (j : Fin 64) (y : Fin 128),
      scr1 m c t (ix3 ⟨2 * p.val + e.val, by omega⟩ j y) = (seqB m c (batch t) p e).st (32 * (t.val % 4)) j y) :
    Fits bwd Fin.revPerm (ins1 m c t) (32 * (t.val % 4)) (seqB m c (batch t)) where
  q n r p e j := by
    refine congrArg (· * Scalar.ofBits (F := Ideal) .f32 0x3E000000#32) ((blk4 m c t _ _).trans ?_)
    rw [lane_eq, rowB_at]
  k n r p e j := by
    refine (blk5 m c t _ _).trans ?_
    rw [lane_eq, rowB_at]; rfl
  g n r p e j := by
    refine (gate_apply _ _ _ _ _).trans (congrArg logGate (congrArg₂ (· + ·) ?_ ?_))
    · refine (Finset.sum_congr rfl fun i _ => congrArg₂ (fun a b : EReal => a * b) (blk7 m c t _ i) (blk10 m c t i _)).trans ?_
      refine (sum_padB m c (fun i => A m c main_arg3 (ix3 (batch t) (rowB t (at64 (bwd (F := Ideal) |>.ord n) (Fin.revPerm r))) i)) _).trans ?_
      rw [lane_eq, rowB_at]; rfl
    · refine (blk11 m c t _).trans ?_
      rw [lane_eq]
  v n r p e y := by
    refine (blk6 m c t _ _).trans ?_
    rw [col_eq, rowB_at]; rfl
  s p e j y := hs p e j y
  fin p e u j := split_gate _

end Cert.Proof.Gla

end
-- ==== Proof.GlaValue.Final.lean ====
/- The call's four arrays are the reference's. -/
module

public import proofs.«01_k».proof.Proof.GlaValue.Fits
public import proofs.«01_k».proof.Proof.Gen.KernelIdeal.Value
public import proofs.«01_k».proof.Proof.Gen.ReferenceIdeal.Step

@[expose] public section

set_option maxRecDepth 65536
set_option maxHeartbeats 1000000

noncomputable section

namespace Cert.Proof.Gla

open Idealize.ShloMosaic Idealize.ShloMosaic.TcCoe Idealize.SL.Sem Cert.KernelIdeal Cert.KernelIdeal.Gen
open Cert.KernelIdeal.Value

variable (m : (ℓ : Loc nD τ sig) → Buf (Elt Ideal) ℓ) (c : Dev nD) (t : Fin cfg0.N)

/-- The states a grid point starts from are the reference's. -/
theorem carry0 : ∀ (n : ℕ) (t : Fin cfg0.N), t.val = n → ∀ (p e : Fin 2) (j : Fin 64) (y : Fin 128),
    scr0 m c t (ix3 ⟨2 * p.val + e.val, by omega⟩ j y) = (seqF m c (batch t) p e).st (32 * (t.val % 4)) j y := by
  intro n
  induction n with
  | zero =>
    intro t ht p e j y
    rw [scr0, if_pos (by omega), show 32 * (t.val % 4) = 0 by omega]
    exact blk12 m c t _ j y
  | succ n ih =>
    intro t ht p e j y
    by_cases h0 : t.val % 4 = 0
    · rw [scr0, if_pos h0, h0]
      exact blk12 m c t _ j y
    · rw [scr0, if_neg h0]
      let t' : Fin cfg0.N := ⟨t.val - 1, Nat.lt_of_le_of_lt (Nat.sub_le _ _) t.isLt⟩
      have hb : batch t' = batch t := Fin.ext (by show (t.val - 1) / 4 = t.val / 4; omega)
      have hn : 32 * (t'.val % 4) + 32 = 32 * (t.val % 4) := by show 32 * ((t.val - 1) % 4) + 32 = _; omega
      obtain ⟨L, hL⟩ := (point0 m c t').2
      refine (congrFun hL _).trans ((canon_back _ L p e j y).trans ?_)
      refine (states_eq fwd_ordered (fits0 m c t' (ih t' (by show t.val - 1 = n; omega))) 32 le_rfl p e j y).trans ?_
      rw [hb, hn]

theorem carry1 : ∀ (n : ℕ) (t : Fin cfg0.N), t.val = n → ∀ (p e : Fin 2) (j : Fin 64) (y : Fin 128),
    scr1 m c t (ix3 ⟨2 * p.val + e.val, by omega⟩ j y) = (seqB m c (batch t) p e).st (32 * (t.val % 4)) j y := by
  intro n
  induction n with
  | zero =>
    intro t ht p e j y
    rw [scr1, if_pos (by omega), show 32 * (t.val % 4) = 0 by omega]
    exact blk13 m c t _ j y
  | succ n ih =>
    intro t ht p e j y
    by_cases h0 : t.val % 4 = 0
    · rw [scr1, if_pos h0, h0]
      exact blk13 m c t _ j y
    · rw [scr1, if_neg h0]
      let t' : Fin cfg0.N := ⟨t.val - 1, Nat.lt_of_le_of_lt (Nat.sub_le _ _) t.isLt⟩
      have hb : batch t' = batch t := Fin.ext (by show (t.val - 1) / 4 = t.val / 4; omega)
      have hn : 32 * (t'.val % 4) + 32 = 32 * (t.val % 4) := by show 32 * ((t.val - 1) % 4) + 32 = _; omega
      obtain ⟨L, hL⟩ := (point1 m c t').2
      refine (congrFun hL _).trans ((canon_back _ L p e j y).trans ?_)
      refine (states_eq bwd_ordered (fits1 m c t' (ih t' (by show t.val - 1 = n; omega))) 32 le_rfl p e j y).trans ?_
      rw [hb, hn]

theorem fit0 : Fits fwd (Equiv.refl _) (ins0 m c t) (32 * (t.val % 4)) (seqF m c (batch t)) := fits0 m c t (carry0 m c _ t rfl)
theorem fit1 : Fits bwd Fin.revPerm (ins1 m c t) (32 * (t.val % 4)) (seqB m c (batch t)) := fits1 m c t (carry1 m c _ t rfl)

/-- The stores of a block reach all of it. -/
theorem covered {d : Dir Ideal} (h2 : ∀ n, d.ord (d.ord n) = n) (x : Ins Ideal) (row : Fin 2048) (col : Fin 512) :
    ∃ pc ∈ stores d x, ix3 0 row col ∈ pc.1.set := by
  let o : Fin 32 := d.ord ⟨row.val / 64, by omega⟩
  let i : Fin 64 := ⟨2 * (31 - o.val) + (1 - col.val / 256), by omega⟩
  have h1 : (⟨31 - i.val / 2, by omega⟩ : Fin 32) = o :=
    Fin.ext (by show 31 - (2 * (31 - o.val) + (1 - col.val / 256)) / 2 = o.val; omega)
  have ho : (d.ord ⟨31 - i.val / 2, by omega⟩).val = row.val / 64 := by rw [h1, h2]
  have hp : 1 - i.val % 2 = col.val / 256 := by show 1 - (2 * (31 - o.val) + (1 - col.val / 256)) % 2 = _; omega
  refine ⟨_, List.mem_ofFn.mpr ⟨i, rfl⟩, ?_⟩
  refine (Rect.unit (s := S1x2048x512) ![0, 64 * (d.ord ⟨31 - i.val / 2, by omega⟩).val, 256 * (⟨1 - i.val % 2, by omega⟩ : Fin 2).val]
    S1x64x256.size (inb_out _ _)).mem_set.mpr fun a => ?_
  match a with
  | 0 => exact ⟨0, (by decide : 0 < 1), rfl⟩
  | 1 => exact ⟨row.val % 64, (Nat.mod_lt _ (by decide) : row.val % 64 < 64), by
      show row.val = 64 * (d.ord ⟨31 - i.val / 2, by omega⟩).val + 1 * (row.val % 64); omega⟩
  | 2 => exact ⟨col.val % 256, (Nat.mod_lt _ (by decide) : col.val % 256 < 256), by
      show col.val = 256 * (1 - i.val % 2) + 1 * (col.val % 256); omega⟩

/-- The reference's arrays. -/
abbrev trips : Cert.ReferenceIdeal.Step.State Ideal :=
  GlaRef.loop (A m c main_arg0) (A m c main_arg1) (A m c main_arg2) (A m c main_arg3) (A m c main_arg4) (A m c main_arg5)
    (A m c main_arg6) (A m c main_arg7) (A m c main_arg8) (A m c main_arg9) 128
abbrev want0 : Buf (Elt Ideal) ((c.tc : Thread nD τ).loc main_v7_0) := Cert.ReferenceIdeal.Step.R_main_v85 (trips m c)
abbrev want1 : Buf (Elt Ideal) ((c.tc : Thread nD τ).loc main_v7_1) := Cert.ReferenceIdeal.Step.R_main_v87 (trips m c)
abbrev want2 : Buf (Elt Ideal) ((c.tc : Thread nD τ).loc main_v7_2) := Cert.ReferenceIdeal.Step.R_main_v88 (trips m c)
abbrev want3 : Buf (Elt Ideal) ((c.tc : Thread nD τ).loc main_v7_3) := Cert.ReferenceIdeal.Step.R_main_v89 (trips m c)

/-- A head is a pair of lanes and a half. -/
theorem head_eq (col : Fin 512) : (⟨col.val / 128, by omega⟩ : Fin 4)
    = ⟨2 * (⟨col.val / 256, by omega⟩ : Fin 2).val + (⟨col.val / 128 % 2, by omega⟩ : Fin 2).val, by dsimp only; omega⟩ :=
  Fin.ext (by show col.val / 128 = 2 * (col.val / 256) + col.val / 128 % 2; omega)

theorem time_at (b : Fin 4) (u : Fin 8192) (col : Fin 512) (n : ℕ) (r : Fin 64) (hn : u.val / 64 = n) (hr : u.val % 64 = r.val) :
    want0 m c (ix3 b u col) = (seqF m c b ⟨col.val / 256, by omega⟩ ⟨col.val / 128 % 2, by omega⟩).out n r ⟨col.val % 128, by omega⟩ := by
  subst hn
  rw [show r = ⟨u.val % 64, by omega⟩ from Fin.ext hr.symm]
  refine (congrArg (fun k => want0 m c (ix3 b u k)) (Fin.ext (by show col.val = col.val / 128 * 128 + col.val % 128; omega) :
    col = ⟨(⟨col.val / 128, by omega⟩ : Fin 4).val * 128 + (⟨col.val % 128, by omega⟩ : Fin 128).val, by dsimp only; omega⟩)).trans ?_
  refine (GlaRef.out_time _ _ _ _ _ _ _ _ _ _ b u ⟨col.val / 128, by omega⟩ ⟨col.val % 128, by omega⟩).trans ?_
  rw [head_eq col]
  rfl

theorem rev_at (b : Fin 4) (u : Fin 8192) (col : Fin 512) (n : ℕ) (r : Fin 64) (hn : u.rev.val / 64 = n) (hr : u.rev.val % 64 = r.val) :
    want1 m c (ix3 b u col) = (seqB m c b ⟨col.val / 256, by omega⟩ ⟨col.val / 128 % 2, by omega⟩).out n r ⟨col.val % 128, by omega⟩ := by
  obtain ⟨u, rfl⟩ : ∃ u' : Fin 8192, u = u'.rev := ⟨u.rev, (Fin.rev_rev u).symm⟩
  rw [Fin.rev_rev] at hn hr
  subst hn
  rw [show r = ⟨u.val % 64, by omega⟩ from Fin.ext hr.symm]
  refine (congrArg (fun k => want1 m c (ix3 b u.rev k)) (Fin.ext (by show col.val = col.val / 128 * 128 + col.val % 128; omega) :
    col = ⟨(⟨col.val / 128, by omega⟩ : Fin 4).val * 128 + (⟨col.val % 128, by omega⟩ : Fin 128).val, by dsimp only; omega⟩)).trans ?_
  refine (GlaRef.out_rev _ _ _ _ _ _ _ _ _ _ b u ⟨col.val / 128, by omega⟩ ⟨col.val % 128, by omega⟩).trans ?_
  rw [head_eq col]
  rfl

theorem row_index (y : S1x2048x512.Idx) : ∃ (r : Fin 2048) (j : Fin 512), y = ix3 0 r j :=
  ⟨y 1, y 2, by
    funext a
    match a with
    | 0 => exact Subsingleton.elim (α := Fin 1) _ _
    | 1 => rfl
    | 2 => rfl⟩

theorem state_index (y : S1x4x64x128.Idx) : ∃ (p e : Fin 2) (j : Fin 64) (k : Fin 128), y = ix4 0 ⟨2 * p.val + e.val, by omega⟩ j k :=
  ⟨⟨(y 1).val / 2, by have : (y 1).val < 4 := (y 1).isLt; omega⟩, ⟨(y 1).val % 2, by omega⟩, y 2, y 3, by
    funext a
    match a with
    | 0 => exact Subsingleton.elim (α := Fin 1) _ _
    | 1 => exact Fin.ext (by show (y 1).val = 2 * ((y 1).val / 2) + (y 1).val % 2; omega)
    | 2 => rfl
    | 3 => rfl⟩

theorem final_time : (dats m 0 c).arrAt 14 cfg0.N = want0 m c := by
  refine (dats m 0 c).arrAt_eq_of_covers 14 _ (by decide +kernel) fun t hf y => ?_
  blk_simp
  rw [after0_14]
  obtain ⟨r, j, rfl⟩ := row_index y
  have he : (win0_14.blk t).view.emb (ix3 0 r j) = ix3 (batch t) (rowF t r) j := by
    blk_ext [places t, batch, rowF]
  refine (congrFun (point0 m c t).1 _).trans ?_
  refine (canon_stores fwd_ordered (fit0 m c t) (fun _ => rfl) (fun _ => rfl) r j (covered (fun _ => rfl) _ r j)).trans ?_
  refine (time_at m c (batch t) (rowF t r) j _ _ ?_ ?_).symm.trans (congrArg (want0 m c) he.symm)
  · show (2048 * (t.val % 4) + r.val) / 64 = 32 * (t.val % 4) + r.val / 64
    omega
  · show (2048 * (t.val % 4) + r.val) % 64 = r.val % 64
    omega

theorem bwd_bwd (n : Fin 32) : (bwd (F := Ideal)).ord ((bwd (F := Ideal)).ord n) = n :=
  Fin.ext (by show 31 - (31 - n.val) = n.val; omega)

theorem final_rev : (dats m 0 c).arrAt 15 cfg0.N = want1 m c := by
  refine (dats m 0 c).arrAt_eq_of_covers 15 _ (by decide +kernel) fun t hf y => ?_
  blk_simp
  rw [after0_15]
  obtain ⟨r, j, rfl⟩ := row_index y
  have he : (win0_15.blk t).view.emb (ix3 0 r j) = ix3 (batch t) (rowB t r) j := by
    blk_ext [places t, batch, rowB]
  refine (congrFun (point1 m c t).1 _).trans ?_
  refine (canon_stores bwd_ordered (fit1 m c t) bwd_bwd (fun r => Fin.rev_rev r) r j (covered bwd_bwd _ r j)).trans ?_
  have hu : (rowB t r).rev.val = 8192 - (2048 * (3 - t.val % 4) + r.val + 1) := Fin.val_rev _
  refine (rev_at m c (batch t) (rowB t r) j _ _ ?_ ?_).symm.trans (congrArg (want1 m c) he.symm)
  · rw [hu]
    show _ = 32 * (t.val % 4) + (31 - r.val / 64)
    omega
  · rw [hu]
    show _ = 64 - (r.val % 64 + 1)
    omega

theorem final_last_time : (dats m 0 c).arrAt 16 cfg0.N = want2 m c := by
  refine (dats m 0 c).arrAt_eq_of_covers 16 _ (by decide +kernel) fun t hf y => ?_
  have h3 : t.val % 4 = 3 := by
    clear y
    revert t
    decide +kernel
  blk_simp
  rw [after0_16]
  obtain ⟨p, e, j, k, rfl⟩ := state_index y
  have he : (win0_16.blk t).view.emb (ix4 0 ⟨2 * p.val + e.val, by omega⟩ j k) = ix4 (batch t) ⟨2 * p.val + e.val, by omega⟩ j k := by
    blk_ext [places t, batch]
  refine (last0 m c t h3 _ j k).trans ?_
  obtain ⟨L, hL⟩ := (point0 m c t).2
  refine (congrFun hL _).trans ((canon_back _ L p e j k).trans ?_)
  refine (states_eq fwd_ordered (fit0 m c t) 32 le_rfl p e j k).trans ?_
  rw [h3]
  exact (GlaRef.last_time _ _ _ _ _ _ _ _ _ _ (batch t) _ j k).symm.trans (congrArg (want2 m c) he.symm)

theorem final_last_rev : (dats m 0 c).arrAt 17 cfg0.N = want3 m c := by
  refine (dats m 0 c).arrAt_eq_of_covers 17 _ (by decide +kernel) fun t hf y => ?_
  have h3 : t.val % 4 = 3 := by
    clear y
    revert t
    decide +kernel
  blk_simp
  rw [after0_17]
  obtain ⟨p, e, j, k, rfl⟩ := state_index y
  have he : (win0_17.blk t).view.emb (ix4 0 ⟨2 * p.val + e.val, by omega⟩ j k) = ix4 (batch t) ⟨2 * p.val + e.val, by omega⟩ j k := by
    blk_ext [places t, batch]
  refine (last1 m c t h3 _ j k).trans ?_
  obtain ⟨L, hL⟩ := (point1 m c t).2
  refine (congrFun hL _).trans ((canon_back _ L p e j k).trans ?_)
  refine (states_eq bwd_ordered (fit1 m c t) 32 le_rfl p e j k).trans ?_
  rw [h3]
  exact (GlaRef.last_rev _ _ _ _ _ _ _ _ _ _ (batch t) _ j k).symm.trans (congrArg (want3 m c) he.symm)

/-- The call's run: its four results are the reference's, the arguments end unchanged. -/
theorem run_want (ρ : Dev nD → PrngReg) : θ_run defs (onTc (τ := τ) (main (F := Ideal))) ⟨m, fun _ => 0, ρ⟩ fun r => ∀ c : Dev nD,
      r.2.mem ((c.tc : Thread nD τ).loc main_v7_0) = want0 m c
      ∧ r.2.mem ((c.tc : Thread nD τ).loc main_v7_1) = want1 m c
      ∧ r.2.mem ((c.tc : Thread nD τ).loc main_v7_2) = want2 m c
      ∧ r.2.mem ((c.tc : Thread nD τ).loc main_v7_3) = want3 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => by
    obtain ⟨h0, h1, h2, h3, hr⟩ := h c
    exact ⟨h0.trans (final_time m c), h1.trans (final_rev m c), h2.trans (final_last_time m c), h3.trans (final_last_rev m c), hr⟩)
    (Cert.KernelIdeal.Value.run_blocks m ρ)

end Cert.Proof.Gla

end
-- ==== Proof.GlaValue.RefRun.lean ====
/- The reference's recurrence as 128 steps from its initial state. -/
module

public import proofs.«01_k».proof.Proof.Gen.ReferenceIdeal.Run
public import proofs.«01_k».proof.Proof.Gen.ReferenceIdeal.Step

@[expose] public section

set_option maxRecDepth 65536
set_option maxHeartbeats 1000000

noncomputable section

namespace Cert.Proof.GlaRef

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step (State step init R_main_v85 R_main_v87 R_main_v88 R_main_v89)

variable {F : FTy → Type} [FloatOps F]

/-- The loop's buffers hold the state `s` before trip `j`. -/
structure At (V : Valuation τ sig (Elt F)) (s : State F) (j : ℕ) : Prop where
  state : V (Proc.devRef .tc main_v81_5) = s.main_v81_5
  outs : V (Proc.devRef .tc main_v81_6) = s.main_v81_6
  queries : V (Proc.devRef .tc main_v81_0) = s.main_v81_0
  inner : V (Proc.devRef .tc main_v81_1) = s.main_v81_1
  adds : V (Proc.devRef .tc main_v81_2) = s.main_v81_2
  decays : V (Proc.devRef .tc main_v81_3) = s.main_v81_3
  count : V (Proc.devRef .tc main_v81_4) = constantI S_ 32 (BitVec.ofNat 32 j)

variable {V : Valuation τ sig (Elt F)} {s : State F} {j : ℕ}

theorem At.stepState (h : At V s j) : step_main_v81_5 V = (step j s).main_v81_5 := by
  unfold step_main_v81_5
  rw [h.state, h.adds, h.decays, h.count]
  rfl

theorem At.stepOuts (h : At V s j) : step_main_v81_6 V = (step j s).main_v81_6 := by
  unfold step_main_v81_6
  rw [h.state, h.outs, h.queries, h.inner, h.count]
  rfl

theorem At.stepCount (h : At V s j) : step_main_v81_4 V = constantI S_ 32 (BitVec.ofNat 32 (j + 1)) := by
  unfold step_main_v81_4
  rw [h.count, BitVec.ofNat_add]
  rfl

theorem At.next (h : At V s j) : At (STEP V) (step j s) (j + 1) :=
  ⟨(STEP_main_v81_5 V).trans h.stepState, (STEP_main_v81_6 V).trans h.stepOuts, (STEP_main_v81_0 V).trans h.queries,
    (STEP_main_v81_1 V).trans h.inner, (STEP_main_v81_2 V).trans h.adds, (STEP_main_v81_3 V).trans h.decays,
    (STEP_main_v81_4 V).trans h.stepCount⟩

variable (m : (ℓ : Loc nD τ sig) → Buf (Elt F) ℓ) (c : Dev nD)

/-- The state before each trip, from the program's arguments. -/
def iter : ℕ → State F
  | 0 => init (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5))
      (m ((c.tc : Thread nD τ).loc main_arg6)) (m ((c.tc : Thread nD τ).loc main_arg7)) (m ((c.tc : Thread nD τ).loc main_arg8))
      (m ((c.tc : Thread nD τ).loc main_arg9))
  | n + 1 => step n (iter n)

theorem at_entry : At (entryContents preI m c) (iter m c 0) 0 := by
  constructor <;> simp only [entryContents, afterL_cons, afterL_nil] <;> after_reads_simp <;> rfl

theorem at_trip (k : ℕ) : At (STEP^[k] (entryContents preI m c)) (iter m c k) k := by
  induction k with
  | zero => exact at_entry m c
  | succ k ih => rw [Function.iterate_succ_apply']; exact ih.next

theorem results : out_main_v85 (STEP^[128] (entryContents preI m c)) = R_main_v85 (iter m c 128)
    ∧ out_main_v87 (STEP^[128] (entryContents preI m c)) = R_main_v87 (iter m c 128)
    ∧ out_main_v88 (STEP^[128] (entryContents preI m c)) = R_main_v88 (iter m c 128)
    ∧ out_main_v89 (STEP^[128] (entryContents preI m c)) = R_main_v89 (iter m c 128) := by
  have h := at_trip m c 128
  refine ⟨?_, ?_, ?_, ?_⟩
  · unfold out_main_v85; rw [h.outs]; rfl
  · unfold out_main_v87; rw [h.outs]; rfl
  · unfold out_main_v88; rw [h.state]; rfl
  · unfold out_main_v89; rw [h.state]; rfl

end Cert.Proof.GlaRef

end
-- ==== Proof.GlaValue.Agree.lean ====
/- The call agrees with the reference. -/
module

public import proofs.«01_k».proof.Proof.GlaValue.Final
public import proofs.«01_k».proof.Proof.GlaValue.RefRun
public import proofs.«01_k».proof.Proof.Gen.KernelIdeal.Value
public import proofs.«01_k».proof.Proof.Gen.ReferenceIdeal.Step

@[expose] public section

set_option maxRecDepth 65536
set_option maxHeartbeats 1000000

noncomputable section

namespace Cert.Proof.Gla

open Idealize.ShloMosaic Idealize.ShloMosaic.TcCoe Idealize.SL.Sem Cert.KernelIdeal Cert.KernelIdeal.Gen
open Cert.KernelIdeal.Value

variable (m : (ℓ : Loc nD τ sig) → Buf (Elt Ideal) ℓ) (c : Dev nD)

/-- The reference's trips as functions of its arguments. -/
theorem iter_eq (m : (ℓ : Loc Cert.ReferenceIdeal.nD Cert.ReferenceIdeal.τ Cert.ReferenceIdeal.sig) → Buf (Elt Ideal) ℓ)
    (c : Dev Cert.ReferenceIdeal.nD) (n : ℕ) : GlaRef.iter m c n
      = GlaRef.loop (m ((c.tc : Thread _ _).loc Cert.ReferenceIdeal.main_arg0)) (m ((c.tc : Thread _ _).loc Cert.ReferenceIdeal.main_arg1))
          (m ((c.tc : Thread _ _).loc Cert.ReferenceIdeal.main_arg2)) (m ((c.tc : Thread _ _).loc Cert.ReferenceIdeal.main_arg3))
          (m ((c.tc : Thread _ _).loc Cert.ReferenceIdeal.main_arg4)) (m ((c.tc : Thread _ _).loc Cert.ReferenceIdeal.main_arg5))
          (m ((c.tc : Thread _ _).loc Cert.ReferenceIdeal.main_arg6)) (m ((c.tc : Thread _ _).loc Cert.ReferenceIdeal.main_arg7))
          (m ((c.tc : Thread _ _).loc Cert.ReferenceIdeal.main_arg8)) (m ((c.tc : Thread _ _).loc Cert.ReferenceIdeal.main_arg9)) n := by
  induction n with
  | zero => rfl
  | succ n ih => exact congrArg (Cert.ReferenceIdeal.Step.step n) ih

/-- From the same arguments, the same trips. -/
theorem trips_eq (m' : (ℓ : Loc Cert.ReferenceIdeal.nD Cert.ReferenceIdeal.τ Cert.ReferenceIdeal.sig) → Buf (Elt Ideal) ℓ)
    (h0 : m' ((c.tc : Thread Cert.ReferenceIdeal.nD Cert.ReferenceIdeal.τ).loc Cert.ReferenceIdeal.main_arg0) = m ((c.tc : Thread nD τ).loc main_arg0))
    (h1 : m' ((c.tc : Thread Cert.ReferenceIdeal.nD Cert.ReferenceIdeal.τ).loc Cert.ReferenceIdeal.main_arg1) = m ((c.tc : Thread nD τ).loc main_arg1))
    (h2 : m' ((c.tc : Thread Cert.ReferenceIdeal.nD Cert.ReferenceIdeal.τ).loc Cert.ReferenceIdeal.main_arg2) = m ((c.tc : Thread nD τ).loc main_arg2))
    (h3 : m' ((c.tc : Thread Cert.ReferenceIdeal.nD Cert.ReferenceIdeal.τ).loc Cert.ReferenceIdeal.main_arg3) = m ((c.tc : Thread nD τ).loc main_arg3))
    (h4 : m' ((c.tc : Thread Cert.ReferenceIdeal.nD Cert.ReferenceIdeal.τ).loc Cert.ReferenceIdeal.main_arg4) = m ((c.tc : Thread nD τ).loc main_arg4))
    (h5 : m' ((c.tc : Thread Cert.ReferenceIdeal.nD Cert.ReferenceIdeal.τ).loc Cert.ReferenceIdeal.main_arg5) = m ((c.tc : Thread nD τ).loc main_arg5))
    (h6 : m' ((c.tc : Thread Cert.ReferenceIdeal.nD Cert.ReferenceIdeal.τ).loc Cert.ReferenceIdeal.main_arg6) = m ((c.tc : Thread nD τ).loc main_arg6))
    (h7 : m' ((c.tc : Thread Cert.ReferenceIdeal.nD Cert.ReferenceIdeal.τ).loc Cert.ReferenceIdeal.main_arg7) = m ((c.tc : Thread nD τ).loc main_arg7))
    (h8 : m' ((c.tc : Thread Cert.ReferenceIdeal.nD Cert.ReferenceIdeal.τ).loc Cert.ReferenceIdeal.main_arg8) = m ((c.tc : Thread nD τ).loc main_arg8))
    (h9 : m' ((c.tc : Thread Cert.ReferenceIdeal.nD Cert.ReferenceIdeal.τ).loc Cert.ReferenceIdeal.main_arg9) = m ((c.tc : Thread nD τ).loc main_arg9)) :
    GlaRef.iter m' c 128 = trips m c := by
  refine (iter_eq m' c 128).trans ?_
  unfold trips A
  rw [← h0, ← h1, ← h2, ← h3, ← h4, ← h5, ← h6, ← h7, ← h8, ← h9]

/-- The call agrees with the reference. -/
theorem agree : Cert.algebraic_KernelIdeal_ReferenceIdeal := by
  intro m g m' g' _ hagree
  refine ⟨want0 m, want1 m, want2 m, want3 m, run_want m g, ?_⟩
  refine (θ_run _ _ _).mono (fun _ h c => ?_) (Cert.ReferenceIdeal.Value.run m' g')
  obtain ⟨a0, a1, a2, a3, a4, a5, a6, a7, a8, a9⟩ := hagree c
  have e := trips_eq m c m' a0 a1 a2 a3 a4 a5 a6 a7 a8 a9
  obtain ⟨r0, r1, r2, r3⟩ := GlaRef.results m' c
  obtain ⟨h0, h1, h2, h3, hr⟩ := h c
  exact ⟨(h0.trans r0).trans (congrArg Cert.ReferenceIdeal.Step.R_main_v85 e),
    (h1.trans r1).trans (congrArg Cert.ReferenceIdeal.Step.R_main_v87 e),
    (h2.trans r2).trans (congrArg Cert.ReferenceIdeal.Step.R_main_v88 e),
    (h3.trans r3).trans (congrArg Cert.ReferenceIdeal.Step.R_main_v89 e), hr⟩

end Cert.Proof.Gla

end
-- ==== Proof.FfnCall.Run.lean ====
/- The run of the output projection + ConvGLU FFN kernel's body at a generic grid point, for any float instance: from its
   24 input blocks at any contents, the body ends with its output block covered by the pieces the run names, and the scratch
   slots at some contents. It steps the program's skeletons; the only liberty it takes is its heartbeat budget. -/
module

public import proofs.«01_k».proof.Proof.Gen.FfnIdeal.Frame.Runs

@[expose] public section

-- membership in a rectangle of production extents (`View.cover_of_tiled`): the elaborator's structural look
-- recurses once per coordinate of the long axes
set_option maxRecDepth 16384

noncomputable section

namespace Cert.FfnIdeal.Own

open Cert.FfnIdeal Cert.FfnIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 3000000 in set_option sl_exec.squeezeSlice true in
/-- The pieces the body stores into its output block (last first), those it stores into its scratch slots, and the proof
    that running the body from its blocks stores just these. -/
noncomputable def bodyRun (c : Dev nD) (i : grid0.Coords) (arg2 : Memref sig .tc .vmem S1x8x1024 .f32) (harg2 : arg2.IsWhole) (arg3 : Memref sig .tc .vmem S1x512x1024 .f32) (harg3 : arg3.IsWhole) (arg4 : Memref sig .tc .vmem S1x8x1024 .f32) (harg4 : arg4.IsWhole) (arg5 : Memref sig .tc .vmem S1x8x512 .f32) (harg5 : arg5.IsWhole) (arg6 : Memref sig .tc .vmem S1x512x512 .f32) (harg6 : arg6.IsWhole) (arg7 : Memref sig .tc .vmem S1x8x512 .f32) (harg7 : arg7.IsWhole) (arg8 : Memref sig .tc .vmem S1x8x512 .f32) (harg8 : arg8.IsWhole) (arg9 : Memref sig .tc .vmem S1x512x512 .f32) (harg9 : arg9.IsWhole) (arg10 : Memref sig .tc .vmem S1x8x512 .f32) (harg10 : arg10.IsWhole) (arg11 : Memref sig .tc .vmem S1x8x512 .f32) (harg11 : arg11.IsWhole) (arg12 : Memref sig .tc .vmem S1x512x512 .f32) (harg12 : arg12.IsWhole) (arg13 : Memref sig .tc .vmem S1x8x512 .f32) (harg13 : arg13.IsWhole) (arg14 : Memref sig .tc .vmem S1x8x512 .f32) (harg14 : arg14.IsWhole) (arg15 : Memref sig .tc .vmem S1x512x512 .f32) (harg15 : arg15.IsWhole) (arg16 : Memref sig .tc .vmem S1x8x512 .f32) (harg16 : arg16.IsWhole) (arg17 : Memref sig .tc .vmem S1x1x6144 .f32) (harg17 : arg17.IsWhole) (arg18 : Memref sig .tc .vmem S1x512 .f32) (harg18 : arg18.IsWhole) (arg19 : Memref sig .tc .vmem S1x1024 .f32) (harg19 : arg19.IsWhole) (arg20 : Memref sig .tc .vmem S1x1024 .f32) (harg20 : arg20.IsWhole) (arg21 : Memref sig .tc .vmem S1024x1024 .bf16) (harg21 : arg21.IsWhole) (arg22 : Memref sig .tc .vmem S1024x5632 .bf16) (harg22 : arg22.IsWhole) (arg23 : Memref sig .tc .vmem S8x2816 .f32) (harg23 : arg23.IsWhole) (arg24 : Memref sig .tc .vmem S1x2816 .f32) (harg24 : arg24.IsWhole) (arg25 : Memref sig .tc .vmem S2816x1024 .bf16) (harg25 : arg25.IsWhole) (arg26 : Memref sig .tc .vmem S1x512x1024 .f32) (harg26 : arg26.IsWhole) (arg27 : Memref sig .tc .vmem S6x528x256 .f32) (harg27 : arg27.IsWhole)
    (x0 : Vec F S1x8x1024 .f32) (x1 : Vec F S1x512x1024 .f32) (x2 : Vec F S1x8x1024 .f32) (x3 : Vec F S1x8x512 .f32) (x4 : Vec F S1x512x512 .f32) (x5 : Vec F S1x8x512 .f32) (x6 : Vec F S1x8x512 .f32) (x7 : Vec F S1x512x512 .f32) (x8 : Vec F S1x8x512 .f32) (x9 : Vec F S1x8x512 .f32) (x10 : Vec F S1x512x512 .f32) (x11 : Vec F S1x8x512 .f32) (x12 : Vec F S1x8x512 .f32) (x13 : Vec F S1x512x512 .f32) (x14 : Vec F S1x8x512 .f32) (x15 : Vec F S1x1x6144 .f32) (x16 : Vec F S1x512 .f32) (x17 : Vec F S1x1024 .f32) (x18 : Vec F S1x1024 .f32) (x19 : Vec F S1024x1024 .bf16) (x20 : Vec F S1024x5632 .bf16) (x21 : Vec F S8x2816 .f32) (x22 : Vec F S1x2816 .f32) (x23 : Vec F S2816x1024 .bf16) :
    Σ' (L24 : List (View.Piece (Elt F) S1x512x1024 .f32)), { LT0 : List (View.Piece (Elt F) S6x528x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg20 fullShare x18 ∗ owns (c : Thread nD τ) arg21 fullShare x19 ∗ owns (c : Thread nD τ) arg22 fullShare x20 ∗ owns (c : Thread nD τ) arg23 fullShare x21 ∗ owns (c : Thread nD τ) arg24 fullShare x22 ∗ owns (c : Thread nD τ) arg25 fullShare x23 ∗ (∃ d, owns (c : Thread nD τ) arg26 fullShare d) ∗ (∃ d, owns (c : Thread nD τ) arg27 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg20 fullShare x18 ∗ owns (c : Thread nD τ) arg21 fullShare x19 ∗ owns (c : Thread nD τ) arg22 fullShare x20 ∗ owns (c : Thread nD τ) arg23 fullShare x21 ∗ owns (c : Thread nD τ) arg24 fullShare x22 ∗ owns (c : Thread nD τ) arg25 fullShare x23 ∗ (∃ f, arg26.view.loc (c : Thread nD τ) ↦[arg26.view.set]{fullShare} arg26.view.writes (Elt F) f L24) ∗ (∃ f, arg27.view.loc (c : Thread nD τ) ↦[arg27.view.set]{fullShare} arg27.view.writes (Elt F) f LT0)) -∗ K ⟨⟩))
          ⊢ wp frame (wpE (defs₀ (F := F)) Variants.none c none) E (cc0_out_proj_ffn i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27) K } := by
  refine ⟨?_, ?_, fun E K => ?run⟩
  case run =>
    simp only [cc0_out_proj_ffn_eq_skeleton]; unfold cc0_out_proj_ffn_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%d24, %f24, -, H24⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14; obtain rfl := harg17.eq_unread hf15; obtain rfl := harg18.eq_unread hf16; obtain rfl := harg19.eq_unread hf17; obtain rfl := harg20.eq_unread hf18; obtain rfl := harg21.eq_unread hf19; obtain rfl := harg22.eq_unread hf20; obtain rfl := harg23.eq_unread hf21; obtain rfl := harg24.eq_unread hf22; obtain rfl := harg25.eq_unread hf23
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]
    · iexists _; isplitr; · ipureintro; exact harg16.read_unread _
      iexact H14
    isplitl [H15]
    · iexists _; isplitr; · ipureintro; exact harg17.read_unread _
      iexact H15
    isplitl [H16]
    · iexists _; isplitr; · ipureintro; exact harg18.read_unread _
      iexact H16
    isplitl [H17]
    · iexists _; isplitr; · ipureintro; exact harg19.read_unread _
      iexact H17
    isplitl [H18]
    · iexists _; isplitr; · ipureintro; exact harg20.read_unread _
      iexact H18
    isplitl [H19]
    · iexists _; isplitr; · ipureintro; exact harg21.read_unread _
      iexact H19
    isplitl [H20]
    · iexists _; isplitr; · ipureintro; exact harg22.read_unread _
      iexact H20
    isplitl [H21]
    · iexists _; isplitr; · ipureintro; exact harg23.read_unread _
      iexact H21
    isplitl [H22]
    · iexists _; isplitr; · ipureintro; exact harg24.read_unread _
      iexact H22
    isplitl [H23]
    · iexists _; isplitr; · ipureintro; exact harg25.read_unread _
      iexact H23
    isplitl [H24]; · iexists _; iexact H24
    iexists _; iexact HS0

end Cert.FfnIdeal.Own

end
-- ==== Proof.FfnCall.Frame.lean ====
/- The frame of the output projection + ConvGLU FFN call, for any float instance: what its output block holds after the body
   at each point (read off the body's run), the pipeline's proof data, the body obligation, and the launch: every execution
   terminates with the arguments unchanged and the pipeline's arrays at what the proof data says. -/
module

public import proofs.«01_k».proof.Proof.FfnCall.Run
public import Idealize.ShloMosaic.Lib.Claim

@[expose] public section

-- membership in a rectangle of production extents (`View.cover_of_tiled`): the elaborator's structural look
-- recurses once per coordinate of the long axes
set_option maxRecDepth 16384

noncomputable section

namespace Cert.FfnIdeal.Own

open Cert.FfnIdeal Cert.FfnIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- The run's pieces cover the output block (one store of the whole block). -/
theorem bodyCover (c : Dev nD) (i : grid0.Coords) (arg2 : Memref sig .tc .vmem S1x8x1024 .f32) (harg2 : arg2.IsWhole) (arg3 : Memref sig .tc .vmem S1x512x1024 .f32) (harg3 : arg3.IsWhole) (arg4 : Memref sig .tc .vmem S1x8x1024 .f32) (harg4 : arg4.IsWhole) (arg5 : Memref sig .tc .vmem S1x8x512 .f32) (harg5 : arg5.IsWhole) (arg6 : Memref sig .tc .vmem S1x512x512 .f32) (harg6 : arg6.IsWhole) (arg7 : Memref sig .tc .vmem S1x8x512 .f32) (harg7 : arg7.IsWhole) (arg8 : Memref sig .tc .vmem S1x8x512 .f32) (harg8 : arg8.IsWhole) (arg9 : Memref sig .tc .vmem S1x512x512 .f32) (harg9 : arg9.IsWhole) (arg10 : Memref sig .tc .vmem S1x8x512 .f32) (harg10 : arg10.IsWhole) (arg11 : Memref sig .tc .vmem S1x8x512 .f32) (harg11 : arg11.IsWhole) (arg12 : Memref sig .tc .vmem S1x512x512 .f32) (harg12 : arg12.IsWhole) (arg13 : Memref sig .tc .vmem S1x8x512 .f32) (harg13 : arg13.IsWhole) (arg14 : Memref sig .tc .vmem S1x8x512 .f32) (harg14 : arg14.IsWhole) (arg15 : Memref sig .tc .vmem S1x512x512 .f32) (harg15 : arg15.IsWhole) (arg16 : Memref sig .tc .vmem S1x8x512 .f32) (harg16 : arg16.IsWhole) (arg17 : Memref sig .tc .vmem S1x1x6144 .f32) (harg17 : arg17.IsWhole) (arg18 : Memref sig .tc .vmem S1x512 .f32) (harg18 : arg18.IsWhole) (arg19 : Memref sig .tc .vmem S1x1024 .f32) (harg19 : arg19.IsWhole) (arg20 : Memref sig .tc .vmem S1x1024 .f32) (harg20 : arg20.IsWhole) (arg21 : Memref sig .tc .vmem S1024x1024 .bf16) (harg21 : arg21.IsWhole) (arg22 : Memref sig .tc .vmem S1024x5632 .bf16) (harg22 : arg22.IsWhole) (arg23 : Memref sig .tc .vmem S8x2816 .f32) (harg23 : arg23.IsWhole) (arg24 : Memref sig .tc .vmem S1x2816 .f32) (harg24 : arg24.IsWhole) (arg25 : Memref sig .tc .vmem S2816x1024 .bf16) (harg25 : arg25.IsWhole) (arg26 : Memref sig .tc .vmem S1x512x1024 .f32) (harg26 : arg26.IsWhole) (arg27 : Memref sig .tc .vmem S6x528x256 .f32) (harg27 : arg27.IsWhole)
    (x0 : Vec F S1x8x1024 .f32) (x1 : Vec F S1x512x1024 .f32) (x2 : Vec F S1x8x1024 .f32) (x3 : Vec F S1x8x512 .f32) (x4 : Vec F S1x512x512 .f32) (x5 : Vec F S1x8x512 .f32) (x6 : Vec F S1x8x512 .f32) (x7 : Vec F S1x512x512 .f32) (x8 : Vec F S1x8x512 .f32) (x9 : Vec F S1x8x512 .f32) (x10 : Vec F S1x512x512 .f32) (x11 : Vec F S1x8x512 .f32) (x12 : Vec F S1x8x512 .f32) (x13 : Vec F S1x512x512 .f32) (x14 : Vec F S1x8x512 .f32) (x15 : Vec F S1x1x6144 .f32) (x16 : Vec F S1x512 .f32) (x17 : Vec F S1x1024 .f32) (x18 : Vec F S1x1024 .f32) (x19 : Vec F S1024x1024 .bf16) (x20 : Vec F S1024x5632 .bf16) (x21 : Vec F S8x2816 .f32) (x22 : Vec F S1x2816 .f32) (x23 : Vec F S2816x1024 .bf16) (y : S1x512x1024.Idx) :
    ∃ pc ∈ (bodyRun c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13 x14 x15 x16 x17 x18 x19 x20 x21 x22 x23).1, y ∈ pc.1.set :=
  View.cover_of_tiledL (bodyRun c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13 x14 x15 x16 x17 x18 x19 x20 x21 x22 x23).1 S1x512x1024.size (by sl_kernel_rfl) y

/-- What the run leaves in output 24's staging buffer: its pieces read back over junk. -/
def bodyOut (c : Dev nD) (i : grid0.Coords) (arg2 : Memref sig .tc .vmem S1x8x1024 .f32) (harg2 : arg2.IsWhole) (arg3 : Memref sig .tc .vmem S1x512x1024 .f32) (harg3 : arg3.IsWhole) (arg4 : Memref sig .tc .vmem S1x8x1024 .f32) (harg4 : arg4.IsWhole) (arg5 : Memref sig .tc .vmem S1x8x512 .f32) (harg5 : arg5.IsWhole) (arg6 : Memref sig .tc .vmem S1x512x512 .f32) (harg6 : arg6.IsWhole) (arg7 : Memref sig .tc .vmem S1x8x512 .f32) (harg7 : arg7.IsWhole) (arg8 : Memref sig .tc .vmem S1x8x512 .f32) (harg8 : arg8.IsWhole) (arg9 : Memref sig .tc .vmem S1x512x512 .f32) (harg9 : arg9.IsWhole) (arg10 : Memref sig .tc .vmem S1x8x512 .f32) (harg10 : arg10.IsWhole) (arg11 : Memref sig .tc .vmem S1x8x512 .f32) (harg11 : arg11.IsWhole) (arg12 : Memref sig .tc .vmem S1x512x512 .f32) (harg12 : arg12.IsWhole) (arg13 : Memref sig .tc .vmem S1x8x512 .f32) (harg13 : arg13.IsWhole) (arg14 : Memref sig .tc .vmem S1x8x512 .f32) (harg14 : arg14.IsWhole) (arg15 : Memref sig .tc .vmem S1x512x512 .f32) (harg15 : arg15.IsWhole) (arg16 : Memref sig .tc .vmem S1x8x512 .f32) (harg16 : arg16.IsWhole) (arg17 : Memref sig .tc .vmem S1x1x6144 .f32) (harg17 : arg17.IsWhole) (arg18 : Memref sig .tc .vmem S1x512 .f32) (harg18 : arg18.IsWhole) (arg19 : Memref sig .tc .vmem S1x1024 .f32) (harg19 : arg19.IsWhole) (arg20 : Memref sig .tc .vmem S1x1024 .f32) (harg20 : arg20.IsWhole) (arg21 : Memref sig .tc .vmem S1024x1024 .bf16) (harg21 : arg21.IsWhole) (arg22 : Memref sig .tc .vmem S1024x5632 .bf16) (harg22 : arg22.IsWhole) (arg23 : Memref sig .tc .vmem S8x2816 .f32) (harg23 : arg23.IsWhole) (arg24 : Memref sig .tc .vmem S1x2816 .f32) (harg24 : arg24.IsWhole) (arg25 : Memref sig .tc .vmem S2816x1024 .bf16) (harg25 : arg25.IsWhole) (arg26 : Memref sig .tc .vmem S1x512x1024 .f32) (harg26 : arg26.IsWhole) (arg27 : Memref sig .tc .vmem S6x528x256 .f32) (harg27 : arg27.IsWhole)
    (x0 : Vec F S1x8x1024 .f32) (x1 : Vec F S1x512x1024 .f32) (x2 : Vec F S1x8x1024 .f32) (x3 : Vec F S1x8x512 .f32) (x4 : Vec F S1x512x512 .f32) (x5 : Vec F S1x8x512 .f32) (x6 : Vec F S1x8x512 .f32) (x7 : Vec F S1x512x512 .f32) (x8 : Vec F S1x8x512 .f32) (x9 : Vec F S1x8x512 .f32) (x10 : Vec F S1x512x512 .f32) (x11 : Vec F S1x8x512 .f32) (x12 : Vec F S1x8x512 .f32) (x13 : Vec F S1x512x512 .f32) (x14 : Vec F S1x8x512 .f32) (x15 : Vec F S1x1x6144 .f32) (x16 : Vec F S1x512 .f32) (x17 : Vec F S1x1024 .f32) (x18 : Vec F S1x1024 .f32) (x19 : Vec F S1024x1024 .bf16) (x20 : Vec F S1024x5632 .bf16) (x21 : Vec F S8x2816 .f32) (x22 : Vec F S1x2816 .f32) (x23 : Vec F S2816x1024 .bf16) : Vec F S1x512x1024 .f32 :=
  VO0_24.read (Elt F) (VO0_24.writes (Elt F) VO0_24.junk (bodyRun c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13 x14 x15 x16 x17 x18 x19 x20 x21 x22 x23).1)

/-! ## What the outputs hold after each point -/

/-- What the outputs' staging buffers hold after the body at point `t`: the run's contents at
    the point's memrefs and input blocks. -/
def outBlock (c : Dev nD) (t : Fin cfg0.N) : Vec F S1x512x1024 .f32 :=
  bodyOut c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t)

/-! ## The pipeline's proof data -/

/-- The proof data: the arrays as the region finds them; after the body each input's buffer at its block and the output's at
    `outBlock`; nothing owed; the windows that share an array hold shares of it. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => iblk m c 22 t
    | ⟨23, _⟩ => iblk m c 23 t
    | ⟨24, _⟩ => (outBlock m c t)
    | ⟨_ + 25, h⟩ => absurd h (Nat.not_lt.2 (Nat.le_add_left _ _))
  Φ _ := Pipeline.ΦA spec0 c
  q w := Pipeline.shareOf spec0 w
  owed _ := 0

/-- The proof data's arrays are the region-entry contents. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = iblk m c 18 t := by dsimp only [dats]
theorem after0_19 (c : Dev nD) (t : Fin cfg0.N) : (dats m 0 c).after 19 t = iblk m c 19 t := by dsimp only [dats]
theorem after0_20 (c : Dev nD) (t : Fin cfg0.N) : (dats m 0 c).after 20 t = iblk m c 20 t := by dsimp only [dats]
theorem after0_21 (c : Dev nD) (t : Fin cfg0.N) : (dats m 0 c).after 21 t = iblk m c 21 t := by dsimp only [dats]
theorem after0_22 (c : Dev nD) (t : Fin cfg0.N) : (dats m 0 c).after 22 t = iblk m c 22 t := by dsimp only [dats]
theorem after0_23 (c : Dev nD) (t : Fin cfg0.N) : (dats m 0 c).after 23 t = iblk m c 23 t := by dsimp only [dats]
theorem after0_24 (c : Dev nD) (t : Fin cfg0.N) : (dats m 0 c).after 24 t = (outBlock m c t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d
theorem before0_17 (c : Dev nD) (t : Fin cfg0.N) (d) : (dats m 0 c).before 17 t d = iblk m c 17 t :=
  before0_17_of m (dats m 0 c) (A_eq m c 17) (after0_17 m c) t d
theorem before0_18 (c : Dev nD) (t : Fin cfg0.N) (d) : (dats m 0 c).before 18 t d = iblk m c 18 t :=
  before0_18_of m (dats m 0 c) (A_eq m c 18) (after0_18 m c) t d
theorem before0_19 (c : Dev nD) (t : Fin cfg0.N) (d) : (dats m 0 c).before 19 t d = iblk m c 19 t :=
  before0_19_of m (dats m 0 c) (A_eq m c 19) (after0_19 m c) t d
theorem before0_20 (c : Dev nD) (t : Fin cfg0.N) (d) : (dats m 0 c).before 20 t d = iblk m c 20 t :=
  before0_20_of m (dats m 0 c) (A_eq m c 20) (after0_20 m c) t d
theorem before0_21 (c : Dev nD) (t : Fin cfg0.N) (d) : (dats m 0 c).before 21 t d = iblk m c 21 t :=
  before0_21_of m (dats m 0 c) (A_eq m c 21) (after0_21 m c) t d
theorem before0_22 (c : Dev nD) (t : Fin cfg0.N) (d) : (dats m 0 c).before 22 t d = iblk m c 22 t :=
  before0_22_of m (dats m 0 c) (A_eq m c 22) (after0_22 m c) t d
theorem before0_23 (c : Dev nD) (t : Fin cfg0.N) (d) : (dats m 0 c).before 23 t d = iblk m c 23 t :=
  before0_23_of m (dats m 0 c) (A_eq m c 23) (after0_23 m c) t d

/-! ## The body obligation, at a generic point -/

/-- What the body is called with at a point, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d))
    ∗ (∃ d, owns (c : Thread nD τ) (ms0_22 t) fullShare ((dats m 0 c).before 22 t d))
    ∗ (∃ d, owns (c : Thread nD τ) (ms0_23 t) fullShare ((dats m 0 c).before 23 t d))
    ∗ (∃ d, owns (c : Thread nD τ) (ms0_24 t) fullShare ((dats m 0 c).before 24 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t)
    ∗ owns (c : Thread nD τ) (ms0_20 t) fullShare ((dats m 0 c).after 20 t)
    ∗ owns (c : Thread nD τ) (ms0_21 t) fullShare ((dats m 0 c).after 21 t)
    ∗ owns (c : Thread nD τ) (ms0_22 t) fullShare ((dats m 0 c).after 22 t)
    ∗ owns (c : Thread nD τ) (ms0_23 t) fullShare ((dats m 0 c).after 23 t)
    ∗ owns (c : Thread nD τ) (ms0_24 t) fullShare ((dats m 0 c).after 24 t))

set_option maxHeartbeats 2400000 in
/-- The body at any point: the input buffers hold their blocks, so the run applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18, before0_19, before0_20, before0_21, before0_22, before0_23]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24]
  rw [show (dats m 0 c).Φ t.castSucc = Pipeline.ΦA spec0 c from rfl, PhiA0_eq]
  unfold outBlock
  unfold bodyOut
  iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩⟩
  iapply ((bodyRun c (grid0.coords t) _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t)).2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexists _; iexact H24
  isplitl [HS0]; · iexact HS0
  iintro ⟨H0, H1, H2, H3, H4, H5, H6, H7, H8, H9, H10, H11, H12, H13, H14, H15, H16, H17, H18, H19, H20, H21, H22, H23, ⟨%e24, H24⟩, ⟨%fT0, HS0⟩⟩
  isplitl [HS0 Hg]
  · isplitl [HS0]
    · iexists _; unfold owns; iexists _; isplitr
      swap; · iexact HS0
      ipureintro; rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  unfold owns; iexists _; isplitr
  swap; · iexact H24
  ipureintro; exact View.read_writes_of_cover _ _ _ _ _ (bodyCover c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The pipeline's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame_shared`'s implicit arguments are found by unifying its conclusion with this one, which takes unfolding plain
-- definitions in a metavariable's type
set_option backward.isDefEq.respectTransparency.types false in
/-- The launch: the pipeline's arrays at what the proof data says, and every semaphore back at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- The launch without the semaphores. -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  frame_of m ρ (dats m) (A_eq m) (run_main m ρ)

/-- The frame claim's statement, for any float instance. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13))
      ∧ r.2.sem = fun _ => 0) :=
  θ_run_and (unchanged m ρ) ((θ_run defs _ _).mono (fun _ h => h.2) (run_main_quiescent m ρ))

end Cert.FfnIdeal.Own

end
-- ==== Proof.FfnCall.Bits.lean ====
/- The frame of the printed output projection + ConvGLU FFN kernel at the bit-exact floats. The kernel and its idealization print the same text, so their
   `main` and their function tables are the same terms and the idealization's run, which holds for any float instance, is
   this one's run too. -/
module

public import proofs.«01_k».proof.Defs
public import proofs.«01_k».proof.Proof.Gen.Ffn
public import proofs.«01_k».proof.Proof.FfnCall.Frame

@[expose] public section

noncomputable section

namespace Cert.Proof.Ffn

open Idealize.ShloMosaic Idealize.ShloMosaic.TcCoe Idealize.SL.Sem

set_option maxHeartbeats 6000000 in
/-- The two programs' tables of kernel bodies agree. -/
theorem bodies_eq : Cert.Ffn.defs₀ (F := Bits) = Cert.FfnIdeal.defs₀ (F := Bits) := by
  refine congrArg Defs.onTc ?_
  funext l a
  match l, a with
  | 0, (t, s) => rfl

set_option maxHeartbeats 6000000 in
/-- So do their tables of functions. -/
theorem defs_eq : Cert.Ffn.defs (F := Bits) = Cert.FfnIdeal.defs (F := Bits) :=
  congrArg (Pipeline.defs Cert.FfnIdeal.pcfgs) bodies_eq

set_option maxHeartbeats 6000000 in
/-- The printed kernel ends, with every semaphore at zero and its arguments unchanged. -/
theorem frame_bits : Cert.quiescent_Ffn := fun m ρ _ => by
  rw [defs_eq]
  exact Cert.FfnIdeal.Own.frame (F := Bits) m ρ

end Cert.Proof.Ffn

end
-- ==== Proof.FfnValue.Stage.lean ====
/- The output projection and gated feed-forward kernel's block, stage by stage up to the feed-forward's input: the 528 rows
   (8 before the block, its 512, 8 after) of a grid point, each read as the row functions of the inputs' blocks. -/
module

public import proofs.«01_k».proof.Proof.FfnValue.Spec
public import proofs.«01_k».proof.Proof.Gen.FfnIdeal.Skeleton

@[expose] public section

set_option maxRecDepth 65536
set_option maxHeartbeats 1000000

noncomputable section

namespace Cert.Proof.Ffn

open Idealize.ShloMosaic Idealize.ShloMosaic.TcCoe Cert.FfnIdeal Cert.FfnIdeal.Gen

/-- The three blocks of one input stacked: 8 rows, 512 rows, 8 rows. -/
def stack {n : Nat} (p : Fin 8 → Fin n → EReal) (c : Fin 512 → Fin n → EReal) (q : Fin 8 → Fin n → EReal) (e : Fin 528)
    (j : Fin n) : EReal :=
  if h : e.val < 8 then p ⟨e.val, h⟩ j
  else if h : e.val - 8 < 512 then c ⟨e.val - 8, h⟩ j else q ⟨e.val - 8 - 512, by omega⟩ j

section

variable (x0 : Vec Ideal S1x8x1024 .f32) (x1 : Vec Ideal S1x512x1024 .f32) (x2 : Vec Ideal S1x8x1024 .f32)
  (x3 : Vec Ideal S1x8x512 .f32) (x4 : Vec Ideal S1x512x512 .f32) (x5 : Vec Ideal S1x8x512 .f32)
  (x6 : Vec Ideal S1x8x512 .f32) (x7 : Vec Ideal S1x512x512 .f32) (x8 : Vec Ideal S1x8x512 .f32)
  (x9 : Vec Ideal S1x8x512 .f32) (x10 : Vec Ideal S1x512x512 .f32) (x11 : Vec Ideal S1x8x512 .f32)
  (x12 : Vec Ideal S1x8x512 .f32) (x13 : Vec Ideal S1x512x512 .f32) (x14 : Vec Ideal S1x8x512 .f32)
  (x15 : Vec Ideal S1x1x6144 .f32) (x16 : Vec Ideal S1x512 .f32) (x17 : Vec Ideal S1x1024 .f32)
  (x18 : Vec Ideal S1x1024 .f32) (x19 : Vec Ideal S1024x1024 .bf16) (x20 : Vec Ideal S1024x5632 .bf16)
  (x21 : Vec Ideal S8x2816 .f32) (x22 : Vec Ideal S1x2816 .f32) (x23 : Vec Ideal S2816x1024 .bf16)

/-- Row `e` of the stacked inputs. -/
def blockRow (e : Fin 528) : Row where
  x := stack (fun a d => x0 (ix3 0 a d)) (fun a d => x1 (ix3 0 a d)) (fun a d => x2 (ix3 0 a d)) e
  y := stack (fun a d => x3 (ix3 0 a d)) (fun a d => x4 (ix3 0 a d)) (fun a d => x5 (ix3 0 a d)) e
  o j := stack (fun a d => x6 (ix3 0 a d)) (fun a d => x7 (ix3 0 a d)) (fun a d => x8 (ix3 0 a d)) e j
    + stack (fun a d => x9 (ix3 0 a d)) (fun a d => x10 (ix3 0 a d)) (fun a d => x11 (ix3 0 a d)) e j
  g := stack (fun a d => x12 (ix3 0 a d)) (fun a d => x13 (ix3 0 a d)) (fun a d => x14 (ix3 0 a d)) e

/-- The parameters of a grid point's blocks. -/
def blockPar : Par where
  g1 d := x15 (ix3 0 0 ⟨2048 + d.val, by omega⟩)
  sh d := x15 (ix3 0 0 ⟨3072 + d.val, by omega⟩)
  sc d := x15 (ix3 0 0 ⟨4096 + d.val, by omega⟩)
  g2 d := x15 (ix3 0 0 ⟨5120 + d.val, by omega⟩)
  gn j := x16 (ix2 0 j)
  n2 d := x17 (ix2 0 d)
  fg d := x18 (ix2 0 d)
  wo k d := x19 (ix2 k d)
  wu k c := x20 (ix2 k c)
  dw i k := x21 (ix2 ⟨i.val, by omega⟩ k)
  db k := x22 (ix2 0 k)
  wd k d := x23 (ix2 k d)

end

/-- The kernel's spelling of `x · σ(x)`. -/
theorem silu_sub (x : EReal) : x * Ideal.div 1 (1 + Ideal.exp (0 - x)) = silu x := by
  rw [zero_sub]; rfl

/-- Entry `t` of head `h`. -/
theorem gated_head (P : Par) (R : Row) (j : Fin 512) (h : Nat) (hh : h < 4) (t : Fin 128) (hj : j.val = 128 * h + t.val) :
    gated P R j = R.o j * rmsInv 1124073472#32 (∑ k : Fin 128, R.o ⟨128 * h + k.val, by omega⟩ * R.o ⟨128 * h + k.val, by omega⟩)
      * P.gn j * silu (R.g j) := by
  unfold gated headSq
  have e : ∀ k : Fin 128, (⟨j.val / 128 * 128 + k.val, by omega⟩ : Fin 512) = ⟨128 * h + k.val, by omega⟩ := fun k =>
    Fin.ext (by simp only; omega)
  simp only [e]

section

variable (P : Par) (R : Fin 528 → Row) (v20 v27 : FVec Ideal S528x512 .f32) (v35 : FVec Ideal S528x512 .bf16)
  (x0 : Vec Ideal S1x8x1024 .f32) (x1 : Vec Ideal S1x512x1024 .f32) (x2 : Vec Ideal S1x8x1024 .f32)
  (v2 v3 v4 : FVec Ideal S1x1024 .f32)
  (g0 g1 g2 g3 : Vec Ideal S1x128 .f32) (w : Vec Ideal S1024x1024 .bf16) (n : Vec Ideal S1x1024 .f32)

theorem head0 (ho : ∀ e j, v20 (ix2 e j) = (R e).o j) (hg : ∀ e j, v27 (ix2 e j) = (R e).g j)
    (hn : ∀ t, g0 (ix2 0 t) = P.gn ⟨0 + t.val, by omega⟩) (e : Fin 528) (t : Fin 128) :
    k0_pay10 v20 v27 g0 (ix2 e t) = gated P (R e) ⟨0 + t.val, by omega⟩ := by
  rw [gated_head P (R e) _ 0 (by omega) t (by simp)]
  pointwise [k0_pay10]
  simp only [ho, hg, hn, silu_sub, rmsInv]
  simp only [Nat.zero_add, Nat.mul_zero]

theorem head1 (ho : ∀ e j, v20 (ix2 e j) = (R e).o j) (hg : ∀ e j, v27 (ix2 e j) = (R e).g j)
    (hn : ∀ t, g1 (ix2 0 t) = P.gn ⟨128 + t.val, by omega⟩) (e : Fin 528) (t : Fin 128) :
    k0_pay14 (k0_pay11 v20) (k0_pay12 v20) (k0_pay13 v27) g1 (ix2 e t) = gated P (R e) ⟨128 + t.val, by omega⟩ := by
  rw [gated_head P (R e) _ 1 (by omega) t (by simp)]
  pointwise [k0_pay14, k0_pay11, k0_pay12, k0_pay13]
  simp only [ho, hg, hn, silu_sub, rmsInv]

theorem head2 (ho : ∀ e j, v20 (ix2 e j) = (R e).o j) (hg : ∀ e j, v27 (ix2 e j) = (R e).g j)
    (hn : ∀ t, g2 (ix2 0 t) = P.gn ⟨256 + t.val, by omega⟩) (e : Fin 528) (t : Fin 128) :
    k0_pay15 v20 v27 g2 (ix2 e t) = gated P (R e) ⟨256 + t.val, by omega⟩ := by
  rw [gated_head P (R e) _ 2 (by omega) t (by simp)]
  pointwise [k0_pay15]
  simp only [ho, hg, hn, silu_sub, rmsInv]

/-- The stream after the output projection, over the stacked rows. -/
theorem stream_eq (ho : ∀ e j, v20 (ix2 e j) = (R e).o j) (hg : ∀ e j, v27 (ix2 e j) = (R e).g j)
    (hy : ∀ e j, v35 (ix2 e j) = (R e).y j) (h2 : ∀ d, v2 (ix2 0 d) = P.g1 d)
    (hx : ∀ e d, (R e).x d = stack (fun a d => x0 (ix3 0 a d)) (fun a d => x1 (ix3 0 a d)) (fun a d => x2 (ix3 0 a d)) e d)
    (hn0 : ∀ t, g0 (ix2 0 t) = P.gn ⟨0 + t.val, by omega⟩) (hn1 : ∀ t, g1 (ix2 0 t) = P.gn ⟨128 + t.val, by omega⟩)
    (hn2 : ∀ t, g2 (ix2 0 t) = P.gn ⟨256 + t.val, by omega⟩) (hn3 : ∀ t, g3 (ix2 0 t) = P.gn ⟨384 + t.val, by omega⟩)
    (hw : ∀ k d, w (ix2 k d) = P.wo k d) (e : Fin 528) (d : Fin 1024) :
    k0_pay17 v2 v27 v35 (k0_pay10 v20 v27 g0) (k0_pay14 (k0_pay11 v20) (k0_pay12 v20) (k0_pay13 v27) g1)
      (k0_pay15 v20 v27 g2) (k0_pay16 v20) g3 x0 x1 x2 w (ix2 e d) = stream P (R e) d := by
  pointwise [k0_pay17, k0_pay16]
  simp only [head0 P R v20 v27 g0 ho hg hn0, head1 P R v20 v27 g1 ho hg hn1, head2 P R v20 v27 g2 ho hg hn2]
  unfold stream
  rw [h2, hx]
  simp only [hw]
  congr 2
  refine Finset.sum_congr rfl fun x _ => ?_
  congr 1
  unfold mixed
  by_cases c : x.val < 512
  · rw [dif_pos c, dif_pos c, hy]
  rw [dif_neg c, dif_neg c]
  by_cases c1 : x.val - 512 < 128
  · rw [dif_pos c1]; congr 1; exact Fin.ext (by simp)
  rw [dif_neg c1]
  by_cases c2 : x.val - 512 - 128 < 128
  · rw [dif_pos c2]; congr 1; exact Fin.ext (by simp only; omega)
  rw [dif_neg c2]
  by_cases c3 : x.val - 512 - 128 - 128 < 128
  · rw [dif_pos c3]; congr 1; exact Fin.ext (by simp only; omega)
  rw [dif_neg c3, gated_head P (R e) _ 3 (by omega) ⟨x.val - 512 - 128 - 128 - 128, by omega⟩ (by simp only; omega)]
  simp only [ho, hg, hn3, silu_sub, rmsInv]
  have ei : (⟨384 + (x.val - 512 - 128 - 128 - 128), by omega⟩ : Fin 512) = ⟨x.val - 512, by omega⟩ :=
    Fin.ext (by simp only; omega)
  rw [ei]

/-- The feed-forward's input, over the stacked rows. -/
theorem hidden_eq (s q : FVec Ideal S528x1024 .f32) (hs : ∀ e d, s (ix2 e d) = stream P (R e) d)
    (hq : ∀ e d, q (ix2 e d) = s (ix2 e d) * s (ix2 e d)) (h3 : ∀ d, v3 (ix2 0 d) = P.sh d) (h4 : ∀ d, v4 (ix2 0 d) = P.sc d)
    (hn : ∀ d, n (ix2 0 d) = P.n2 d) (e : Fin 528) (d : Fin 1024) :
    k0_pay20 v3 v4 s q n (ix2 e d) = hidden P (R e) d := by
  pointwise [k0_pay20, k0_pay19]
  simp only [hq, hs, h3, h4, hn]
  rfl

/-- The same, of the block's own 512 rows. -/
theorem hidden_mid_eq (s q : FVec Ideal S528x1024 .f32) (hs : ∀ e d, s (ix2 e d) = stream P (R e) d)
    (hq : ∀ e d, q (ix2 e d) = s (ix2 e d) * s (ix2 e d)) (h3 : ∀ d, v3 (ix2 0 d) = P.sh d) (h4 : ∀ d, v4 (ix2 0 d) = P.sc d)
    (hn : ∀ d, n (ix2 0 d) = P.n2 d) (r : Fin 512) (d : Fin 1024) :
    k0_pay21 v3 v4 s q n (ix2 r d) = hidden P (R ⟨8 + r.val, by omega⟩) d := by
  pointwise [k0_pay21, k0_pay19]
  simp only [hq, hs, h3, h4, hn]
  rfl

end

end Cert.Proof.Ffn

end
-- ==== Proof.FfnValue.Chunk.lean ====
/- The feed-forward kernel's inner dimension, 256 columns at a time: each of the eleven chunks adds its part of the down
   projection's sum, and the eleven parts make up the whole sum over 2816 columns. -/
module

public import proofs.«01_k».proof.Proof.FfnValue.Stage

@[expose] public section

set_option maxRecDepth 65536
set_option maxHeartbeats 1000000

noncomputable section

namespace Cert.Proof.Ffn

open Idealize.ShloMosaic Idealize.ShloMosaic.TcCoe Cert.FfnIdeal Cert.FfnIdeal.Gen

/-- A mask may be applied before or after a product. -/
theorem mul_select (k : BitVec 1) (w x : EReal) : Scalar.select k 0 (w * x) = w * Scalar.select k 0 x := by
  unfold Scalar.select
  split
  · exact (mul_zero w).symm
  · rfl

section

variable (P : Par) (R : Fin 528 → Row) (kp kn : IVec S512x1 1)

/-- The gate half of the row before the block's row `r`, cut off where the mask says so. -/
def before (r : Fin 512) (k : Fin 2816) : EReal :=
  Scalar.select (kp (ix2 r 0)) 0 (upGate P (R ⟨7 + r.val, by omega⟩) k)

/-- The gate half of the row after it. -/
def after (r : Fin 512) (k : Fin 2816) : EReal :=
  Scalar.select (kn (ix2 r 0)) 0 (upGate P (R ⟨9 + r.val, by omega⟩) k)

/-- Row `r`'s summand of the down projection at inner column `k`. -/
def summand (r : Fin 512) (d : Fin 1024) (k : Fin 2816) : EReal :=
  act P (before P R kp r) (R ⟨8 + r.val, by omega⟩) (after P R kn r) k * P.wd k d

/-- The part of the down projection from the 256 columns at `o`. -/
def part (o : Nat) (ho : o + 256 ≤ 2816) (r : Fin 512) (d : Fin 1024) : EReal :=
  ∑ k : Fin 256, summand P R kp kn r d ⟨o + k.val, by omega⟩

/-- What a chunk's operands are: the three shifted views of the gate half, the value half, the convolution's weights and the
    down projection's rows, all at columns `o …`. -/
structure Chunk (o : Nat) (ho : o + 256 ≤ 2816) (v : FVec Ideal S512x256 .f32) (p c n : Vec Ideal S512x256 .f32)
    (w0 w1 w2 b : Vec Ideal S1x256 .f32) (wd : Vec Ideal S256x1024 .bf16) : Prop where
  v : ∀ (r : Fin 512) (k : Fin 256), v (ix2 r k) = up P (R ⟨8 + r.val, by omega⟩) ⟨2816 + (o + k.val), by omega⟩
  p : ∀ (r : Fin 512) (k : Fin 256), p (ix2 r k) = upGate P (R ⟨7 + r.val, by omega⟩) ⟨o + k.val, by omega⟩
  c : ∀ (r : Fin 512) (k : Fin 256), c (ix2 r k) = upGate P (R ⟨8 + r.val, by omega⟩) ⟨o + k.val, by omega⟩
  n : ∀ (r : Fin 512) (k : Fin 256), n (ix2 r k) = upGate P (R ⟨9 + r.val, by omega⟩) ⟨o + k.val, by omega⟩
  w0 : ∀ k : Fin 256, w0 (ix2 0 k) = P.dw 0 ⟨o + k.val, by omega⟩
  w1 : ∀ k : Fin 256, w1 (ix2 0 k) = P.dw 1 ⟨o + k.val, by omega⟩
  w2 : ∀ k : Fin 256, w2 (ix2 0 k) = P.dw 2 ⟨o + k.val, by omega⟩
  b : ∀ k : Fin 256, b (ix2 0 k) = P.db ⟨o + k.val, by omega⟩
  wd : ∀ (k : Fin 256) (d : Fin 1024), wd (ix2 k d) = P.wd ⟨o + k.val, by omega⟩ d

variable {o : Nat} {ho : o + 256 ≤ 2816} {v : FVec Ideal S512x256 .f32} {p c n : Vec Ideal S512x256 .f32}
  {w0 w1 w2 b : Vec Ideal S1x256 .f32} {wd : Vec Ideal S256x1024 .bf16} (H : Chunk P R o ho v p c n w0 w1 w2 b wd)
include H

/-- A chunk's sum as the kernel spells it. -/
theorem chunk_sum (r : Fin 512) (d : Fin 1024) :
    ∑ x : Fin 256, (Scalar.select (kp (ix2 r 0)) 0 (w0 (ix2 0 x) * p (ix2 r x)) + w1 (ix2 0 x) * c (ix2 r x)
          + Scalar.select (kn (ix2 r 0)) 0 (w2 (ix2 0 x) * n (ix2 r x)) + b (ix2 0 x))
        * Ideal.div 1 (1 + Ideal.exp (0 - (Scalar.select (kp (ix2 r 0)) 0 (w0 (ix2 0 x) * p (ix2 r x))
            + w1 (ix2 0 x) * c (ix2 r x) + Scalar.select (kn (ix2 r 0)) 0 (w2 (ix2 0 x) * n (ix2 r x)) + b (ix2 0 x))))
        * v (ix2 r x) * wd (ix2 x d) = part P R kp kn o ho r d := by
  refine Finset.sum_congr rfl fun x _ => ?_
  rw [silu_sub, mul_select, mul_select, H.v, H.p, H.c, H.n, H.w0, H.w1, H.w2, H.b, H.wd]
  rfl

variable (acc : FVec Ideal S512x1024 .f32) (r : Fin 512) (d : Fin 1024)

theorem chunk0 : k0_pay43 (k0_pay39 v (k0_pay37 kp p) n (Scalar.ofBits FTy.f32 0x00000000#32) (k0_pay38 kn) w0 w1 c w2 b) wd
    (ix2 r d) = part P R kp kn o ho r d := by
  pointwise [k0_pay43, k0_pay39, k0_pay37, k0_pay38]
  exact chunk_sum P R kp kn H r d

theorem chunk1 : k0_pay49 v acc (k0_pay44 kn n) (k0_pay45 kp p w0) c (k0_pay46 w1) w2 b wd (ix2 r d)
    = acc (ix2 r d) + part P R kp kn o ho r d := by
  pointwise [k0_pay49, k0_pay44, k0_pay45, k0_pay46]
  exact congrArg (acc (ix2 r d) + ·) (chunk_sum P R kp kn H r d)

theorem chunk2 : k0_pay55 v acc (k0_pay50 kp kn p n w0 w1 c w2 b) (k0_pay51 kp kn p n w0 w1 c w2 b) k0_pay52 wd (ix2 r d)
    = acc (ix2 r d) + part P R kp kn o ho r d := by
  pointwise [k0_pay55, k0_pay50, k0_pay51, k0_pay52]
  exact congrArg (acc (ix2 r d) + ·) (chunk_sum P R kp kn H r d)

theorem chunk3 : k0_pay61 acc (k0_pay58 v (k0_pay56 kp p) (k0_pay57 kn n) w0 w1 c w2 b) wd (ix2 r d)
    = acc (ix2 r d) + part P R kp kn o ho r d := by
  pointwise [k0_pay61, k0_pay58, k0_pay56, k0_pay57]
  exact congrArg (acc (ix2 r d) + ·) (chunk_sum P R kp kn H r d)

theorem chunk4 : k0_pay66 v acc (k0_pay62 kn n) (k0_pay63 kp p w0 w1 c) w2 b wd (ix2 r d)
    = acc (ix2 r d) + part P R kp kn o ho r d := by
  pointwise [k0_pay66, k0_pay62, k0_pay63]
  exact congrArg (acc (ix2 r d) + ·) (chunk_sum P R kp kn H r d)

theorem chunk5 : k0_pay70 v acc (k0_pay67 kp kn p (Scalar.ofBits FTy.f32 0x00000000#32) n w0 w1 c w2 b)
    (k0_pay68 kp kn p (Scalar.ofBits FTy.f32 0x00000000#32) n w0 w1 c w2 b) k0_pay69 wd (ix2 r d)
    = acc (ix2 r d) + part P R kp kn o ho r d := by
  pointwise [k0_pay70, k0_pay67, k0_pay68, k0_pay69]
  exact congrArg (acc (ix2 r d) + ·) (chunk_sum P R kp kn H r d)

theorem chunk6 : k0_pay73 v acc (k0_pay71 kn n) (k0_pay72 kp p w0 w1 c) w2 b wd (ix2 r d)
    = acc (ix2 r d) + part P R kp kn o ho r d := by
  pointwise [k0_pay73, k0_pay71, k0_pay72]
  exact congrArg (acc (ix2 r d) + ·) (chunk_sum P R kp kn H r d)

theorem chunk7 : k0_pay76 v acc (k0_pay74 kp p) (k0_pay75 kn n) w0 w1 c w2 b wd (ix2 r d)
    = acc (ix2 r d) + part P R kp kn o ho r d := by
  pointwise [k0_pay76, k0_pay74, k0_pay75]
  exact congrArg (acc (ix2 r d) + ·) (chunk_sum P R kp kn H r d)

theorem chunk8 : k0_pay80 v acc (k0_pay77 kp kn p (Scalar.ofBits FTy.f32 0x00000000#32) n w0 w1 c w2 b)
    (k0_pay78 kp kn p (Scalar.ofBits FTy.f32 0x00000000#32) n w0 w1 c w2 b) k0_pay79 wd (ix2 r d)
    = acc (ix2 r d) + part P R kp kn o ho r d := by
  pointwise [k0_pay80, k0_pay77, k0_pay78, k0_pay79]
  exact congrArg (acc (ix2 r d) + ·) (chunk_sum P R kp kn H r d)

theorem chunk9 : k0_pay83 v acc (k0_pay81 kn n) (k0_pay82 kp p w0 w1 c) w2 b wd (ix2 r d)
    = acc (ix2 r d) + part P R kp kn o ho r d := by
  pointwise [k0_pay83, k0_pay81, k0_pay82]
  exact congrArg (acc (ix2 r d) + ·) (chunk_sum P R kp kn H r d)

/-- The last chunk, with the residual and its gate. -/
theorem chunk10 (g : FVec Ideal S1x1024 .f32) (s : FVec Ideal S528x1024 .f32) :
    k0_pay86 g s v acc (k0_pay84 kp p) (k0_pay85 kn n) w0 w1 c w2 b wd (ix2 r d)
      = s (ix2 ⟨8 + r.val, by omega⟩ d) + g (ix2 0 d) * (acc (ix2 r d) + part P R kp kn o ho r d) := by
  pointwise [k0_pay86, k0_pay84, k0_pay85]
  exact congrArg (fun z => s (ix2 ⟨8 + r.val, by omega⟩ d) + g (ix2 0 d) * (acc (ix2 r d) + z)) (chunk_sum P R kp kn H r d)

end

/-- A sum over the first `a + 256` of the columns is the sum over the first `a` and the 256 after them. -/
theorem sum_cut (f : Fin 2816 → EReal) (a : Nat) (ha : a + 256 ≤ 2816) :
    ∑ k : Fin (a + 256), f ⟨k.val, by omega⟩ = ∑ k : Fin a, f ⟨k.val, by omega⟩ + ∑ k : Fin 256, f ⟨a + k.val, by omega⟩ :=
  Fin.sum_univ_add (fun k : Fin (a + 256) => f ⟨k.val, by omega⟩)

/-- The eleven chunks' sums, added in the kernel's order, are the sum over all 2816 columns. -/
theorem sum_chunks (f : Fin 2816 → EReal) :
    ∑ k, f k = ∑ k : Fin 256, f ⟨0 + k.val, by omega⟩ + ∑ k : Fin 256, f ⟨256 + k.val, by omega⟩
      + ∑ k : Fin 256, f ⟨512 + k.val, by omega⟩ + ∑ k : Fin 256, f ⟨768 + k.val, by omega⟩
      + ∑ k : Fin 256, f ⟨1024 + k.val, by omega⟩ + ∑ k : Fin 256, f ⟨1280 + k.val, by omega⟩
      + ∑ k : Fin 256, f ⟨1536 + k.val, by omega⟩ + ∑ k : Fin 256, f ⟨1792 + k.val, by omega⟩
      + ∑ k : Fin 256, f ⟨2048 + k.val, by omega⟩ + ∑ k : Fin 256, f ⟨2304 + k.val, by omega⟩
      + ∑ k : Fin 256, f ⟨2560 + k.val, by omega⟩ := by
  have h0 : ∑ k : Fin 256, f ⟨0 + k.val, by omega⟩ = ∑ k : Fin 256, f ⟨k.val, by omega⟩ :=
    Finset.sum_congr rfl fun k _ => congrArg f (Fin.ext (Nat.zero_add _))
  rw [h0, ← sum_cut f 256 (by omega), ← sum_cut f 512 (by omega), ← sum_cut f 768 (by omega),
    ← sum_cut f 1024 (by omega), ← sum_cut f 1280 (by omega), ← sum_cut f 1536 (by omega), ← sum_cut f 1792 (by omega),
    ← sum_cut f 2048 (by omega), ← sum_cut f 2304 (by omega), ← sum_cut f 2560 (by omega)]

/-- The result from the stream after the feed-forward. -/
theorem final_eq (s : Fin 512 → Fin 1024 → EReal) (t : FVec Ideal S512x1024 .f32) (q : FVec Ideal S512x1 .f32)
    (g : Vec Ideal S1x1024 .f32) (fg : Fin 1024 → EReal) (ht : ∀ r d, t (ix2 r d) = s r d)
    (hq : ∀ r, q (ix2 r 0) = ∑ k, t (ix2 r k) * t (ix2 r k)) (hg : ∀ d, g (ix2 0 d) = fg d) (r : Fin 512) (d : Fin 1024) :
    k0_pay1 t q (Scalar.ofBits FTy.f32 0x44800000#32) g (ix3 0 r d)
      = s r d * rmsInv 1149239296#32 (∑ k, s r k * s r k) * fg d := by
  pointwise [k0_pay1]
  rw [hq, ht, hg]
  simp only [ht]
  rfl

section

variable (w : Vec Ideal S1024x256 .bf16) (h : FVec Ideal S528x1024 .bf16) (hm : FVec Ideal S512x1024 .bf16) (e : Fin 528)
  (r : Fin 512) (k : Fin 256)

/-- What each store to the scratch's six slots writes: the up projection's 256 columns of all 528 rows. -/
theorem slot_reads : k0_pay27 h w (ix3 0 e k) = ∑ x, h (ix2 e x) * w (ix2 x k)
    ∧ k0_pay29 h w (ix3 0 e k) = ∑ x, h (ix2 e x) * w (ix2 x k) ∧ k0_pay31 h w (ix3 0 e k) = ∑ x, h (ix2 e x) * w (ix2 x k)
    ∧ k0_pay33 h w (ix3 0 e k) = ∑ x, h (ix2 e x) * w (ix2 x k) ∧ k0_pay35 h w (ix3 0 e k) = ∑ x, h (ix2 e x) * w (ix2 x k)
    ∧ k0_pay41 (k0_pay40 h w) (ix3 0 e k) = ∑ x, h (ix2 e x) * w (ix2 x k)
    ∧ k0_pay47 h w (ix3 0 e k) = ∑ x, h (ix2 e x) * w (ix2 x k) ∧ k0_pay53 h w (ix3 0 e k) = ∑ x, h (ix2 e x) * w (ix2 x k)
    ∧ k0_pay59 h w (ix3 0 e k) = ∑ x, h (ix2 e x) * w (ix2 x k)
    ∧ k0_pay64 h w (ix3 0 e k) = ∑ x, h (ix2 e x) * w (ix2 x k) := by
  refine ⟨?_, ?_, ?_, ?_, ?_, ?_, ?_, ?_, ?_, ?_⟩ <;>
  pointwise [k0_pay27, k0_pay29, k0_pay31, k0_pay33, k0_pay35, k0_pay41, k0_pay40, k0_pay47, k0_pay53, k0_pay59, k0_pay64]

/-- The first slot's store. -/
theorem slot_first (v3 v4 : FVec Ideal S1x1024 .f32) (s q : FVec Ideal S528x1024 .f32) (n : Vec Ideal S1x1024 .f32) :
    k0_pay24 v3 v4 s q n w (ix3 0 e k) = ∑ x, k0_pay20 v3 v4 s q n (ix2 e x) * w (ix2 x k) := by
  pointwise [k0_pay24]

/-- The value halves: the up projection's columns of the block's own rows. -/
theorem value_reads : k0_pay26 hm (k0_pay25 w) (ix2 r k) = ∑ x, hm (ix2 r x) * w (ix2 x k)
    ∧ k0_pay28 hm w (ix2 r k) = ∑ x, hm (ix2 r x) * w (ix2 x k) ∧ k0_pay30 hm w (ix2 r k) = ∑ x, hm (ix2 r x) * w (ix2 x k)
    ∧ k0_pay32 hm w (ix2 r k) = ∑ x, hm (ix2 r x) * w (ix2 x k) ∧ k0_pay34 hm w (ix2 r k) = ∑ x, hm (ix2 r x) * w (ix2 x k)
    ∧ k0_pay36 hm w (ix2 r k) = ∑ x, hm (ix2 r x) * w (ix2 x k) ∧ k0_pay42 hm w (ix2 r k) = ∑ x, hm (ix2 r x) * w (ix2 x k)
    ∧ k0_pay48 hm w (ix2 r k) = ∑ x, hm (ix2 r x) * w (ix2 x k) ∧ k0_pay54 hm w (ix2 r k) = ∑ x, hm (ix2 r x) * w (ix2 x k)
    ∧ k0_pay60 hm w (ix2 r k) = ∑ x, hm (ix2 r x) * w (ix2 x k)
    ∧ k0_pay65 hm w (ix2 r k) = ∑ x, hm (ix2 r x) * w (ix2 x k) := by
  refine ⟨?_, ?_, ?_, ?_, ?_, ?_, ?_, ?_, ?_, ?_, ?_⟩ <;>
  pointwise [k0_pay26, k0_pay25, k0_pay28, k0_pay30, k0_pay32, k0_pay34, k0_pay36, k0_pay42, k0_pay48, k0_pay54, k0_pay60,
    k0_pay65]

end

end Cert.Proof.Ffn

end
-- ==== Proof.FfnValue.Words.lean ====
/- The feed-forward kernel's run, read: each word the run names is what the row functions say of the grid point's blocks. -/
module

public import proofs.«01_k».proof.Proof.FfnValue.Chunk
public import proofs.«01_k».proof.Proof.FfnCall.Run
public import Idealize.ShloMosaic.Lib.Pipeline.Value
public import Idealize.ShloMosaic.Lib.ValueLayout

@[expose] public section

set_option maxRecDepth 65536
set_option maxHeartbeats 1000000

noncomputable section

namespace Cert.Proof.Ffn

open Idealize.ShloMosaic Idealize.ShloMosaic.TcCoe Cert.FfnIdeal Cert.FfnIdeal.Gen Cert.FfnIdeal.Own

/-- A read of rows `row …` of slot `a`, whose store came last: the stored rows. -/
theorem slot_hit (v : View sig .tc .vmem S6x528x256 .f32) {a row : Nat}
    {ha : ∀ i, (![a, 0, 0] : Fin 3 → Nat) i + (![1, 528, 256] : Fin 3 → Nat) i ≤ S6x528x256.size i}
    {hr : ∀ i, (![row, 0] : Fin 2 → Nat) i + (![512, 256] : Fin 2 → Nat) i ≤ S528x256.size i}
    (w : (Rect.unit (s := S6x528x256) ![a, 0, 0] ![1, 528, 256] ha).shape.Idx → Elt Ideal .f32)
    (L : List (View.Piece (Elt Ideal) S6x528x256 .f32)) {h0} {hs} {h1} {hR} (hrow : row + 512 ≤ 528) (r : Fin 512) (k : Fin 256) :
    LoadRect.valAlong (lr := (Rect.unit (s := S528x256) ![row, 0] ![512, 256] hr).toLoadRect) hR
      (v.readCov (⟨Rect.unit (s := S6x528x256) ![a, 0, 0] ![1, 528, 256] ha, w⟩ :: L)
        ((Rect.unit (s := S6x528x256) ![a, 0, 0] ![1, 528, 256] ha).withinL
          ((Rect.unit (s := S528x256) ![row, 0] ![512, 256] hr).toLoadRect.consLift ![1, 528, 256] h0 hs) h1)) (ix2 r k)
      = w (ix3 0 ⟨row + r.val, by omega⟩ k) := by
  have hj : Shape.reshapeEquiv hR (ix2 r k) = ix3 (0 : Fin 1) r k := ValueIdx.reshapeEquiv_ix2_1ab _ r k
  rw [View.readCov_eq_canon']
  show View.canon _ (LoadRect.idx _ (Shape.reshapeEquiv hR (ix2 r k))) = _
  rw [hj]
  refine (congrArg _ ?_).trans (View.canon_cons_emb (Rect.unit (s := S6x528x256) ![a, 0, 0] ![1, 528, 256] ha) w L
    (ix3 (0 : Fin 1) ⟨row + r.val, by omega⟩ k))
  refine (Rect.idx_withinL _ _ h1 _).trans (congrArg _ ?_)
  funext i
  refine Fin.ext ?_
  match i with
  | 0 => exact (by omega : 0 + 1 * 0 = 0)
  | 1 => exact (by omega : row + 1 * r.val = row + r.val)
  | 2 => exact (by omega : 0 + 1 * k.val = k.val)

/-- A read of slot `b` past a store to another slot. -/
theorem slot_skip (v : View sig .tc .vmem S6x528x256 .f32) {a b : Nat} (hab : a ≠ b)
    {ha : ∀ i, (![a, 0, 0] : Fin 3 → Nat) i + (![1, 528, 256] : Fin 3 → Nat) i ≤ S6x528x256.size i}
    {hb : ∀ i, (![b, 0, 0] : Fin 3 → Nat) i + (![1, 528, 256] : Fin 3 → Nat) i ≤ S6x528x256.size i}
    (w : (Rect.unit (s := S6x528x256) ![a, 0, 0] ![1, 528, 256] ha).shape.Idx → Elt Ideal .f32)
    (L : List (View.Piece (Elt Ideal) S6x528x256 .f32))
    (B : LoadRect (Rect.unit (s := S6x528x256) ![b, 0, 0] ![1, 528, 256] hb).shape) {h1} :
    v.readCov (⟨Rect.unit (s := S6x528x256) ![a, 0, 0] ![1, 528, 256] ha, w⟩ :: L)
        ((Rect.unit (s := S6x528x256) ![b, 0, 0] ![1, 528, 256] hb).withinL B h1)
      = v.readCov L ((Rect.unit (s := S6x528x256) ![b, 0, 0] ![1, 528, 256] hb).withinL B h1) := by
  rw [View.readCov_eq_canon', View.readCov_eq_canon']
  funext j
  refine View.canon_cons_of_not_mem _ _ fun hm => ?_
  obtain ⟨i, hi, he⟩ := (Rect.unit (s := S6x528x256) ![a, 0, 0] ![1, 528, 256] ha).mem_set.mp hm 0
  have h5 : ((Rect.withinL _ B h1).idx j 0).val = b + 1 * (B.idx j 0).val :=
    congrArg Fin.val (congrFun (Rect.idx_withinL (Rect.unit (s := S6x528x256) ![b, 0, 0] ![1, 528, 256] hb) B h1 j) 0)
  have h2 : (B.idx j 0).val < 1 := (B.idx j 0).isLt
  have h3 : i < 1 := hi
  have h4 : ((Rect.withinL _ B h1).idx j 0).val = a + 1 * i := he
  omega

section

variable (c : Dev nD) (i : grid0.Coords) (arg2 : Memref sig .tc .vmem S1x8x1024 .f32) (harg2 : arg2.IsWhole) (arg3 : Memref
  sig .tc .vmem S1x512x1024 .f32) (harg3 : arg3.IsWhole) (arg4 : Memref sig .tc .vmem S1x8x1024 .f32) (harg4 :
  arg4.IsWhole) (arg5 : Memref sig .tc .vmem S1x8x512 .f32) (harg5 : arg5.IsWhole) (arg6 : Memref sig .tc .vmem
  S1x512x512 .f32) (harg6 : arg6.IsWhole) (arg7 : Memref sig .tc .vmem S1x8x512 .f32) (harg7 : arg7.IsWhole) (arg8 :
  Memref sig .tc .vmem S1x8x512 .f32) (harg8 : arg8.IsWhole) (arg9 : Memref sig .tc .vmem S1x512x512 .f32) (harg9 :
  arg9.IsWhole) (arg10 : Memref sig .tc .vmem S1x8x512 .f32) (harg10 : arg10.IsWhole) (arg11 : Memref sig .tc .vmem
  S1x8x512 .f32) (harg11 : arg11.IsWhole) (arg12 : Memref sig .tc .vmem S1x512x512 .f32) (harg12 : arg12.IsWhole)
  (arg13 : Memref sig .tc .vmem S1x8x512 .f32) (harg13 : arg13.IsWhole) (arg14 : Memref sig .tc .vmem S1x8x512 .f32)
  (harg14 : arg14.IsWhole) (arg15 : Memref sig .tc .vmem S1x512x512 .f32) (harg15 : arg15.IsWhole) (arg16 : Memref sig
  .tc .vmem S1x8x512 .f32) (harg16 : arg16.IsWhole) (arg17 : Memref sig .tc .vmem S1x1x6144 .f32) (harg17 :
  arg17.IsWhole) (arg18 : Memref sig .tc .vmem S1x512 .f32) (harg18 : arg18.IsWhole) (arg19 : Memref sig .tc .vmem
  S1x1024 .f32) (harg19 : arg19.IsWhole) (arg20 : Memref sig .tc .vmem S1x1024 .f32) (harg20 : arg20.IsWhole) (arg21 :
  Memref sig .tc .vmem S1024x1024 .bf16) (harg21 : arg21.IsWhole) (arg22 : Memref sig .tc .vmem S1024x5632 .bf16)
  (harg22 : arg22.IsWhole) (arg23 : Memref sig .tc .vmem S8x2816 .f32) (harg23 : arg23.IsWhole) (arg24 : Memref sig
  .tc .vmem S1x2816 .f32) (harg24 : arg24.IsWhole) (arg25 : Memref sig .tc .vmem S2816x1024 .bf16) (harg25 :
  arg25.IsWhole) (arg26 : Memref sig .tc .vmem S1x512x1024 .f32) (harg26 : arg26.IsWhole) (arg27 : Memref sig .tc
  .vmem S6x528x256 .f32) (harg27 : arg27.IsWhole) (x0 : Vec Ideal S1x8x1024 .f32) (x1 : Vec Ideal S1x512x1024 .f32)
  (x2 : Vec Ideal S1x8x1024 .f32) (x3 : Vec Ideal S1x8x512 .f32) (x4 : Vec Ideal S1x512x512 .f32) (x5 : Vec Ideal
  S1x8x512 .f32) (x6 : Vec Ideal S1x8x512 .f32) (x7 : Vec Ideal S1x512x512 .f32) (x8 : Vec Ideal S1x8x512 .f32) (x9 :
  Vec Ideal S1x8x512 .f32) (x10 : Vec Ideal S1x512x512 .f32) (x11 : Vec Ideal S1x8x512 .f32) (x12 : Vec Ideal S1x8x512
  .f32) (x13 : Vec Ideal S1x512x512 .f32) (x14 : Vec Ideal S1x8x512 .f32) (x15 : Vec Ideal S1x1x6144 .f32) (x16 : Vec
  Ideal S1x512 .f32) (x17 : Vec Ideal S1x1024 .f32) (x18 : Vec Ideal S1x1024 .f32) (x19 : Vec Ideal S1024x1024 .bf16)
  (x20 : Vec Ideal S1024x5632 .bf16) (x21 : Vec Ideal S8x2816 .f32) (x22 : Vec Ideal S1x2816 .f32) (x23 : Vec Ideal
  S2816x1024 .bf16)

/-- The stream after the output projection. -/
theorem word_stream (e : Fin 528) (d : Fin 1024) :
    (bodyRun.sl.r_14 c arg2 harg2 arg3 harg3 arg4 harg4 arg5 harg5 arg6 harg6 arg7 harg7 arg8 harg8 arg9 harg9 arg10
      harg10 arg11 harg11 arg12 harg12 arg13 harg13 arg14 harg14 arg15 harg15 arg16 harg16 arg17 harg17 arg18 harg18
      arg21 harg21 x0 x1 x2 x3 x4 x5 x6 x7 x8 x9 x10 x11 x12 x13 x14 x15 x16 x19) (ix2 e d)
      = stream (blockPar x15 x16 x17 x18 x19 x20 x21 x22 x23)
          (blockRow x0 x1 x2 x3 x4 x5 x6 x7 x8 x9 x10 x11 x12 x13 x14 e) d := by
  unfold bodyRun.sl.r_14 bodyRun.sl.r bodyRun.sl.r_7 bodyRun.sl.r_11 bodyRun.sl.r_12 bodyRun.sl.r_13 bodyRun.sl.r_8
    bodyRun.sl.r_9 bodyRun.sl.r_10 bodyRun.sl.r_6 bodyRun.sl.r_5 bodyRun.sl.r_4
  simp only [View.readAt_eq_ld, View.ld_unit, harg2.read_unread, harg3.read_unread, harg4.read_unread, harg5.read_unread,
    harg6.read_unread, harg7.read_unread, harg8.read_unread, harg9.read_unread, harg10.read_unread,
    harg11.read_unread, harg12.read_unread, harg13.read_unread, harg14.read_unread, harg15.read_unread,
    harg16.read_unread, harg17.read_unread, harg18.read_unread,
    harg21.read_unread]
  refine stream_eq (blockPar x15 x16 x17 x18 x19 x20 x21 x22 x23)
    (blockRow x0 x1 x2 x3 x4 x5 x6 x7 x8 x9 x10 x11 x12 x13 x14) _ _ _ _ _ _ _ _ _ _ _ _ ?_ ?_ ?_ ?_ ?_ ?_ ?_ ?_ ?_ ?_ e d
  · intro e j; pointwise [k0_pay7]; rfl
  · intro e j; pointwise [k0_pay8]; rfl
  · intro e j; pointwise [k0_pay9]; rfl
  · intro d; pointwise [k0_pay3, k0_pay2]; rfl
  · intro e d; pointwise; rfl
  · intro t; pointwise; rfl
  · intro t; pointwise; rfl
  · intro t; pointwise; rfl
  · intro t; pointwise; rfl
  · intro k d; pointwise; rfl
/-- The feed-forward's input, over the stacked rows. -/
theorem word_hidden (e : Fin 528) (d : Fin 1024) :
    (bodyRun.sl.r_16 c arg2 harg2 arg3 harg3 arg4 harg4 arg5 harg5 arg6 harg6 arg7 harg7 arg8 harg8 arg9 harg9 arg10
      harg10 arg11 harg11 arg12 harg12 arg13 harg13 arg14 harg14 arg15 harg15 arg16 harg16 arg17 harg17 arg18 harg18
      arg19 harg19 arg21 harg21 x0 x1 x2 x3 x4 x5 x6 x7 x8 x9 x10 x11 x12 x13 x14 x15 x16 x17 x19) (ix2 e d)
      = hidden (blockPar x15 x16 x17 x18 x19 x20 x21 x22 x23)
          (blockRow x0 x1 x2 x3 x4 x5 x6 x7 x8 x9 x10 x11 x12 x13 x14 e) d := by
  unfold bodyRun.sl.r_16
  refine hidden_eq (blockPar x15 x16 x17 x18 x19 x20 x21 x22 x23)
    (blockRow x0 x1 x2 x3 x4 x5 x6 x7 x8 x9 x10 x11 x12 x13 x14) _ _ _ _ _
    (word_stream c arg2 harg2 arg3 harg3 arg4 harg4 arg5 harg5 arg6 harg6 arg7 harg7 arg8 harg8 arg9 harg9 arg10 harg10 arg11
      harg11 arg12 harg12 arg13 harg13 arg14 harg14 arg15 harg15 arg16 harg16 arg17 harg17 arg18 harg18 arg21 harg21
      x0 x1 x2 x3 x4 x5 x6 x7 x8 x9 x10 x11 x12 x13 x14 x15 x16 x17 x18 x19 x20 x21 x22 x23) ?_ ?_ ?_ ?_ e d
  · intro e d; unfold bodyRun.sl.r_15 bodyRun.sl.r_14; pointwise [k0_pay18]
  · intro d; unfold bodyRun.sl.r_1; simp only [View.readAt_eq_ld, View.ld_unit, harg17.read_unread]; pointwise [k0_pay4, k0_pay2]; rfl
  · intro d; unfold bodyRun.sl.r_2; simp only [View.readAt_eq_ld, View.ld_unit, harg17.read_unread]; pointwise [k0_pay5, k0_pay2]; rfl
  · intro d; simp only [View.readAt_eq_ld, View.ld_unit, harg19.read_unread]; pointwise; rfl

/-- The feed-forward's input, of the block's own rows. -/
theorem word_hidden_mid (r : Fin 512) (d : Fin 1024) :
    (bodyRun.sl.r_17 c arg2 harg2 arg3 harg3 arg4 harg4 arg5 harg5 arg6 harg6 arg7 harg7 arg8 harg8 arg9 harg9 arg10
      harg10 arg11 harg11 arg12 harg12 arg13 harg13 arg14 harg14 arg15 harg15 arg16 harg16 arg17 harg17 arg18 harg18
      arg19 harg19 arg21 harg21 x0 x1 x2 x3 x4 x5 x6 x7 x8 x9 x10 x11 x12 x13 x14 x15 x16 x17 x19) (ix2 r d)
      = hidden (blockPar x15 x16 x17 x18 x19 x20 x21 x22 x23)
          (blockRow x0 x1 x2 x3 x4 x5 x6 x7 x8 x9 x10 x11 x12 x13 x14 ⟨8 + r.val, by omega⟩) d := by
  unfold bodyRun.sl.r_17
  refine hidden_mid_eq (blockPar x15 x16 x17 x18 x19 x20 x21 x22 x23)
    (blockRow x0 x1 x2 x3 x4 x5 x6 x7 x8 x9 x10 x11 x12 x13 x14) _ _ _ _ _
    (word_stream c arg2 harg2 arg3 harg3 arg4 harg4 arg5 harg5 arg6 harg6 arg7 harg7 arg8 harg8 arg9 harg9 arg10 harg10 arg11
      harg11 arg12 harg12 arg13 harg13 arg14 harg14 arg15 harg15 arg16 harg16 arg17 harg17 arg18 harg18 arg21 harg21
      x0 x1 x2 x3 x4 x5 x6 x7 x8 x9 x10 x11 x12 x13 x14 x15 x16 x17 x18 x19 x20 x21 x22 x23) ?_ ?_ ?_ ?_ r d
  · intro e d; unfold bodyRun.sl.r_15 bodyRun.sl.r_14; pointwise [k0_pay18]
  · intro d; unfold bodyRun.sl.r_1; simp only [View.readAt_eq_ld, View.ld_unit, harg17.read_unread]; pointwise [k0_pay4, k0_pay2]; rfl
  · intro d; unfold bodyRun.sl.r_2; simp only [View.readAt_eq_ld, View.ld_unit, harg17.read_unread]; pointwise [k0_pay5, k0_pay2]; rfl
  · intro d; simp only [View.readAt_eq_ld, View.ld_unit, harg19.read_unread]; pointwise; rfl

/-- The stream after the feed-forward. -/
theorem word_stream2 (r : Fin 512) (d : Fin 1024) :
    (bodyRun.sl.r_74 c i arg2 harg2 arg3 harg3 arg4 harg4 arg5 harg5 arg6 harg6 arg7 harg7 arg8 harg8 arg9 harg9
      arg10 harg10 arg11 harg11 arg12 harg12 arg13 harg13 arg14 harg14 arg15 harg15 arg16 harg16 arg17 harg17 arg18
      harg18 arg19 harg19 arg21 harg21 arg22 harg22 arg23 harg23 arg24 harg24 arg25 harg25 arg27 x0 x1 x2 x3 x4 x5 x6
      x7 x8 x9 x10 x11 x12 x13 x14 x15 x16 x17 x19 x20 x21 x22 x23) (ix2 r d)
      = stream (blockPar x15 x16 x17 x18 x19 x20 x21 x22 x23)
          (blockRow x0 x1 x2 x3 x4 x5 x6 x7 x8 x9 x10 x11 x12 x13 x14 ⟨8 + r.val, by omega⟩) d
        + Par.g2 (blockPar x15 x16 x17 x18 x19 x20 x21 x22 x23) d * ∑ k, summand (blockPar x15 x16 x17 x18 x19 x20 x21 x22 x23)
            (blockRow x0 x1 x2 x3 x4 x5 x6 x7 x8 x9 x10 x11 x12 x13 x14) (bodyRun.sl.r_18 i) (bodyRun.sl.r_19 i) r d k := by
  have hS := (word_stream c arg2 harg2 arg3 harg3 arg4 harg4 arg5 harg5 arg6 harg6 arg7 harg7 arg8 harg8 arg9 harg9 arg10 harg10 arg11
      harg11 arg12 harg12 arg13 harg13 arg14 harg14 arg15 harg15 arg16 harg16 arg17 harg17 arg18 harg18 arg21 harg21
      x0 x1 x2 x3 x4 x5 x6 x7 x8 x9 x10 x11 x12 x13 x14 x15 x16 x17 x18 x19 x20 x21 x22 x23)
  have hH := (word_hidden c arg2 harg2 arg3 harg3 arg4 harg4 arg5 harg5 arg6 harg6 arg7 harg7 arg8 harg8 arg9 harg9 arg10 harg10 arg11
      harg11 arg12 harg12 arg13 harg13 arg14 harg14 arg15 harg15 arg16 harg16 arg17 harg17 arg18 harg18 arg19 harg19
      arg21 harg21 x0 x1 x2 x3 x4 x5 x6 x7 x8 x9 x10 x11 x12 x13 x14 x15 x16 x17 x18 x19 x20 x21 x22 x23)
  have hM := (word_hidden_mid c arg2 harg2 arg3 harg3 arg4 harg4 arg5 harg5 arg6 harg6 arg7 harg7 arg8 harg8 arg9 harg9 arg10 harg10 arg11
      harg11 arg12 harg12 arg13 harg13 arg14 harg14 arg15 harg15 arg16 harg16 arg17 harg17 arg18 harg18 arg19 harg19
      arg21 harg21 x0 x1 x2 x3 x4 x5 x6 x7 x8 x9 x10 x11 x12 x13 x14 x15 x16 x17 x18 x19 x20 x21 x22 x23)
  generalize hP : (blockPar x15 x16 x17 x18 x19 x20 x21 x22 x23) = P at hS hH hM ⊢
  generalize hR : (blockRow x0 x1 x2 x3 x4 x5 x6 x7 x8 x9 x10 x11 x12 x13 x14) = R at hS hH hM ⊢
  have hw : ∀ k c, P.wu k c = x20 (ix2 k c) := fun k c => by rw [← hP]; rfl
  simp only [bodyRun.sl.r_74, bodyRun.sl.r_71, bodyRun.sl.r_72, bodyRun.sl.r_73, bodyRun.sl.r_70, bodyRun.sl.r_68,
    bodyRun.sl.r_69, bodyRun.sl.r_67, bodyRun.sl.r_65, bodyRun.sl.r_66, bodyRun.sl.r_64, bodyRun.sl.r_63,
    bodyRun.sl.r_60, bodyRun.sl.r_61, bodyRun.sl.r_62, bodyRun.sl.r_59, bodyRun.sl.r_57, bodyRun.sl.r_58,
    bodyRun.sl.r_56, bodyRun.sl.r_54, bodyRun.sl.r_55, bodyRun.sl.r_53, bodyRun.sl.r_52, bodyRun.sl.r_49,
    bodyRun.sl.r_50, bodyRun.sl.r_48, bodyRun.sl.r_44, bodyRun.sl.r_45, bodyRun.sl.r_46, bodyRun.sl.r_43,
    bodyRun.sl.r_40, bodyRun.sl.r_41, bodyRun.sl.r_39, bodyRun.sl.r_34, bodyRun.sl.r_35, bodyRun.sl.r_36,
    bodyRun.sl.r_37, bodyRun.sl.r_33, bodyRun.sl.r_30, bodyRun.sl.r_27, bodyRun.sl.r_28, bodyRun.sl.r_29, bodyRun.sl.cst_133]
  rw [chunk10 P R _ _ (o := 2560) (ho := by decide), chunk9 P R _ _ (o := 2304) (ho := by decide),
    chunk8 P R _ _ (o := 2048) (ho := by decide), chunk7 P R _ _ (o := 1792) (ho := by decide),
    chunk6 P R _ _ (o := 1536) (ho := by decide), chunk5 P R _ _ (o := 1280) (ho := by decide),
    chunk4 P R _ _ (o := 1024) (ho := by decide), chunk3 P R _ _ (o := 768) (ho := by decide),
    chunk2 P R _ _ (o := 512) (ho := by decide), chunk1 P R _ _ (o := 256) (ho := by decide),
    chunk0 P R _ _ (o := 0) (ho := by decide), hS, sum_chunks]
  · have hg : bodyRun.sl.r_3 c arg17 harg17 x15 (ix2 0 d) = P.g2 d := by
      rw [← hP]
      simp only [bodyRun.sl.r_3, View.readAt_eq_ld, View.ld_unit, harg17.read_unread]
      pointwise [k0_pay6, k0_pay2]
      rfl
    rw [hg]
    rfl
  all_goals
    have hH' := hH
    simp only [bodyRun.sl.r_16] at hH'
    refine ⟨fun r k => ?_, fun r k => ?_, fun r k => ?_, fun r k => ?_, fun k => ?_, fun k => ?_, fun k => ?_, fun k => ?_,
      fun k d => ?_⟩
    · simp only [bodyRun.sl.r_21, bodyRun.sl.r_20, bodyRun.sl.r_22, bodyRun.sl.r_23, bodyRun.sl.r_24, bodyRun.sl.r_25,
    bodyRun.sl.r_26, bodyRun.sl.r_32, bodyRun.sl.r_38, bodyRun.sl.r_42, bodyRun.sl.r_47, bodyRun.sl.r_51, value_reads, hM, up]
      refine Finset.sum_congr rfl fun x _ => ?_
      simp only [hw, View.readAt_eq_ld, View.ld_unit, harg22.read_unread]
      pointwise
      first
        | done
        | exact congrArg _ (congrArg _ (congrArg _ (Fin.ext (by simp only; omega))))
    iterate 3
      · simp (disch := decide) only [bodyRun.sl.v244, bodyRun.sl.v251, bodyRun.sl.v264, bodyRun.sl.v301, bodyRun.sl.v308, bodyRun.sl.v321,
    bodyRun.sl.v359, bodyRun.sl.v366, bodyRun.sl.v379, bodyRun.sl.v417, bodyRun.sl.v424, bodyRun.sl.v437,
    bodyRun.sl.v475, bodyRun.sl.v482, bodyRun.sl.v495, bodyRun.sl.v533, bodyRun.sl.v540, bodyRun.sl.v553,
    bodyRun.sl.v582, bodyRun.sl.v589, bodyRun.sl.v602, bodyRun.sl.v631, bodyRun.sl.v638, bodyRun.sl.v651,
    bodyRun.sl.v680, bodyRun.sl.v687, bodyRun.sl.v700, bodyRun.sl.v729, bodyRun.sl.v736, bodyRun.sl.v749,
    bodyRun.sl.v778, bodyRun.sl.v785, bodyRun.sl.v798, bodyRun.sl.HS0_11, bodyRun.sl.HS0_10, bodyRun.sl.HS0_9,
    bodyRun.sl.HS0_8, bodyRun.sl.HS0_7, bodyRun.sl.HS0_6, bodyRun.sl.r_31, slot_skip]
        refine (slot_hit _ _ _ (by decide) r k).trans ?_
        simp only [slot_reads, slot_first, hH, hH', upGate, up]
        refine Finset.sum_congr rfl fun x _ => ?_
        simp only [hw, View.readAt_eq_ld, View.ld_unit, harg22.read_unread]
        pointwise
    all_goals
      rw [← hP]
      simp only [View.readAt_eq_ld, View.ld_unit, harg23.read_unread, harg24.read_unread, harg25.read_unread]
      pointwise
      first
        | done
        | rfl

end

end Cert.Proof.Ffn

end
-- ==== Proof.FfnCall.Blocks.lean ====
/- The output array of the output projection + ConvGLU FFN call, block by block: the block a grid point writes back is the
   body's output block at that point, and no other point's block meets it. -/
module

public import proofs.«01_k».proof.Proof.FfnCall.Frame
public import Idealize.ShloMosaic.Lib.Pipeline.Value

@[expose] public section

noncomputable section

namespace Cert.FfnIdeal.Own

open Cert.FfnIdeal Cert.FfnIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- What point `t` writes back: the body's output block, cut to the window. -/
theorem written (c : Dev nD) (t : Fin cfg0.N) :
    (dats m 0 c).flushed 24 t = (cfg0.win 24).cut (grid0.coords t) (outBlock m c t) := by
  show (cfg0.win 24).cut (grid0.coords t) ((dats m 0 c).after 24 t) = _
  rw [after0_24]

/-- Distinct grid points write distinct blocks. -/
theorem index_inj : ∀ t t' : Fin cfg0.N, win0_24.index t = win0_24.index t' → t = t' :=
  (by decide +kernel : ∀ t t' : Fin grid0.N, win0_24.index t = win0_24.index t' → t = t')

/-- Block `t` of the final array, read back through the window, is what point `t` wrote back. -/
theorem block_final (c : Dev nD) (t : Fin cfg0.N) (hf : (cfg0.win 24).flush t = true) :
    ((cfg0.win 24).blk t).view.read (Elt F) ((dats m 0 c).arrAt 24 cfg0.N) = (dats m 0 c).flushed 24 t :=
  (dats m 0 c).read_blk_arrAt_eq_flushed 24
    (fun t t' _ _ hne => (cfg0.win 24).disjoint_blk fun h => hne (index_inj t t' h)) cfg0.N t t.isLt hf

set_option maxHeartbeats 1000000 in
/-- The run with the output array named: block by block it is `block_final`; the arguments end unchanged. -/
theorem run_blocks : θ_run defs (onTc (τ := τ) (main (F := F))) ⟨m, fun _ => 0, ρ⟩ (fun r =>
      (∀ c : Dev nD, r.2.mem ((c.tc : Thread nD τ).loc main_v8) = (dats m 0 c).arrAt 24 cfg0.N)
      ∧ (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13))) :=
  θ_run_and ((θ_run defs _ _).mono (fun _ h c => (h c).1 24) (run_main m ρ)) (unchanged m ρ)

end Cert.FfnIdeal.Own

end
-- ==== Proof.FfnValue.Block.lean ====
/- The output projection + ConvGLU FFN call, one grid point's output block: what the kernel's run leaves in it, as the result
   of the rows its input blocks hold. -/
module

public import proofs.«01_k».proof.Proof.FfnValue.Words
public import proofs.«01_k».proof.Proof.FfnCall.Blocks
public import Idealize.ShloMosaic.Lib.Pipeline.ReadBack

@[expose] public section

set_option maxRecDepth 100000
set_option maxHeartbeats 4000000

noncomputable section

namespace Cert.Proof.Ffn

open Idealize.ShloMosaic Idealize.ShloMosaic.TcCoe Cert.FfnIdeal Cert.FfnIdeal.Gen Cert.FfnIdeal.Own

variable (m : (ℓ : Loc nD τ sig) → Buf (Elt Ideal) ℓ) (c : Dev nD) (t : Fin cfg0.N)

/-- The rows' squares are summed over the stream's own row. -/
theorem row_squares (a : FVec Ideal S1x1024 .f32) (s : FVec Ideal S528x1024 .f32) (v : FVec Ideal S512x256 .f32)
    (acc : FVec Ideal S512x1024 .f32) (p n : FVec Ideal S512x256 .f32) (w0 w1 : Vec Ideal S1x256 .f32)
    (cu : Vec Ideal S512x256 .f32) (w2 b : Vec Ideal S1x256 .f32) (wd : Vec Ideal S256x1024 .bf16) (r : Fin 512) :
    k0_pay87 a s v acc p n w0 w1 cu w2 b wd (ix2 r 0)
      = ∑ k, k0_pay86 a s v acc p n w0 w1 cu w2 b wd (ix2 r k) * k0_pay86 a s v acc p n w0 w1 cu w2 b wd (ix2 r k) := by
  pointwise [k0_pay87]

/-- The parameters a grid point's blocks hold. -/
def pointPar : Par :=
  blockPar (iblk m c 15 t) (iblk m c 16 t) (iblk m c 17 t) (iblk m c 18 t) (iblk m c 19 t) (iblk m c 20 t) (iblk m c
    21 t) (iblk m c 22 t) (iblk m c 23 t)

/-- The rows a grid point's blocks hold: eight before its own 512, and eight after. -/
def pointRow : Fin 528 → Row :=
  blockRow (iblk m c 0 t) (iblk m c 1 t) (iblk m c 2 t) (iblk m c 3 t) (iblk m c 4 t) (iblk m c 5 t) (iblk m c 6 t)
    (iblk m c 7 t) (iblk m c 8 t) (iblk m c 9 t) (iblk m c 10 t) (iblk m c 11 t) (iblk m c 12 t) (iblk m c 13 t) (iblk
    m c 14 t)

/-- A grid point's output block. -/
theorem outBlock_eq (r : Fin 512) (d : Fin 1024) :
    outBlock m c t (ix3 0 r d)
      = result (pointPar m c t) (before (pointPar m c t) (pointRow m c t) (bodyRun.sl.r_18 (grid0.coords t)) r)
          (pointRow m c t ⟨8 + r.val, by omega⟩)
          (after (pointPar m c t) (pointRow m c t) (bodyRun.sl.r_19 (grid0.coords t)) r) d := by
  unfold outBlock bodyOut
  refine (congrFun (View.read_writes_eq_canon _ _ _ (bodyCover c (grid0.coords t) (ms0_0 t) (hs0_0 t) (ms0_1 t)
    (hs0_1 t) (ms0_2 t) (hs0_2 t) (ms0_3 t) (hs0_3 t) (ms0_4 t) (hs0_4 t) (ms0_5 t) (hs0_5 t) (ms0_6 t) (hs0_6 t)
    (ms0_7 t) (hs0_7 t) (ms0_8 t) (hs0_8 t) (ms0_9 t) (hs0_9 t) (ms0_10 t) (hs0_10 t) (ms0_11 t) (hs0_11 t) (ms0_12 t)
    (hs0_12 t) (ms0_13 t) (hs0_13 t) (ms0_14 t) (hs0_14 t) (ms0_15 t) (hs0_15 t) (ms0_16 t) (hs0_16 t) (ms0_17 t)
    (hs0_17 t) (ms0_18 t) (hs0_18 t) (ms0_19 t) (hs0_19 t) (ms0_20 t) (hs0_20 t) (ms0_21 t) (hs0_21 t) (ms0_22 t)
    (hs0_22 t) (ms0_23 t) (hs0_23 t) _ _ _ _ _ _ _ _ _ _ _ _ _ _ _ _ _ _ _ _ _ _ _ _ _ _ _ _)) _).trans ?_
  unfold bodyRun
  dsimp only
  rw [View.canon_unit_zero (by decide)]
  refine final_eq (fun r d => stream2 (pointPar m c t)
      (before (pointPar m c t) (pointRow m c t) (bodyRun.sl.r_18 (grid0.coords t)) r) (pointRow m c t ⟨8 + r.val, by omega⟩)
      (after (pointPar m c t) (pointRow m c t) (bodyRun.sl.r_19 (grid0.coords t)) r) d) _ _ _ (pointPar m c t).fg ?_ ?_ ?_ r d
  · intro r d
    exact word_stream2 ..
  · intro r
    exact row_squares ..
  · intro d
    simp only [View.readAt_eq_ld, View.ld_unit, (hs0_18 t).read_unread]
    pointwise
    rfl

end Cert.Proof.Ffn

end
-- ==== Proof.FfnValue.Ref.lean ====
/- The reference of the output projection and gated feed-forward call, read at an index: row `n` of batch entry `b` is
   `result` of the row, with its neighbours' gate halves (nothing beyond the ends). -/
module

public import proofs.«01_k».proof.Proof.FfnValue.Spec
public import proofs.«01_k».proof.Proof.Gen.FfnRefIdeal.Read
public import Idealize.ShloMosaic.Lib.KernelVsHost

@[expose] public section

set_option maxRecDepth 65536
set_option maxHeartbeats 1000000

noncomputable section

namespace Cert.Proof.Ffn

open Idealize.ShloMosaic Idealize.ShloMosaic.TcCoe Cert.FfnRefIdeal Cert.FfnRefIdeal.Read

variable (x0 : FVec Ideal S4x8192x1024 .f32) (x1 x2 x3 x4 : FVec Ideal S4x8192x512 .f32) (x5 : FVec Ideal S4x1x6144 .f32)
  (x6 : FVec Ideal S512 .f32) (x7 x8 : FVec Ideal S1024 .f32) (x9 : FVec Ideal S1024x1024 .f32)
  (x10 : FVec Ideal S1024x5632 .f32) (x11 : FVec Ideal S3x2816 .f32) (x12 : FVec Ideal S2816 .f32)
  (x13 : FVec Ideal S2816x1024 .f32)

/-- Batch entry `b`'s parameters. -/
def parOf (b : Fin 4) : Par where
  g1 d := x5 (ix3 b 0 ⟨2048 + d.val, by omega⟩)
  sh d := x5 (ix3 b 0 ⟨3072 + d.val, by omega⟩)
  sc d := x5 (ix3 b 0 ⟨4096 + d.val, by omega⟩)
  g2 d := x5 (ix3 b 0 ⟨5120 + d.val, by omega⟩)
  gn j := x6 (ix1 j)
  n2 d := x7 (ix1 d)
  fg d := x8 (ix1 d)
  wo k d := x9 (ix2 k d)
  wu k c := x10 (ix2 k c)
  dw i k := x11 (ix2 i k)
  db k := x12 (ix1 k)
  wd k d := x13 (ix2 k d)

/-- Row `n` of batch entry `b`. -/
def rowOf (b : Fin 4) (n : Fin 8192) : Row where
  x d := x0 (ix3 b n d)
  y j := x1 (ix3 b n j)
  o j := x2 (ix3 b n j) + x3 (ix3 b n j)
  g j := x4 (ix3 b n j)

/-- A sum over 1024 entries, cut in the middle. -/
theorem sum_halves (f : Fin 1024 → EReal) :
    ∑ k, f k = ∑ x : Fin 512, f ⟨x.val, by omega⟩ + ∑ x : Fin 512, f ⟨512 + x.val, by omega⟩ :=
  Fin.sum_univ_add (a := 512) (b := 512) f

theorem ref_gated (b : Fin 4) (n : Fin 8192) (j : Fin 512) :
    val_main_v24 (F := Ideal) x2 x3 x4 x6 (ix3 b n j)
      = gated (parOf x5 x6 x7 x8 x9 x10 x11 x12 x13 b) (rowOf x0 x1 x2 x3 x4 b n) j := by
  pointwise [val_main_v24, val_main_v23, val_main_call0_v5, val_main_call0_v4, val_main_call0_v3, val_main_call0_v2,
    val_main_call0_v1, val_main_call0_v0, val_main_v22, val_main_v21, val_main_v20, val_main_v19, val_main_v18,
    val_main_v17, val_main_v16, val_main_v15, val_main_v14, val_main_v13, val_main_v12, val_main_v11, val_main_v10,
    val_main_v9, val_main_v8, val_main_v7, val_main_v6, val_main_cst, val_main_cst_0, val_main_cst_1,
    val_main_call0_cst, val_main_call0_cst_0]
  rfl

theorem ref_stream (b : Fin 4) (n : Fin 8192) (d : Fin 1024) :
    val_main_v29 (F := Ideal) x0 x1 x2 x3 x4 x5 x6 x9 (ix3 b n d)
      = stream (parOf x5 x6 x7 x8 x9 x10 x11 x12 x13 b) (rowOf x0 x1 x2 x3 x4 b n) d := by
  pointwise [val_main_v29, val_main_v28, val_main_v27, val_main_v26, val_main_v25, val_main_v2]
  simp only [ref_gated x0 x1 x2 x3 x4 x5 x6 x7 x8 x9 x10 x11 x12 x13]
  unfold stream
  rw [sum_halves]
  have e1 : ∀ x : Fin 512, mixed (parOf x5 x6 x7 x8 x9 x10 x11 x12 x13 b) (rowOf x0 x1 x2 x3 x4 b n) ⟨x.val, by omega⟩
      = x1 (ix3 b n x) := fun x => dif_pos x.isLt
  have e2 : ∀ x : Fin 512, mixed (parOf x5 x6 x7 x8 x9 x10 x11 x12 x13 b) (rowOf x0 x1 x2 x3 x4 b n)
      ⟨512 + x.val, by omega⟩ = gated (parOf x5 x6 x7 x8 x9 x10 x11 x12 x13 b) (rowOf x0 x1 x2 x3 x4 b n) x := fun x => by
    unfold mixed
    rw [dif_neg (by simp)]
    congr 1
    exact Fin.ext (by simp)
  simp only [e1, e2]
  rfl

theorem ref_hidden (b : Fin 4) (n : Fin 8192) (d : Fin 1024) :
    val_main_v48 (F := Ideal) x0 x1 x2 x3 x4 x5 x6 x7 x9 (ix3 b n d)
      = hidden (parOf x5 x6 x7 x8 x9 x10 x11 x12 x13 b) (rowOf x0 x1 x2 x3 x4 b n) d := by
  pointwise [val_main_v48, val_main_v47, val_main_v46, val_main_v45, val_main_v44, val_main_v43, val_main_v42,
    val_main_v41, val_main_v40, val_main_v39, val_main_v38, val_main_v37, val_main_v36, val_main_v35, val_main_v34,
    val_main_v33, val_main_v32, val_main_v31, val_main_v30, val_main_v3, val_main_v4, val_main_cst_2, val_main_cst_3,
    val_main_cst_4, val_main_cst_5]
  simp only [ref_stream x0 x1 x2 x3 x4 x5 x6 x7 x8 x9 x10 x11 x12 x13]
  rfl

theorem ref_up (b : Fin 4) (n : Fin 8192) (c : Fin 5632) :
    val_main_v49 (F := Ideal) x0 x1 x2 x3 x4 x5 x6 x7 x9 x10 (ix3 b n c)
      = up (parOf x5 x6 x7 x8 x9 x10 x11 x12 x13 b) (rowOf x0 x1 x2 x3 x4 b n) c := by
  pointwise [val_main_v49]
  simp only [ref_hidden x0 x1 x2 x3 x4 x5 x6 x7 x8 x9 x10 x11 x12 x13]
  rfl

/-- The gate half of the row before `n`, nothing before the first. -/
def prevGate (b : Fin 4) (n : Fin 8192) (k : Fin 2816) : EReal :=
  if 1 ≤ n.val then upGate (parOf x5 x6 x7 x8 x9 x10 x11 x12 x13 b)
    (rowOf x0 x1 x2 x3 x4 b ⟨n.val - 1, by omega⟩) k else 0

/-- The gate half of the row after `n`, nothing after the last. -/
def nextGate (b : Fin 4) (n : Fin 8192) (k : Fin 2816) : EReal :=
  if h : n.val + 1 < 8192 then upGate (parOf x5 x6 x7 x8 x9 x10 x11 x12 x13 b)
    (rowOf x0 x1 x2 x3 x4 b ⟨n.val + 1, h⟩) k else 0

theorem ref_act (b : Fin 4) (n : Fin 8192) (k : Fin 2816) :
    val_main_v77 (F := Ideal) x0 x1 x2 x3 x4 x5 x6 x7 x9 x10 x11 x12 (ix3 b n k)
      = act (parOf x5 x6 x7 x8 x9 x10 x11 x12 x13 b) (prevGate x0 x1 x2 x3 x4 x5 x6 x7 x8 x9 x10 x11 x12 x13 b n)
          (rowOf x0 x1 x2 x3 x4 b n) (nextGate x0 x1 x2 x3 x4 x5 x6 x7 x8 x9 x10 x11 x12 x13 b n) k := by
  pointwise [val_main_v77, val_main_v76, val_main_call2_v5, val_main_call2_v4, val_main_call2_v3, val_main_call2_v2,
    val_main_call2_v1, val_main_call2_v0, val_main_v75, val_main_v74, val_main_v73, val_main_v72, val_main_v71,
    val_main_v70, val_main_v69, val_main_v68, val_main_v67, val_main_v66, val_main_v65, val_main_v64, val_main_v63,
    val_main_v62, val_main_v61, val_main_v60, val_main_v59, val_main_v58, val_main_v57, val_main_v56, val_main_v55,
    val_main_v54, val_main_v53, val_main_v52, val_main_v51, val_main_v50, val_main_call1_v0, val_main_call2_cst,
    val_main_call2_cst_0]
  simp only [ref_up x0 x1 x2 x3 x4 x5 x6 x7 x8 x9 x10 x11 x12 x13]
  have hp : (if h : 1 ≤ n.val ∧ n.val - 1 < 8192 then up (parOf x5 x6 x7 x8 x9 x10 x11 x12 x13 b)
      (rowOf x0 x1 x2 x3 x4 b ⟨n.val - 1, by omega⟩) ⟨k.val, by omega⟩ else 0)
      = prevGate x0 x1 x2 x3 x4 x5 x6 x7 x8 x9 x10 x11 x12 x13 b n k := by
    unfold prevGate upGate
    by_cases h : 1 ≤ n.val
    · rw [dif_pos ⟨h, by omega⟩, if_pos h]
    · rw [dif_neg (by omega), if_neg h]
  have hn : (if h : 1 ≤ 2 + n.val ∧ 2 + n.val - 1 < 8192 then up (parOf x5 x6 x7 x8 x9 x10 x11 x12 x13 b)
      (rowOf x0 x1 x2 x3 x4 b ⟨2 + n.val - 1, by omega⟩) ⟨k.val, by omega⟩ else 0)
      = nextGate x0 x1 x2 x3 x4 x5 x6 x7 x8 x9 x10 x11 x12 x13 b n k := by
    unfold nextGate upGate
    by_cases h : n.val + 1 < 8192
    · rw [dif_pos ⟨by omega, by omega⟩, dif_pos h]
      congr 2
      exact Fin.ext (by simp; omega)
    · rw [dif_neg (by omega), dif_neg h]
  have hz : FloatOps.sitofp (F := Ideal) FTy.f32 (val_main_c (F := Ideal) (Shape.Idx.first Gen.h_S_)) = 0 := by
    pointwise [val_main_c]
    exact sitofp_zero
  simp only [hz, hp, hn]
  rfl

theorem ref_stream2 (b : Fin 4) (n : Fin 8192) (d : Fin 1024) :
    val_main_v81 (F := Ideal) x0 x1 x2 x3 x4 x5 x6 x7 x9 x10 x11 x12 x13 (ix3 b n d)
      = stream2 (parOf x5 x6 x7 x8 x9 x10 x11 x12 x13 b) (prevGate x0 x1 x2 x3 x4 x5 x6 x7 x8 x9 x10 x11 x12 x13 b n)
          (rowOf x0 x1 x2 x3 x4 b n) (nextGate x0 x1 x2 x3 x4 x5 x6 x7 x8 x9 x10 x11 x12 x13 b n) d := by
  pointwise [val_main_v81, val_main_v80, val_main_v79, val_main_v78, val_main_v5]
  simp only [ref_stream x0 x1 x2 x3 x4 x5 x6 x7 x8 x9 x10 x11 x12 x13,
    ref_act x0 x1 x2 x3 x4 x5 x6 x7 x8 x9 x10 x11 x12 x13]
  rfl

/-- The reference's result at row `n` of batch entry `b`. -/
theorem ref_result (b : Fin 4) (n : Fin 8192) (d : Fin 1024) :
    val_main_v94 (F := Ideal) x0 x1 x2 x3 x4 x5 x6 x7 x8 x9 x10 x11 x12 x13 (ix3 b n d)
      = result (parOf x5 x6 x7 x8 x9 x10 x11 x12 x13 b) (prevGate x0 x1 x2 x3 x4 x5 x6 x7 x8 x9 x10 x11 x12 x13 b n)
          (rowOf x0 x1 x2 x3 x4 b n) (nextGate x0 x1 x2 x3 x4 x5 x6 x7 x8 x9 x10 x11 x12 x13 b n) d := by
  pointwise [val_main_v94, val_main_v93, val_main_v92, val_main_v91, val_main_v90, val_main_v89, val_main_v88,
    val_main_v87, val_main_v86, val_main_v85, val_main_v84, val_main_v83, val_main_v82, val_main_cst_6, val_main_cst_7,
    val_main_cst_8]
  simp only [ref_stream2 x0 x1 x2 x3 x4 x5 x6 x7 x8 x9 x10 x11 x12 x13]
  rfl

end Cert.Proof.Ffn

end
-- ==== Proof.FfnValue.Arrays.lean ====
/- The output projection + ConvGLU FFN call, block by block in terms of the arguments: the rows and parameters a grid point's
   blocks hold, the masks at the sequence's ends, and the whole result array. -/
module

public import proofs.«01_k».proof.Proof.FfnValue.Block
public import proofs.«01_k».proof.Proof.FfnValue.Ref
public import Idealize.ShloMosaic.Lib.Pipeline.ValueKit
public import Idealize.ShloMosaic.Lib.StableHlo.ReadAt
public import Idealize.ShloMosaic.Lib.KernelVsHost

@[expose] public section

set_option maxRecDepth 65536
set_option maxHeartbeats 4000000

noncomputable section

namespace Cert.Proof.Ffn

open Idealize.ShloMosaic Idealize.ShloMosaic.TcCoe Cert.FfnIdeal Cert.FfnIdeal.Gen Cert.FfnIdeal.Own

variable (m : (ℓ : Loc nD τ sig) → Buf (Elt Ideal) ℓ) (c : Dev nD) (t : Fin cfg0.N)

/-- Where every window stands at a grid point. -/
theorem places : ∀ t : Fin grid0.N, win0_0.index t = ![(grid0.coords t 0).val, 64 * (grid0.coords t 1).val - 1, 0]
    ∧ win0_1.index t = ![(grid0.coords t 0).val, (grid0.coords t 1).val, 0]
    ∧ win0_2.index t = ![(grid0.coords t 0).val, min (64 * ((grid0.coords t 1).val + 1)) 1023, 0]
    ∧ win0_3.index t = ![(grid0.coords t 0).val, 64 * (grid0.coords t 1).val - 1, 0]
    ∧ win0_4.index t = ![(grid0.coords t 0).val, (grid0.coords t 1).val, 0]
    ∧ win0_5.index t = ![(grid0.coords t 0).val, min (64 * ((grid0.coords t 1).val + 1)) 1023, 0]
    ∧ win0_6.index t = ![(grid0.coords t 0).val, 64 * (grid0.coords t 1).val - 1, 0]
    ∧ win0_7.index t = ![(grid0.coords t 0).val, (grid0.coords t 1).val, 0]
    ∧ win0_8.index t = ![(grid0.coords t 0).val, min (64 * ((grid0.coords t 1).val + 1)) 1023, 0]
    ∧ win0_9.index t = ![(grid0.coords t 0).val, 64 * (grid0.coords t 1).val - 1, 0]
    ∧ win0_10.index t = ![(grid0.coords t 0).val, (grid0.coords t 1).val, 0]
    ∧ win0_11.index t = ![(grid0.coords t 0).val, min (64 * ((grid0.coords t 1).val + 1)) 1023, 0]
    ∧ win0_12.index t = ![(grid0.coords t 0).val, 64 * (grid0.coords t 1).val - 1, 0]
    ∧ win0_13.index t = ![(grid0.coords t 0).val, (grid0.coords t 1).val, 0]
    ∧ win0_14.index t = ![(grid0.coords t 0).val, min (64 * ((grid0.coords t 1).val + 1)) 1023, 0]
    ∧ win0_15.index t = ![(grid0.coords t 0).val, 0, 0]
    ∧ win0_16.index t = ![0, 0]
    ∧ win0_17.index t = ![0, 0]
    ∧ win0_18.index t = ![0, 0]
    ∧ win0_19.index t = ![0, 0]
    ∧ win0_20.index t = ![0, 0]
    ∧ win0_21.index t = ![0, 0]
    ∧ win0_22.index t = ![0, 0]
    ∧ win0_23.index t = ![0, 0]
    ∧ win0_24.index t = ![(grid0.coords t 0).val, (grid0.coords t 1).val, 0] := by
  decide +kernel

/-- The grid point's batch entry. -/
def batch : Fin 4 := ⟨(grid0.coords t 0).val, (grid0.coords t 0).isLt⟩

/-- The grid point's tile of the sequence. -/
def tile : Fin 16 := ⟨(grid0.coords t 1).val, (grid0.coords t 1).isLt⟩

/-- An argument of the call. -/
abbrev A (b : Ref sig .tc) : Buf (Elt Ideal) ((c.tc : Thread nD τ).loc b) := m ((c.tc : Thread nD τ).loc b)

/-- What the call reads of an argument the host lays out anew. -/
theorem entry_v1 (j : Fin 512) : V m c main_v1 (ix2 0 j) = A m c main_arg6 (ix1 j) := by
  unfold V
  after_reads_at

/-- What the call reads of an argument the host lays out anew. -/
theorem entry_v2 (j : Fin 1024) : V m c main_v2 (ix2 0 j) = A m c main_arg7 (ix1 j) := by
  unfold V
  after_reads_at

/-- What the call reads of an argument the host lays out anew. -/
theorem entry_v3 (j : Fin 1024) : V m c main_v3 (ix2 0 j) = A m c main_arg8 (ix1 j) := by
  unfold V
  after_reads_at

/-- What the call reads of an argument the host lays out anew. -/
theorem entry_v6 (j : Fin 2816) : V m c main_v6 (ix2 0 j) = A m c main_arg12 (ix1 j) := by
  unfold V
  after_reads_at

/-- The convolution's three rows of weights among the eight the call reads. -/
theorem entry_v0 (i : Fin 3) (k : Fin 2816) : V m c main_v0 (ix2 ⟨i.val, by omega⟩ k) = A m c main_arg11 (ix2 i k) := by
  unfold V
  after_reads_at

/-- The parameters a grid point's blocks hold are its batch entry's. -/
theorem pointPar_eq : pointPar m c t = parOf (A m c main_arg5) (A m c main_arg6) (A m c main_arg7) (A m c main_arg8) (A m c main_arg9) (A m c main_arg10) (A
      m c main_arg11) (A m c main_arg12) (A m c main_arg13) (batch t) := by
  unfold pointPar blockPar parOf
  congr 1
  all_goals (first | funext i k | funext i)
  case e_gn =>
    refine (congrArg (V m c main_v1) (?_ : (win0_16.blk t).view.emb (ix2 0 i) = ix2 0 i)).trans (entry_v1 m c i)
    blk_ext [places t]
  case e_n2 =>
    refine (congrArg (V m c main_v2) (?_ : (win0_17.blk t).view.emb (ix2 0 i) = ix2 0 i)).trans (entry_v2 m c i)
    blk_ext [places t]
  case e_fg =>
    refine (congrArg (V m c main_v3) (?_ : (win0_18.blk t).view.emb (ix2 0 i) = ix2 0 i)).trans (entry_v3 m c i)
    blk_ext [places t]
  case e_db =>
    refine (congrArg (V m c main_v6) (?_ : (win0_22.blk t).view.emb (ix2 0 i) = ix2 0 i)).trans (entry_v6 m c i)
    blk_ext [places t]
  case e_dw =>
    refine (congrArg (V m c main_v0) (?_ : (win0_21.blk t).view.emb (ix2 ⟨i.val, by omega⟩ k) = ix2 ⟨i.val, by omega⟩ k)).trans (entry_v0 m c i k)
    blk_ext [places t]
  all_goals blk_ext [iblk, V, places t, batch]

/-- The rows a grid point's blocks hold, away from the sequence's ends, are the argument's. -/
theorem pointRow_eq (e : Fin 528) (n : Fin 8192) (h : 512 * (tile t).val + e.val = n.val + 8) :
    pointRow m c t e = rowOf (A m c main_arg0) (A m c main_arg1) (A m c main_arg2) (A m c main_arg3) (A m c main_arg4) (batch t) n := by
  unfold pointRow blockRow rowOf stack
  have hi := places t
  have ht : (tile t).val = (grid0.coords t 1).val := rfl
  have hb : (batch t).val = (grid0.coords t 0).val := rfl
  have hn := n.isLt
  have he := e.isLt
  have hl := (tile t).isLt
  congr 1
  all_goals funext i
  case e_o =>
    congr 1
    all_goals
      split
      · blk_ext [iblk, V, hi, hb]
      split
      · blk_ext [iblk, V, hi, hb]
      · blk_ext [iblk, V, hi, hb]
  all_goals
    split
    · blk_ext [iblk, V, hi, hb]
    split
    · blk_ext [iblk, V, hi, hb]
    · blk_ext [iblk, V, hi, hb]

end Cert.Proof.Ffn

end
-- ==== Proof.FfnValue.Final.lean ====
/- The output projection + ConvGLU FFN call's result array at the ideal floats: at every index it is the reference's result, so
   the call and the reference agree. -/
module

public import proofs.«01_k».proof.Defs
public import proofs.«01_k».proof.Proof.FfnValue.Arrays
public import proofs.«01_k».proof.Proof.Gen.FfnRefIdeal.Run

@[expose] public section

set_option maxRecDepth 65536
set_option maxHeartbeats 4000000

noncomputable section

namespace Cert.Proof.Ffn

open Idealize.ShloMosaic Idealize.ShloMosaic.TcCoe Idealize.SL.Sem Cert.FfnIdeal Cert.FfnIdeal.Gen Cert.FfnIdeal.Own

variable (m : (ℓ : Loc nD τ sig) → Buf (Elt Ideal) ℓ) (ρ : Dev nD → PrngReg) (c : Dev nD) (t : Fin cfg0.N)

/-- The mask of the first row of the sequence. -/
theorem mask_first (r : Fin 512) :
    bodyRun.sl.r_18 (grid0.coords t) (ix2 r 0) = if r.val = 0 ∧ (tile t).val = 0 then 1#1 else 0#1 := by
  have h : ∀ (r : Fin 512) (i : Fin 16), IntOp.andi (IntOp.cmpi CmpIPredicate.eq (BitVec.ofNat 32 r.val) 0#32)
      (Scalar.cmpi CmpIPredicate.eq (BitVec.ofNat 32 i.val) 0#32) = if r.val = 0 ∧ i.val = 0 then 1#1 else 0#1 := by
    decide +kernel
  unfold bodyRun.sl.r_18
  pointwise [k0_pay22]
  exact h r (tile t)

/-- The mask of the last row of the sequence. -/
theorem mask_last (r : Fin 512) :
    bodyRun.sl.r_19 (grid0.coords t) (ix2 r 0) = if r.val = 511 ∧ (tile t).val = 15 then 1#1 else 0#1 := by
  have h : ∀ (r : Fin 512) (i : Fin 16), IntOp.andi (IntOp.cmpi CmpIPredicate.eq (BitVec.ofNat 32 r.val) 511#32)
      (Scalar.cmpi CmpIPredicate.eq (BitVec.ofNat 32 i.val) 15#32) = if r.val = 511 ∧ i.val = 15 then 1#1 else 0#1 := by
    decide +kernel
  unfold bodyRun.sl.r_19
  pointwise [k0_pay23]
  exact h r (tile t)

/-- The gate half of the row before, cut off at the sequence's start, is the zero-padded one. -/
theorem before_eq (r : Fin 512) (n : Fin 8192) (h : n.val = 512 * (tile t).val + r.val) :
    before (pointPar m c t) (pointRow m c t) (bodyRun.sl.r_18 (grid0.coords t)) r
      = prevGate
      (A m c main_arg0) (A m c main_arg1) (A m c main_arg2) (A m c main_arg3) (A m c main_arg4) (A m c main_arg5) (A m
      c main_arg6) (A m c main_arg7) (A m c main_arg8) (A m c main_arg9) (A m c main_arg10) (A m c main_arg11) (A m c
      main_arg12) (A m c main_arg13) (batch t) n := by
  funext k
  unfold before prevGate
  rw [mask_first]
  by_cases h1 : 1 ≤ n.val
  · rw [if_pos h1, if_neg (by omega), pointPar_eq, pointRow_eq m c t _ ⟨n.val - 1, by omega⟩ (by simp only; omega)]
    rfl
  · rw [if_neg h1, if_pos (by omega)]
    rfl

/-- The gate half of the row after, cut off at the sequence's end, is the zero-padded one. -/
theorem after_eq (r : Fin 512) (n : Fin 8192) (h : n.val = 512 * (tile t).val + r.val) :
    after (pointPar m c t) (pointRow m c t) (bodyRun.sl.r_19 (grid0.coords t)) r
      = nextGate
      (A m c main_arg0) (A m c main_arg1) (A m c main_arg2) (A m c main_arg3) (A m c main_arg4) (A m c main_arg5) (A m
      c main_arg6) (A m c main_arg7) (A m c main_arg8) (A m c main_arg9) (A m c main_arg10) (A m c main_arg11) (A m c
      main_arg12) (A m c main_arg13) (batch t) n := by
  have hl := (tile t).isLt
  funext k
  unfold after nextGate
  rw [mask_last]
  by_cases h1 : n.val + 1 < 8192
  · rw [dif_pos h1, if_neg (by omega), pointPar_eq, pointRow_eq m c t _ ⟨n.val + 1, h1⟩ (by simp only; omega)]
    rfl
  · rw [dif_neg h1, if_pos (by omega)]
    rfl

/-- The reference's result of the call's arguments. -/
abbrev want : Buf (Elt Ideal) ((c.tc : Thread nD τ).loc main_v8) :=
  Cert.FfnRefIdeal.Read.val_main_v94 (F := Ideal)
      (A m c main_arg0) (A m c main_arg1) (A m c main_arg2) (A m c main_arg3) (A m c main_arg4) (A m c main_arg5) (A m
      c main_arg6) (A m c main_arg7) (A m c main_arg8) (A m c main_arg9) (A m c main_arg10) (A m c main_arg11) (A m c
      main_arg12) (A m c main_arg13)

/-- The result array is the reference's result. -/
theorem final : (dats m 0 c).arrAt 24 cfg0.N = want m c := by
  refine (dats m 0 c).arrAt_eq_of_covers 24 _ (by decide +kernel) fun t hf y => ?_
  blk_simp
  rw [after0_24]
  obtain ⟨u, r, d, rfl⟩ : ∃ (u : Fin 1) (r : Fin 512) (d : Fin 1024), y = ix3 u r d := ⟨y 0, y 1, y 2, by
    funext a; match a with | 0 => rfl | 1 => rfl | 2 => rfl⟩
  obtain rfl : u = 0 := Subsingleton.elim _ _
  have hl := (tile t).isLt
  have hn : 512 * (tile t).val + r.val < 8192 := by omega
  have he : (win0_24.blk t).view.emb (ix3 0 r d) = ix3 (batch t) ⟨512 * (tile t).val + r.val, hn⟩ d := by
    have hi := places t
    have ht : (tile t).val = (grid0.coords t 1).val := rfl
    have hb : (batch t).val = (grid0.coords t 0).val := rfl
    blk_ext [hi, hb, ht]
  rw [outBlock_eq, before_eq m c t r ⟨_, hn⟩ rfl, after_eq m c t r ⟨_, hn⟩ rfl,
    pointRow_eq m c t _ ⟨512 * (tile t).val + r.val, hn⟩ (by simp only; omega), pointPar_eq]
  refine (ref_result .. ).symm.trans (congrArg (want m c) he.symm)

/-- The call's run: the result array is the reference's result, the arguments end unchanged. -/
theorem run_want : θ_run defs (onTc (τ := τ) (main (F := Ideal))) ⟨m, fun _ => 0, ρ⟩ fun r => ∀ c : Dev nD,
      r.2.mem ((c.tc : Thread nD τ).loc main_v8) = want m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  (θ_run defs _ _).mono (fun _ h c => ⟨(h.1 c).trans (final m c), h.2 c⟩) (run_blocks m ρ)

/-- The call agrees with the reference. -/
theorem agree : Cert.algebraic_FfnIdeal_FfnRefIdeal := by
  pair_intro
  · run_from run_want m g
  · run_from Cert.FfnRefIdeal.Value.run m' g'
    obtain ⟨h0, h1, h2, h3, h4, h5, h6, h7, h8, h9, h10, h11, h12, h13⟩ := hagree c
    unfold A
    rw [← h0, ← h1, ← h2, ← h3, ← h4, ← h5, ← h6, ← h7, ← h8, ← h9, ← h10, ← h11, ← h12, ← h13]
    exact Cert.FfnRefIdeal.Read.val_main_v94_eq (StableHlo.launchContents m' c)

end Cert.Proof.Ffn

end
-- ==== Proof.RefFrames.lean ====
/- The frames of the three references: each runs to its end with its arguments unchanged, by its generated run; the counters
   are zero because no program declares a semaphore. -/
module

public import proofs.«01_k».proof.Defs
public import proofs.«01_k».proof.Proof.Gen.ReferenceIdeal
public import proofs.«01_k».proof.Proof.Gen.ReferenceIdeal.Run
public import proofs.«01_k».proof.Proof.Gen.FfnRefIdeal
public import proofs.«01_k».proof.Proof.Gen.FfnRefIdeal.Run
public import proofs.«01_k».proof.Proof.Gen.ProjRefIdeal
public import proofs.«01_k».proof.Proof.Gen.ProjRefIdeal.Run

@[expose] public section

noncomputable section

namespace Cert.Proof

open Idealize.ShloMosaic Idealize.ShloMosaic.TcCoe Idealize.SL.Sem

/-- The reference of the linear-attention call ends with its arguments unchanged. -/
theorem frame_gla_reference : Cert.quiescent_ReferenceIdeal := fun m ρ _ =>
  (θ_run Cert.ReferenceIdeal.defs _ _).mono
    (fun r h => ⟨fun c => (h c).2.2.2.2, sem_eq_zero_of_no_sems (by decide) r.2⟩)
    (Cert.ReferenceIdeal.Value.run (F := Ideal) m ρ)

/-- The reference of the output projection and feed-forward call ends with its arguments unchanged. -/
theorem frame_ffn_reference : Cert.quiescent_FfnRefIdeal := fun m ρ _ =>
  (θ_run Cert.FfnRefIdeal.defs _ _).mono
    (fun r h => ⟨fun c => (h c).2, sem_eq_zero_of_no_sems (by decide) r.2⟩)
    (Cert.FfnRefIdeal.Value.run (F := Ideal) m ρ)

/-- The reference of the input projection ends with its arguments unchanged. -/
theorem frame_proj_reference : Cert.quiescent_ProjRefIdeal := fun m ρ _ =>
  (θ_run Cert.ProjRefIdeal.defs _ _).mono
    (fun r h => ⟨fun c => (h c).2.2.2.2.2.2, sem_eq_zero_of_no_sems (by decide) r.2⟩)
    (Cert.ProjRefIdeal.Value.run (F := Ideal) m ρ)

end Cert.Proof

end
-- ==== Proof.ProjCall.Bits.lean ====
/- The frame of the printed input projection at the bit-exact floats. The kernel and its idealization print the same text, so their
   `main` and their function tables are the same terms and the idealization's run, which holds for any float instance, is
   this one's run too. -/
module

public import proofs.«01_k».proof.Defs
public import proofs.«01_k».proof.Proof.Gen.Proj
public import proofs.«01_k».proof.Proof.Gen.ProjIdeal.Frame

@[expose] public section

noncomputable section

namespace Cert.Proof.Proj

open Idealize.ShloMosaic Idealize.ShloMosaic.TcCoe Idealize.SL.Sem

set_option maxHeartbeats 6000000 in
/-- The two programs' tables of kernel bodies agree. -/
theorem bodies_eq : Cert.Proj.defs₀ (F := Bits) = Cert.ProjIdeal.defs₀ (F := Bits) := by
  refine congrArg Defs.onTc ?_
  funext l a
  match l, a with
  | 0, (t, s) => rfl

set_option maxHeartbeats 6000000 in
/-- So do their tables of functions. -/
theorem defs_eq : Cert.Proj.defs (F := Bits) = Cert.ProjIdeal.defs (F := Bits) :=
  congrArg (Pipeline.defs Cert.ProjIdeal.pcfgs) bodies_eq

set_option maxHeartbeats 6000000 in
/-- The printed kernel ends, with every semaphore at zero and its arguments unchanged. -/
theorem frame_bits : Cert.quiescent_Proj := fun m ρ _ => by
  rw [defs_eq]
  exact Cert.ProjIdeal.Gen.frame (F := Bits) m ρ

end Cert.Proof.Proj

end
-- ==== Proof.ProjValue.Block.lean ====
/- The input projection's block: each of its six outputs, at a row of the block, is the product of the row, normalised and
   modulated, with the columns of the weight that the output takes. -/
module

public import proofs.«01_k».proof.Proof.FfnValue.Spec
public import proofs.«01_k».proof.Proof.Gen.ProjIdeal.Value

@[expose] public section

set_option maxRecDepth 65536
set_option maxHeartbeats 1000000

noncomputable section

namespace Cert.Proof.Proj

open Idealize.ShloMosaic Idealize.ShloMosaic.TcCoe Cert.ProjIdeal Cert.ProjIdeal.Gen
open Cert.Proof.Ffn (rmsInv)

/-- A row, normalised and modulated. -/
def hid (x g sh sc : Fin 1024 → EReal) (d : Fin 1024) : EReal :=
  x d * rmsInv 1149239296#32 (∑ k, x k * x k) * g d * (1 + sc d) + sh d

/-- A row's product with one column of the weight. -/
def col (x g sh sc w : Fin 1024 → EReal) : EReal := ∑ k, hid x g sh sc k * w k

/-- The gated linear unit of two products. -/
def glu (a b : EReal) : EReal := a * Ideal.div 1 (1 + Ideal.exp (-b))

/-- The kernel's spelling of it. -/
theorem glu_sub (a b : EReal) : a * Ideal.div 1 (1 + Ideal.exp (0 - b)) = glu a b := by
  rw [zero_sub]; rfl

section

variable (x0 : Vec Ideal S1x1024x1024 .f32) (x1 : Vec Ideal S1x1x6144 .f32) (x2 : Vec Ideal S1x1024 .f32)
  (x3 : Vec Ideal S1024x2592 .f32)

/-- Row `r` of a block, normalised and modulated. -/
def blockHid (r d : Fin 1024) : EReal :=
  hid (fun d => x0 (ix3 0 r d)) (fun d => x2 (ix2 0 d)) (fun d => x1 (ix3 0 0 ⟨d.val, by omega⟩))
    (fun d => x1 (ix3 0 0 ⟨1024 + d.val, by omega⟩)) d

/-- Row `r` of a block against column `c` of the weight. -/
def blockCol (r : Fin 1024) (c : Fin 2592) : EReal :=
  col (fun d => x0 (ix3 0 r d)) (fun d => x2 (ix2 0 d)) (fun d => x1 (ix3 0 0 ⟨d.val, by omega⟩))
    (fun d => x1 (ix3 0 0 ⟨1024 + d.val, by omega⟩)) (fun k => x3 (ix2 k c))

theorem hid0 (r : Fin 256) (d : Fin 1024) :
    k0_pay50 x0 x1 x2 x3 (ix2 r d) = blockHid x0 x1 x2 ⟨r.val, by omega⟩ d := by
  simp only [k0_pay50, k0_pay48, k0_pay49, View.ld_unit]
  pointwise [k0_pay8, k0_pay5, k0_pay6, k0_pay7]
  rfl

theorem hid1 (r : Fin 256) (d : Fin 1024) :
    k0_pay51 x0 x1 x2 x3 (ix2 r d) = blockHid x0 x1 x2 ⟨256 + r.val, by omega⟩ d := by
  simp only [k0_pay51, k0_pay48, k0_pay49, View.ld_unit]
  pointwise [k0_pay9, k0_pay10, k0_pay5, k0_pay6, k0_pay7]
  rfl

theorem hid2 (r : Fin 256) (d : Fin 1024) :
    k0_pay52 x0 x1 x2 x3 (ix2 r d) = blockHid x0 x1 x2 ⟨512 + r.val, by omega⟩ d := by
  simp only [k0_pay52, k0_pay48, k0_pay49, View.ld_unit]
  pointwise [k0_pay11, k0_pay5, k0_pay6, k0_pay7]
  rfl

theorem hid3 (r : Fin 256) (d : Fin 1024) :
    k0_pay53 x0 x1 x2 x3 (ix2 r d) = blockHid x0 x1 x2 ⟨768 + r.val, by omega⟩ d := by
  simp only [k0_pay53, k0_pay48, k0_pay49, View.ld_unit]
  pointwise [k0_pay12, k0_pay13, k0_pay14, k0_pay5, k0_pay6, k0_pay7]
  rfl

/-- The block of the queries. -/
theorem out5_eq (r : Fin 1024) (j : Fin 256) :
    out0_5 x0 x1 x2 x3 (ix3 0 r j) = blockCol x0 x1 x2 x3 r ⟨1024 + j.val, by omega⟩ := by
  unfold out0_5
  refine View.canon_apply_of_pieces (Val := Elt Ideal) (e := .bf16) (S := S1x1024x256) (fun y => blockCol x0 x1 x2 x3 (y 1) ⟨1024 + (y 2).val, Nat.lt_of_lt_of_le (Nat.add_lt_add_left (y 2).isLt _) (by decide)⟩) _ ?_ _
    (cover0_5 _ _ _ _ _)
  simp only [List.forall_mem_cons, List.not_mem_nil, false_imp_iff, implies_true, and_true]
  refine ⟨?_, ?_, ?_, ?_⟩
  all_goals
    intro z
    obtain ⟨u, r, d, rfl⟩ : ∃ (u : Fin 1) (r : Fin 256) (d : Fin 256), z = ix3 u r d := ⟨z 0, z 1, z 2, by
      funext a; match a with | 0 => rfl | 1 => rfl | 2 => rfl⟩
    obtain rfl : u = 0 := Subsingleton.elim _ _
    simp only [k0_pay56, View.ld_unit]
    pointwise [k0_pay46, k0_pay40, k0_pay34, k0_pay27, k0_pay23, k0_pay17]
    simp only [hid0, hid1, hid2, hid3]
    refine Eq.trans (b := blockCol x0 x1 x2 x3 ⟨_, _⟩ ⟨_, _⟩) rfl ?_
    congr 1 <;> refine Fin.ext ?_ <;> simp

/-- The block of the keys. -/
theorem out6_eq (r : Fin 1024) (j : Fin 256) :
    out0_6 x0 x1 x2 x3 (ix3 0 r j) = blockCol x0 x1 x2 x3 r ⟨1280 + j.val, by omega⟩ := by
  unfold out0_6
  refine View.canon_apply_of_pieces (Val := Elt Ideal) (e := .bf16) (S := S1x1024x256) (fun y => blockCol x0 x1 x2 x3 (y 1) ⟨1280 + (y 2).val, Nat.lt_of_lt_of_le (Nat.add_lt_add_left (y 2).isLt _) (by decide)⟩) _ ?_ _
    (cover0_6 _ _ _ _ _)
  simp only [List.forall_mem_cons, List.not_mem_nil, false_imp_iff, implies_true, and_true]
  refine ⟨?_, ?_, ?_, ?_⟩
  all_goals
    intro z
    obtain ⟨u, r, d, rfl⟩ : ∃ (u : Fin 1) (r : Fin 256) (d : Fin 256), z = ix3 u r d := ⟨z 0, z 1, z 2, by
      funext a; match a with | 0 => rfl | 1 => rfl | 2 => rfl⟩
    obtain rfl : u = 0 := Subsingleton.elim _ _
    simp only [k0_pay58, View.ld_unit]
    pointwise [k0_pay2, k0_pay42, k0_pay36, k0_pay29, k0_pay19]
    simp only [hid0, hid1, hid2, hid3]
    refine Eq.trans (b := blockCol x0 x1 x2 x3 ⟨_, _⟩ ⟨_, _⟩) rfl ?_
    congr 1 <;> refine Fin.ext ?_ <;> simp

/-- The block of the values. -/
theorem out7_eq (r : Fin 1024) (j : Fin 512) :
    out0_7 x0 x1 x2 x3 (ix3 0 r j) = blockCol x0 x1 x2 x3 r ⟨1536 + j.val, by omega⟩ := by
  unfold out0_7
  refine View.canon_apply_of_pieces (Val := Elt Ideal) (e := .bf16) (S := S1x1024x512) (fun y => blockCol x0 x1 x2 x3 (y 1) ⟨1536 + (y 2).val, Nat.lt_of_lt_of_le (Nat.add_lt_add_left (y 2).isLt _) (by decide)⟩) _ ?_ _
    (cover0_7 _ _ _ _ _)
  simp only [List.forall_mem_cons, List.not_mem_nil, false_imp_iff, implies_true, and_true]
  refine ⟨?_, ?_, ?_, ?_⟩
  all_goals
    intro z
    obtain ⟨u, r, d, rfl⟩ : ∃ (u : Fin 1) (r : Fin 256) (d : Fin 512), z = ix3 u r d := ⟨z 0, z 1, z 2, by
      funext a; match a with | 0 => rfl | 1 => rfl | 2 => rfl⟩
    obtain rfl : u = 0 := Subsingleton.elim _ _
    simp only [k0_pay59, View.ld_unit]
    pointwise [k0_pay3, k0_pay43, k0_pay37, k0_pay30, k0_pay20]
    simp only [hid0, hid1, hid2, hid3]
    refine Eq.trans (b := blockCol x0 x1 x2 x3 ⟨_, _⟩ ⟨_, _⟩) rfl ?_
    congr 1 <;> refine Fin.ext ?_ <;> simp

/-- The block of the output gate. -/
theorem out8_eq (r : Fin 1024) (j : Fin 512) :
    out0_8 x0 x1 x2 x3 (ix3 0 r j) = blockCol x0 x1 x2 x3 r ⟨2048 + j.val, by omega⟩ := by
  unfold out0_8
  refine View.canon_apply_of_pieces (Val := Elt Ideal) (e := .f32) (S := S1x1024x512) (fun y => blockCol x0 x1 x2 x3 (y 1) ⟨2048 + (y 2).val, Nat.lt_of_lt_of_le (Nat.add_lt_add_left (y 2).isLt _) (by decide)⟩) _ ?_ _
    (cover0_8 _ _ _ _ _)
  simp only [List.forall_mem_cons, List.not_mem_nil, false_imp_iff, implies_true, and_true]
  refine ⟨?_, ?_, ?_, ?_⟩
  all_goals
    intro z
    obtain ⟨u, r, d, rfl⟩ : ∃ (u : Fin 1) (r : Fin 256) (d : Fin 512), z = ix3 u r d := ⟨z 0, z 1, z 2, by
      funext a; match a with | 0 => rfl | 1 => rfl | 2 => rfl⟩
    obtain rfl : u = 0 := Subsingleton.elim _ _
    simp only [k0_pay57, View.ld_unit]
    pointwise [k0_pay1, k0_pay47, k0_pay41, k0_pay35, k0_pay28, k0_pay18]
    simp only [hid0, hid1, hid2, hid3]
    refine Eq.trans (b := blockCol x0 x1 x2 x3 ⟨_, _⟩ ⟨_, _⟩) rfl ?_
    congr 1 <;> refine Fin.ext ?_ <;> simp

/-- The block of the decay gates. -/
theorem out9_eq (r : Fin 1024) (j : Fin 32) :
    out0_9 x0 x1 x2 x3 (ix3 0 r j) = blockCol x0 x1 x2 x3 r ⟨2560 + j.val, by omega⟩ := by
  unfold out0_9
  refine View.canon_apply_of_pieces (Val := Elt Ideal) (e := .bf16) (S := S1x1024x32) (fun y => blockCol x0 x1 x2 x3 (y 1) ⟨2560 + (y 2).val, Nat.lt_of_lt_of_le (Nat.add_lt_add_left (y 2).isLt _) (by decide)⟩) _ ?_ _
    (cover0_9 _ _ _ _ _)
  simp only [List.forall_mem_cons, List.not_mem_nil, false_imp_iff, implies_true, and_true]
  refine ⟨?_, ?_, ?_, ?_⟩
  all_goals
    intro z
    obtain ⟨u, r, d, rfl⟩ : ∃ (u : Fin 1) (r : Fin 256) (d : Fin 32), z = ix3 u r d := ⟨z 0, z 1, z 2, by
      funext a; match a with | 0 => rfl | 1 => rfl | 2 => rfl⟩
    obtain rfl : u = 0 := Subsingleton.elim _ _
    simp only [k0_pay60, View.ld_unit]
    pointwise [k0_pay4, k0_pay44, k0_pay38, k0_pay31, k0_pay21]
    simp only [hid0, hid1, hid2, hid3]
    refine Eq.trans (b := blockCol x0 x1 x2 x3 ⟨_, _⟩ ⟨_, _⟩) rfl ?_
    congr 1 <;> refine Fin.ext ?_ <;> simp

/-- The block of the gated linear unit. -/
theorem out4_eq (r : Fin 1024) (j : Fin 512) :
    out0_4 x0 x1 x2 x3 (ix3 0 r j) = glu (blockCol x0 x1 x2 x3 r ⟨j.val, by omega⟩) (blockCol x0 x1 x2 x3 r ⟨512 + j.val, by omega⟩) := by
  unfold out0_4
  refine View.canon_apply_of_pieces (Val := Elt Ideal) (e := .bf16) (S := S1x1024x512) (fun y => glu (blockCol x0 x1 x2 x3 (y 1) ⟨(y 2).val, Nat.lt_of_lt_of_le (y 2).isLt (by decide)⟩) (blockCol x0 x1 x2 x3 (y 1) ⟨512 + (y 2).val, Nat.lt_of_lt_of_le (Nat.add_lt_add_left (y 2).isLt _) (by decide)⟩)) _ ?_ _
    (cover0_4 _ _ _ _ _)
  simp only [List.forall_mem_cons, List.not_mem_nil, false_imp_iff, implies_true, and_true]
  refine ⟨?_, ?_, ?_, ?_⟩
  all_goals
    intro z
    obtain ⟨u, r, d, rfl⟩ : ∃ (u : Fin 1) (r : Fin 256) (d : Fin 512), z = ix3 u r d := ⟨z 0, z 1, z 2, by
      funext a; match a with | 0 => rfl | 1 => rfl | 2 => rfl⟩
    obtain rfl : u = 0 := Subsingleton.elim _ _
    simp only [k0_pay54, k0_pay55, View.ld_unit]
    pointwise [k0_pay45, k0_pay39, k0_pay33, k0_pay32, k0_pay26, k0_pay22, k0_pay24, k0_pay25, k0_pay15, k0_pay16]
    simp only [hid0, hid1, hid2, hid3, glu_sub]
    refine Eq.trans (b := glu (blockCol x0 x1 x2 x3 ⟨_, _⟩ ⟨_, _⟩) (blockCol x0 x1 x2 x3 ⟨_, _⟩ ⟨_, _⟩)) rfl ?_
    congr 2 <;> refine Fin.ext ?_ <;> simp

end

end Cert.Proof.Proj

end
-- ==== Proof.ProjValue.Ref.lean ====
/- The reference of the input projection, read at an index: row `n` of batch entry `b`, normalised and modulated, against the
   columns of the weight that each result takes. -/
module

public import proofs.«01_k».proof.Proof.ProjValue.Block
public import proofs.«01_k».proof.Proof.Gen.ProjRefIdeal.Read
public import Idealize.ShloMosaic.Lib.KernelVsHost

@[expose] public section

set_option maxRecDepth 65536
set_option maxHeartbeats 1000000

noncomputable section

namespace Cert.Proof.Proj

open Idealize.ShloMosaic Idealize.ShloMosaic.TcCoe Cert.ProjRefIdeal Cert.ProjRefIdeal.Read

variable (x0 : FVec Ideal S4x8192x1024 .f32) (x1 : FVec Ideal S4x1x6144 .f32) (x2 : FVec Ideal S1024 .f32)
  (x3 : FVec Ideal S1024x2592 .f32)

/-- Row `n` of batch entry `b` against column `c` of the weight. -/
def refCol (b : Fin 4) (n : Fin 8192) (c : Fin 2592) : EReal :=
  col (fun d => x0 (ix3 b n d)) (fun d => x2 (ix1 d)) (fun d => x1 (ix3 b 0 ⟨d.val, by omega⟩))
    (fun d => x1 (ix3 b 0 ⟨1024 + d.val, by omega⟩)) (fun k => x3 (ix2 k c))

/-- The whole product. -/
theorem ref_product (b : Fin 4) (n : Fin 8192) (c : Fin 2592) :
    val_main_v25 (F := Ideal) x0 x1 x2 x3 (ix3 b n c) = refCol x0 x1 x2 x3 b n c := by
  pointwise [val_main_v25, val_main_v24, val_main_v23, val_main_v22, val_main_v21, val_main_v20, val_main_v19, val_main_v18,
    val_main_v17, val_main_v16, val_main_v15, val_main_v14, val_main_v13, val_main_v12, val_main_v11, val_main_v10,
    val_main_v9, val_main_v8, val_main_v7, val_main_v6, val_main_v0, val_main_v1, val_main_cst, val_main_cst_0,
    val_main_cst_1, val_main_cst_2]
  rfl

/-- The gated linear unit. -/
theorem ref_glu (b : Fin 4) (n : Fin 8192) (j : Fin 512) :
    val_main_v40 (F := Ideal) x0 x1 x2 x3 (ix3 b n j)
      = glu (refCol x0 x1 x2 x3 b n ⟨j.val, by omega⟩) (refCol x0 x1 x2 x3 b n ⟨512 + j.val, by omega⟩) := by
  pointwise [val_main_v40, val_main_v39, val_main_v38, val_main_v37, val_main_v36, val_main_v35, val_main_v34,
    val_main_v33, val_main_v27, val_main_v26, val_main_cst_3, val_main_cst_4]
  simp only [ref_product]
  rfl

/-- The queries. -/
theorem ref_q (b : Fin 4) (n : Fin 8192) (j : Fin 256) :
    val_main_v41 (F := Ideal) x0 x1 x2 x3 (ix3 b n j) = refCol x0 x1 x2 x3 b n ⟨1024 + j.val, by omega⟩ := by
  pointwise [val_main_v41, val_main_v28]
  simp only [ref_product]

/-- The keys. -/
theorem ref_k (b : Fin 4) (n : Fin 8192) (j : Fin 256) :
    val_main_v42 (F := Ideal) x0 x1 x2 x3 (ix3 b n j) = refCol x0 x1 x2 x3 b n ⟨1280 + j.val, by omega⟩ := by
  pointwise [val_main_v42, val_main_v29]
  simp only [ref_product]

/-- The values. -/
theorem ref_v (b : Fin 4) (n : Fin 8192) (j : Fin 512) :
    val_main_v43 (F := Ideal) x0 x1 x2 x3 (ix3 b n j) = refCol x0 x1 x2 x3 b n ⟨1536 + j.val, by omega⟩ := by
  pointwise [val_main_v43, val_main_v30]
  simp only [ref_product]

/-- The output gate. -/
theorem ref_og (b : Fin 4) (n : Fin 8192) (j : Fin 512) :
    val_main_v31 (F := Ideal) x0 x1 x2 x3 (ix3 b n j) = refCol x0 x1 x2 x3 b n ⟨2048 + j.val, by omega⟩ := by
  pointwise [val_main_v31]
  simp only [ref_product]

/-- The decay gates. -/
theorem ref_z (b : Fin 4) (n : Fin 8192) (j : Fin 32) :
    val_main_v44 (F := Ideal) x0 x1 x2 x3 (ix3 b n j) = refCol x0 x1 x2 x3 b n ⟨2560 + j.val, by omega⟩ := by
  pointwise [val_main_v44, val_main_v32]
  simp only [ref_product]

end Cert.Proof.Proj

end
-- ==== Proof.ProjValue.Final.lean ====
/- The input projection's six result arrays at the ideal floats: at every index each is the reference's, so the call and the
   reference agree. -/
module

public import proofs.«01_k».proof.Defs
public import proofs.«01_k».proof.Proof.ProjValue.Ref
public import proofs.«01_k».proof.Proof.Gen.ProjRefIdeal.Run
public import Idealize.ShloMosaic.Lib.Pipeline.ValueKit
public import Idealize.ShloMosaic.Lib.StableHlo.ReadAt

@[expose] public section

set_option maxRecDepth 65536
set_option maxHeartbeats 4000000

noncomputable section

namespace Cert.Proof.Proj

open Idealize.ShloMosaic Idealize.ShloMosaic.TcCoe Idealize.SL.Sem Cert.ProjIdeal Cert.ProjIdeal.Gen
open Cert.ProjRefIdeal.Read (val_main_v40 val_main_v41 val_main_v42 val_main_v43 val_main_v31 val_main_v44)

variable (m : (ℓ : Loc nD τ sig) → Buf (Elt Ideal) ℓ) (ρ : Dev nD → PrngReg) (c : Dev nD) (t : Fin cfg0.N)

/-- Where every window stands at a grid point. -/
theorem places : ∀ t : Fin grid0.N, win0_0.index t = ![(grid0.coords t 0).val, (grid0.coords t 1).val, 0]
    ∧ win0_1.index t = ![(grid0.coords t 0).val, 0, 0]
    ∧ win0_2.index t = ![0, 0]
    ∧ win0_3.index t = ![0, 0]
    ∧ win0_4.index t = ![(grid0.coords t 0).val, (grid0.coords t 1).val, 0]
    ∧ win0_5.index t = ![(grid0.coords t 0).val, (grid0.coords t 1).val, 0]
    ∧ win0_6.index t = ![(grid0.coords t 0).val, (grid0.coords t 1).val, 0]
    ∧ win0_7.index t = ![(grid0.coords t 0).val, (grid0.coords t 1).val, 0]
    ∧ win0_8.index t = ![(grid0.coords t 0).val, (grid0.coords t 1).val, 0]
    ∧ win0_9.index t = ![(grid0.coords t 0).val, (grid0.coords t 1).val, 0] := by
  decide +kernel

/-- The grid point's batch entry. -/
def batch : Fin 4 := ⟨(grid0.coords t 0).val, (grid0.coords t 0).isLt⟩

/-- The sequence's row that row `r` of the grid point's block is. -/
def rowAt (r : Fin 1024) : Fin 8192 := ⟨1024 * (grid0.coords t 1).val + r.val, by
  have h : (grid0.coords t 1).val < 8 := (grid0.coords t 1).isLt
  omega⟩

/-- An argument of the call. -/
abbrev A (b : Ref sig .tc) : Buf (Elt Ideal) ((c.tc : Thread nD τ).loc b) := m ((c.tc : Thread nD τ).loc b)

/-- What the call reads of the norm's weight, which the host lays out as a row. -/
theorem entry_v0 (j : Fin 1024) : V m c main_v0 (ix2 0 j) = A m c main_arg2 (ix1 j) := by
  unfold V
  after_reads_at

/-- A block's row against a column is the arguments' row against it. -/
theorem blockCol_eq (r : Fin 1024) (j : Fin 2592) :
    blockCol (iblk m c 0 t) (iblk m c 1 t) (iblk m c 2 t) (iblk m c 3 t) r j
      = refCol (A m c main_arg0) (A m c main_arg1) (A m c main_arg2) (A m c main_arg3) (batch t) (rowAt t r) j := by
  unfold blockCol refCol
  congr 1
  all_goals funext d
  case e_g =>
    refine (congrArg (V m c main_v0) (?_ : (win0_2.blk t).view.emb (ix2 0 d) = ix2 0 d)).trans (entry_v0 m c d)
    blk_ext [places t]
  all_goals blk_ext [iblk, V, places t, batch, rowAt]

/-- An index of a block of rows, by its row and its column. -/
theorem row_index {n : Nat} (y : Shape.Idx ⟨3, ![1, 1024, n]⟩) : ∃ (r : Fin 1024) (j : Fin n), y = ix3 0 r j :=
  ⟨y 1, y 2, by
    funext a
    match a with
    | 0 => exact Subsingleton.elim (α := Fin 1) _ _
    | 1 => rfl
    | 2 => rfl⟩

/-- The reference's gated linear unit. -/
abbrev want_glu : Buf (Elt Ideal) ((c.tc : Thread nD τ).loc main_v1_0) :=
  val_main_v40 (F := Ideal) (A m c main_arg0) (A m c main_arg1) (A m c main_arg2) (A m c main_arg3)

/-- The array of the gated linear unit is the reference's. -/
theorem final_glu : (dats m 0 c).arrAt 4 cfg0.N = want_glu m c := by
  refine (dats m 0 c).arrAt_eq_of_covers 4 _ (by decide +kernel) fun t hf y => ?_
  blk_simp
  rw [after0_4]
  obtain ⟨r, j, rfl⟩ := row_index y
  have he : (win0_4.blk t).view.emb (ix3 0 r j) = ix3 (batch t) (rowAt t r) j := by
    blk_ext [places t, batch, rowAt]
  simp only [out4_eq, blockCol_eq]
  exact (ref_glu ..).symm.trans (congrArg (want_glu m c) he.symm)

/-- The reference's queries. -/
abbrev want_q : Buf (Elt Ideal) ((c.tc : Thread nD τ).loc main_v1_1) :=
  val_main_v41 (F := Ideal) (A m c main_arg0) (A m c main_arg1) (A m c main_arg2) (A m c main_arg3)

/-- The array of the queries is the reference's. -/
theorem final_q : (dats m 0 c).arrAt 5 cfg0.N = want_q m c := by
  refine (dats m 0 c).arrAt_eq_of_covers 5 _ (by decide +kernel) fun t hf y => ?_
  blk_simp
  rw [after0_5]
  obtain ⟨r, j, rfl⟩ := row_index y
  have he : (win0_5.blk t).view.emb (ix3 0 r j) = ix3 (batch t) (rowAt t r) j := by
    blk_ext [places t, batch, rowAt]
  simp only [out5_eq, blockCol_eq]
  exact (ref_q ..).symm.trans (congrArg (want_q m c) he.symm)

/-- The reference's keys. -/
abbrev want_k : Buf (Elt Ideal) ((c.tc : Thread nD τ).loc main_v1_2) :=
  val_main_v42 (F := Ideal) (A m c main_arg0) (A m c main_arg1) (A m c main_arg2) (A m c main_arg3)

/-- The array of the keys is the reference's. -/
theorem final_k : (dats m 0 c).arrAt 6 cfg0.N = want_k m c := by
  refine (dats m 0 c).arrAt_eq_of_covers 6 _ (by decide +kernel) fun t hf y => ?_
  blk_simp
  rw [after0_6]
  obtain ⟨r, j, rfl⟩ := row_index y
  have he : (win0_6.blk t).view.emb (ix3 0 r j) = ix3 (batch t) (rowAt t r) j := by
    blk_ext [places t, batch, rowAt]
  simp only [out6_eq, blockCol_eq]
  exact (ref_k ..).symm.trans (congrArg (want_k m c) he.symm)

/-- The reference's values. -/
abbrev want_v : Buf (Elt Ideal) ((c.tc : Thread nD τ).loc main_v1_3) :=
  val_main_v43 (F := Ideal) (A m c main_arg0) (A m c main_arg1) (A m c main_arg2) (A m c main_arg3)

/-- The array of the values is the reference's. -/
theorem final_v : (dats m 0 c).arrAt 7 cfg0.N = want_v m c := by
  refine (dats m 0 c).arrAt_eq_of_covers 7 _ (by decide +kernel) fun t hf y => ?_
  blk_simp
  rw [after0_7]
  obtain ⟨r, j, rfl⟩ := row_index y
  have he : (win0_7.blk t).view.emb (ix3 0 r j) = ix3 (batch t) (rowAt t r) j := by
    blk_ext [places t, batch, rowAt]
  simp only [out7_eq, blockCol_eq]
  exact (ref_v ..).symm.trans (congrArg (want_v m c) he.symm)

/-- The reference's output gate. -/
abbrev want_og : Buf (Elt Ideal) ((c.tc : Thread nD τ).loc main_v1_4) :=
  val_main_v31 (F := Ideal) (A m c main_arg0) (A m c main_arg1) (A m c main_arg2) (A m c main_arg3)

/-- The array of the output gate is the reference's. -/
theorem final_og : (dats m 0 c).arrAt 8 cfg0.N = want_og m c := by
  refine (dats m 0 c).arrAt_eq_of_covers 8 _ (by decide +kernel) fun t hf y => ?_
  blk_simp
  rw [after0_8]
  obtain ⟨r, j, rfl⟩ := row_index y
  have he : (win0_8.blk t).view.emb (ix3 0 r j) = ix3 (batch t) (rowAt t r) j := by
    blk_ext [places t, batch, rowAt]
  simp only [out8_eq, blockCol_eq]
  exact (ref_og ..).symm.trans (congrArg (want_og m c) he.symm)

/-- The reference's decay gates. -/
abbrev want_z : Buf (Elt Ideal) ((c.tc : Thread nD τ).loc main_v1_5) :=
  val_main_v44 (F := Ideal) (A m c main_arg0) (A m c main_arg1) (A m c main_arg2) (A m c main_arg3)

/-- The array of the decay gates is the reference's. -/
theorem final_z : (dats m 0 c).arrAt 9 cfg0.N = want_z m c := by
  refine (dats m 0 c).arrAt_eq_of_covers 9 _ (by decide +kernel) fun t hf y => ?_
  blk_simp
  rw [after0_9]
  obtain ⟨r, j, rfl⟩ := row_index y
  have he : (win0_9.blk t).view.emb (ix3 0 r j) = ix3 (batch t) (rowAt t r) j := by
    blk_ext [places t, batch, rowAt]
  simp only [out9_eq, blockCol_eq]
  exact (ref_z ..).symm.trans (congrArg (want_z m c) he.symm)

/-- The call's run: its six results are the reference's, the arguments end unchanged. -/
theorem run_want : θ_run defs (onTc (τ := τ) (main (F := Ideal))) ⟨m, fun _ => 0, ρ⟩ fun r => ∀ c : Dev nD,
      r.2.mem ((c.tc : Thread nD τ).loc main_v1_0) = want_glu m c
      ∧ r.2.mem ((c.tc : Thread nD τ).loc main_v1_1) = want_q m c
      ∧ r.2.mem ((c.tc : Thread nD τ).loc main_v1_2) = want_k m c
      ∧ r.2.mem ((c.tc : Thread nD τ).loc main_v1_3) = want_v m c
      ∧ r.2.mem ((c.tc : Thread nD τ).loc main_v1_4) = want_og m c
      ∧ r.2.mem ((c.tc : Thread nD τ).loc main_v1_5) = want_z m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => by
    obtain ⟨h4, h5, h6, h7, h8, h9, hr⟩ := h c
    exact ⟨h4.trans (final_glu m c), h5.trans (final_q m c), h6.trans (final_k m c), h7.trans (final_v m c),
      h8.trans (final_og m c), h9.trans (final_z m c), hr⟩) (Cert.ProjIdeal.Value.run_blocks m ρ)

/-- The call agrees with the reference. -/
theorem agree : Cert.algebraic_ProjIdeal_ProjRefIdeal := by
  pair_intro
  · run_from run_want m g
  · run_from Cert.ProjRefIdeal.Value.run m' g'
    all_goals
      obtain ⟨h0, h1, h2, h3⟩ := hagree c
      unfold A
      rw [← h0, ← h1, ← h2, ← h3]
    exacts [Cert.ProjRefIdeal.Read.val_main_v40_eq ..,
      Cert.ProjRefIdeal.Read.val_main_v41_eq ..,
      Cert.ProjRefIdeal.Read.val_main_v42_eq ..,
      Cert.ProjRefIdeal.Read.val_main_v43_eq ..,
      Cert.ProjRefIdeal.Read.val_main_v31_eq ..,
      Cert.ProjRefIdeal.Read.val_main_v44_eq ..]

end Cert.Proof.Proj

end
-- ==== Proof.lean ====
/- The certificate's claim, put together from the modules beside it: the three kernels' frames (the attention's and the input
   projection's from their generated runs, the feed-forward's from `FfnCall/`), the references' frames, the idealizations,
   which rewrite nothing, and the values of the attention (`GlaValue/`), of the feed-forward call (`FfnValue/`) and of the
   input projection (`ProjValue/`). -/
module

public import proofs.«01_k».proof.Defs
public import proofs.«01_k».proof.Proof.Gen.Kernel
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Step
public import proofs.«01_k».proof.Proof.Gen.Ffn
public import proofs.«01_k».proof.Proof.Gen.FfnIdeal
public import proofs.«01_k».proof.Proof.Gen.FfnRefIdeal
public import proofs.«01_k».proof.Proof.GlaCall.Bits
public import proofs.«01_k».proof.Proof.GlaValue.Agree
public import proofs.«01_k».proof.Proof.FfnCall.Bits
public import proofs.«01_k».proof.Proof.FfnValue.Final
public import proofs.«01_k».proof.Proof.RefFrames
public import proofs.«01_k».proof.Proof.Gen.Proj
public import proofs.«01_k».proof.Proof.Gen.ProjIdeal
public import proofs.«01_k».proof.Proof.Gen.ProjRefIdeal
public import proofs.«01_k».proof.Proof.ProjCall.Bits
public import proofs.«01_k».proof.Proof.ProjValue.Final
public import Idealize.ShloMosaic.Adequacy
public import Idealize.ShloMosaic.Init

@[expose] public section

noncomputable section

namespace Cert.Proof

open Idealize.ShloMosaic Idealize.SL.Sem

/-- The linear-attention kernel's idealization ends with its arguments unchanged. -/
theorem frame_gla : Cert.quiescent_KernelIdeal := fun m ρ _ => Cert.KernelIdeal.Gen.frame (F := Ideal) m ρ

/-- The feed-forward kernel's idealization ends with its arguments unchanged. -/
theorem frame_ffn : Cert.quiescent_FfnIdeal := fun m ρ _ => Cert.FfnIdeal.Own.frame (F := Ideal) m ρ

/-- The input projection's idealization ends with its arguments unchanged. -/
theorem frame_proj : Cert.quiescent_ProjIdeal := fun m ρ _ => Cert.ProjIdeal.Gen.frame (F := Ideal) m ρ

/-- The certificate's claim. -/
theorem claim : Cert.Claim := ⟨Cert.Kernel.Gen.facts, Cert.KernelIdeal.Gen.facts, Cert.ReferenceIdeal.Gen.facts,
  Cert.Ffn.Gen.facts, Cert.FfnIdeal.Gen.facts, Cert.FfnRefIdeal.Gen.facts,
  Cert.Proj.Gen.facts, Cert.ProjIdeal.Gen.facts, Cert.ProjRefIdeal.Gen.facts,
  Gla.frame_bits, frame_gla, frame_gla_reference, Ffn.frame_bits, frame_ffn, frame_ffn_reference,
  Proj.frame_bits, frame_proj, frame_proj_reference, trivial, Gla.agree, trivial, Ffn.agree, trivial, Proj.agree⟩

end Cert.Proof

end
